-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v251)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v251) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v95) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)) (v4 : (c : Dev Cert.Kernel4Ideal.nD) → Buf (Elt Ideal) ((c.tc : Thread Cert.Kernel4Ideal.nD Cert.Kernel4Ideal.τ).loc Cert.Kernel4Ideal.main_v7_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_v7_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_v19) = v3 c
          ∧ r.2.mem ((c.tc : Thread Cert.Reference4Ideal.nD Cert.Reference4Ideal.τ).loc Cert.Reference4Ideal.main_v24) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_well_posed (hKernelIdeal := hKernelIdeal) (hReferenceIdeal := hReferenceIdeal) (hPre_well_posed := hPre_well_posed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_well_posed.lean ====
abbrev S2x8192x512 : Shape := ⟨3, ![2, 8192, 512]⟩
abbrev S32x64 : Shape := ⟨2, ![32, 64]⟩
abbrev S32x64x16 : Shape := ⟨3, ![32, 64, 16]⟩
abbrev S32x16x64 : Shape := ⟨3, ![32, 16, 64]⟩
abbrev S32 : Shape := ⟨1, ![32]⟩
abbrev S_ : Shape := ⟨0, ![]⟩

class Facts : Prop where
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S32x64 : S_.BroadcastsInDim S32x64 (![] : Fin 0 → Fin S32x64.rank)
  reducesTo_S32x64_S_d0_1 : S32x64.ReducesTo [0, 1] S_
  bcast_S_S32x64x16 : S_.BroadcastsInDim S32x64x16 (![] : Fin 0 → Fin S32x64x16.rank)
  reducesTo_S32x64x16_S_d0_1_2 : S32x64x16.ReducesTo [0, 1, 2] S_
  bcast_S_S32x16x64 : S_.BroadcastsInDim S32x16x64 (![] : Fin 0 → Fin S32x16x64.rank)
  reducesTo_S32x16x64_S_d0_1_2 : S32x16x64.ReducesTo [0, 1, 2] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v2 : FVec F S32x64 .f32) (main_v31 : IVec S_ 1) (main_v34 : IVec S32x16x64 1) : IVec S_ 1 :=
  let main_c_11 : IVec S_ 1 := constantI S_ 1 1#1
  let main_v35 : IVec S_ 1 := (fun x v => Host.reduce IntOp.andi x v reducesTo_S32x16x64_S_d0_1_2 h_S_) main_v34 main_c_11
  let main_v36 : IVec S_ 1 := andi main_v31 main_v35
  let main_v37 : FVec F S32 .f32 := Host.absf main_arg7
  let main_cst_12 : FVec F S_ .f32 := constant S_ .f32 0x7F800000#32
  let main_v38 : FVec F S32 .f32 := broadcastInDim S32 ![] bcast_S_S32 main_cst_12
  let main_v39 : IVec S32 1 := cmpf .olt main_v37 main_v38
  let main_c_13 : IVec S_ 1 := constantI S_ 1 1#1
  let main_v40 : IVec S_ 1 := (fun x v => Host.reduce IntOp.andi x v reducesTo_S32_S_d0 h_S_) main_v39 main_c_13
  let main_v41 : IVec S_ 1 := andi main_v36 main_v40
  let main_cst_14 : FVec F S_ .f32 := constant S_ .f32 0x00000000#32
  let main_v42 : FVec F S32x64 .f32 := broadcastInDim S32x64 ![] bcast_S_S32x64 main_cst_14
  let main_v43 : IVec S32x64 1 := cmpf .ogt main_v2 main_v42
  let main_c_15 : IVec S_ 1 := constantI S_ 1 1#1
  let main_v44 : IVec S_ 1 := (fun x v => Host.reduce IntOp.andi x v reducesTo_S32x64_S_d0_1 h_S_) main_v43 main_c_15
  let main_v45 : IVec S_ 1 := andi main_v41 main_v44
  main_v45

def fn_part1 {F : FTy → Type} [FloatOps F] (main_arg4 : FVec F S32x64x16 .f32) (main_arg5 : FVec F S32x16x64 .f32) (main_arg6 : FVec F S32x16x64 .f32) (main_arg7 : FVec F S32 .f32) (main_v2 : FVec F S32x64 .f32) (main_v16 : IVec S_ 1) (main_v17 : FVec F S32x64x16 .f32) : IVec S_ 1 :=
  let main_cst_4 : FVec F S_ .f32 := constant S_ .f32 0x7F800000#32
  let main_v18 : FVec F S32x64x16 .f32 := broadcastInDim S32x64x16 ![] bcast_S_S32x64x16 main_cst_4
  let main_v19 : IVec S32x64x16 1 := cmpf .olt main_v17 main_v18
  let main_c_5 : IVec S_ 1 := constantI S_ 1 1#1
  let main_v20 : IVec S_ 1 := (fun x v => Host.reduce IntOp.andi x v reducesTo_S32x64x16_S_d0_1_2 h_S_) main_v19 main_c_5
  let main_v21 : IVec S_ 1 := andi main_v16 main_v20
  let main_v22 : FVec F S32x64x16 .f32 := Host.absf main_arg4
  let main_cst_6 : FVec F S_ .f32 := constant S_ .f32 0x7F800000#32
  let main_v23 : FVec F S32x64x16 .f32 := broadcastInDim S32x64x16 ![] bcast_S_S32x64x16 main_cst_6
  let main_v24 : IVec S32x64x16 1 := cmpf .olt main_v22 main_v23
  let main_c_7 : IVec S_ 1 := constantI S_ 1 1#1
  let main_v25 : IVec S_ 1 := (fun x v => Host.reduce IntOp.andi x v reducesTo_S32x64x16_S_d0_1_2 h_S_) main_v24 main_c_7
  let main_v26 : IVec S_ 1 := andi main_v21 main_v25
  let main_v27 : FVec F S32x16x64 .f32 := Host.absf main_arg5
  let main_cst_8 : FVec F S_ .f32 := constant S_ .f32 0x7F800000#32
  let main_v28 : FVec F S32x16x64 .f32 := broadcastInDim S32x16x64 ![] bcast_S_S32x16x64 main_cst_8
  let main_v29 : IVec S32x16x64 1 := cmpf .olt main_v27 main_v28
  let main_c_9 : IVec S_ 1 := constantI S_ 1 1#1
  let main_v30 : IVec S_ 1 := (fun x v => Host.reduce IntOp.andi x v reducesTo_S32x16x64_S_d0_1_2 h_S_) main_v29 main_c_9
  let main_v31 : IVec S_ 1 := andi main_v26 main_v30
  let main_v32 : FVec F S32x16x64 .f32 := Host.absf main_arg6
  let main_cst_10 : FVec F S_ .f32 := constant S_ .f32 0x7F800000#32
  let main_v33 : FVec F S32x16x64 .f32 := broadcastInDim S32x16x64 ![] bcast_S_S32x16x64 main_cst_10
  let main_v34 : IVec S32x16x64 1 := cmpf .olt main_v32 main_v33
  fn_part2 (F := F) main_arg7 main_v2 main_v31 main_v34

def fn {F : FTy → Type} [FloatOps F] (main_arg0 : FVec F S2x8192x512 .f32) (main_arg1 : FVec F S32x64 .f32) (main_arg2 : FVec F S32x64 .f32) (main_arg3 : FVec F S32x64x16 .f32) (main_arg4 : FVec F S32x64x16 .f32) (main_arg5 : FVec F S32x16x64 .f32) (main_arg6 : FVec F S32x16x64 .f32) (main_arg7 : FVec F S32 .f32) : IVec S_ 1 :=
  let main_v0 : FVec F S32x64 .f32 := mulf main_arg1 main_arg1
  let main_v1 : FVec F S32x64 .f32 := mulf main_arg2 main_arg2
  let main_v2 : FVec F S32x64 .f32 := addf main_v0 main_v1
  let main_v3 : FVec F S2x8192x512 .f32 := Host.absf main_arg0
  let main_cst : FVec F S_ .f32 := constant S_ .f32 0x7F800000#32
  let main_v4 : FVec F S2x8192x512 .f32 := broadcastInDim S2x8192x512 ![] bcast_S_S2x8192x512 main_cst
  let main_v5 : IVec S2x8192x512 1 := cmpf .olt main_v3 main_v4
  let main_c : IVec S_ 1 := constantI S_ 1 1#1
  let main_v6 : IVec S_ 1 := (fun x v => Host.reduce IntOp.andi x v reducesTo_S2x8192x512_S_d0_1_2 h_S_) main_v5 main_c
  let main_v7 : FVec F S32x64 .f32 := Host.absf main_arg1
  let main_cst_0 : FVec F S_ .f32 := constant S_ .f32 0x7F800000#32
  let main_v8 : FVec F S32x64 .f32 := broadcastInDim S32x64 ![] bcast_S_S32x64 main_cst_0
  let main_v9 : IVec S32x64 1 := cmpf .olt main_v7 main_v8
  let main_c_1 : IVec S_ 1 := constantI S_ 1 1#1
  let main_v10 : IVec S_ 1 := (fun x v => Host.reduce IntOp.andi x v reducesTo_S32x64_S_d0_1 h_S_) main_v9 main_c_1
  let main_v11 : IVec S_ 1 := andi main_v6 main_v10
  let main_v12 : FVec F S32x64 .f32 := Host.absf main_arg2
  let main_cst_2 : FVec F S_ .f32 := constant S_ .f32 0x7F800000#32
  let main_v13 : FVec F S32x64 .f32 := broadcastInDim S32x64 ![] bcast_S_S32x64 main_cst_2
  let main_v14 : IVec S32x64 1 := cmpf .olt main_v12 main_v13
  let main_c_3 : IVec S_ 1 := constantI S_ 1 1#1
  let main_v15 : IVec S_ 1 := (fun x v => Host.reduce IntOp.andi x v reducesTo_S32x64_S_d0_1 h_S_) main_v14 main_c_3
  let main_v16 : IVec S_ 1 := andi main_v11 main_v15
  let main_v17 : FVec F S32x64x16 .f32 := Host.absf main_arg3
  fn_part1 (F := F) main_arg4 main_arg5 main_arg6 main_arg7 main_v2 main_v16 main_v17
-- ==== Kernel.lean ====
abbrev S2x8192x512 : Shape := ⟨3, ![2, 8192, 512]⟩
abbrev S32x64 : Shape := ⟨2, ![32, 64]⟩
abbrev S32x64x16 : Shape := ⟨3, ![32, 64, 16]⟩
abbrev S32x16x64 : Shape := ⟨3, ![32, 16, 64]⟩
abbrev S32 : Shape := ⟨1, ![32]⟩
abbrev S8 : Shape := ⟨1, ![8]⟩
abbrev S16384x4x128 : Shape := ⟨3, ![16384, 4, 128]⟩
abbrev S4x16384x128 : Shape := ⟨3, ![4, 16384, 128]⟩
abbrev S32x1 : Shape := ⟨2, ![32, 1]⟩
abbrev S_ : Shape := ⟨0, ![]⟩
abbrev S32x1x64 : Shape := ⟨3, ![32, 1, 64]⟩
abbrev S9 : Shape := ⟨1, ![9]⟩
abbrev S9x1x1 : Shape := ⟨3, ![9, 1, 1]⟩
abbrev S1x32x64 : Shape := ⟨3, ![1, 32, 64]⟩
abbrev S9x32x64 : Shape := ⟨3, ![9, 32, 64]⟩
abbrev S32x64x1 : Shape := ⟨3, ![32, 64, 1]⟩
abbrev S1x1x9 : Shape := ⟨3, ![1, 1, 9]⟩
abbrev S32x64x9 : Shape := ⟨3, ![32, 64, 9]⟩
abbrev S9x32x1x64 : Shape := ⟨4, ![9, 32, 1, 64]⟩
abbrev S1x32x16x64 : Shape := ⟨4, ![1, 32, 16, 64]⟩
abbrev S9x32x16x64 : Shape := ⟨4, ![9, 32, 16, 64]⟩
abbrev S8x32x16x64 : Shape := ⟨4, ![8, 32, 16, 64]⟩
abbrev S32x16x8x16 : Shape := ⟨4, ![32, 16, 8, 16]⟩
abbrev S512x128 : Shape := ⟨2, ![512, 128]⟩
abbrev S512x144 : Shape := ⟨2, ![512, 144]⟩
abbrev S512x160 : Shape := ⟨2, ![512, 160]⟩
abbrev S512x176 : Shape := ⟨2, ![512, 176]⟩
abbrev S512x192 : Shape := ⟨2, ![512, 192]⟩
abbrev S512x208 : Shape := ⟨2, ![512, 208]⟩
abbrev S512x224 : Shape := ⟨2, ![512, 224]⟩
abbrev S512x240 : Shape := ⟨2, ![512, 240]⟩
abbrev S1x512x128 : Shape := ⟨3, ![1, 512, 128]⟩
abbrev S8x512x128 : Shape := ⟨3, ![8, 512, 128]⟩
abbrev S8x4x128x128 : Shape := ⟨4, ![8, 4, 128, 128]⟩
abbrev S4x8x128x128 : Shape := ⟨4, ![4, 8, 128, 128]⟩
abbrev S4x1024x128 : Shape := ⟨3, ![4, 1024, 128]⟩
abbrev S8x1 : Shape := ⟨2, ![8, 1]⟩
abbrev S8x32x16x128 : Shape := ⟨4, ![8, 32, 16, 128]⟩
abbrev S8x4x8x16x128 : Shape := ⟨5, ![8, 4, 8, 16, 128]⟩
abbrev S4x8x8x16x128 : Shape := ⟨5, ![4, 8, 8, 16, 128]⟩
abbrev S32x64x1x16 : Shape := ⟨4, ![32, 64, 1, 16]⟩
abbrev S32x64x8 : Shape := ⟨3, ![32, 64, 8]⟩
abbrev S32x64x8x1 : Shape := ⟨4, ![32, 64, 8, 1]⟩
abbrev S32x64x8x16 : Shape := ⟨4, ![32, 64, 8, 16]⟩
abbrev S4x512x128 : Shape := ⟨3, ![4, 512, 128]⟩
abbrev S4x1024x8x1x16 : Shape := ⟨5, ![4, 1024, 8, 1, 16]⟩
abbrev S4x1024x8x8x16 : Shape := ⟨5, ![4, 1024, 8, 8, 16]⟩
abbrev S4x1024x1024 : Shape := ⟨3, ![4, 1024, 1024]⟩
abbrev S1024x1024 : Shape := ⟨2, ![1024, 1024]⟩
abbrev S4x1024x2x1x64 : Shape := ⟨5, ![4, 1024, 2, 1, 64]⟩
abbrev S4x1024x2x8x64 : Shape := ⟨5, ![4, 1024, 2, 8, 64]⟩
abbrev S4x512 : Shape := ⟨2, ![4, 512]⟩
abbrev S4x1x512 : Shape := ⟨3, ![4, 1, 512]⟩
abbrev S4x2x512 : Shape := ⟨3, ![4, 2, 512]⟩
abbrev S1x4x1024x1024 : Shape := ⟨4, ![1, 4, 1024, 1024]⟩
abbrev S1x4x2x512 : Shape := ⟨4, ![1, 4, 2, 512]⟩
abbrev S1x4096x128 : Shape := ⟨3, ![1, 4096, 128]⟩
abbrev S1x1x1024x1024 : Shape := ⟨4, ![1, 1, 1024, 1024]⟩
abbrev S1x1x2x512 : Shape := ⟨4, ![1, 1, 2, 512]⟩
abbrev S512x1024 : Shape := ⟨2, ![512, 1024]⟩
abbrev S8x1024 : Shape := ⟨2, ![8, 1024]⟩
abbrev S1x1x1x512 : Shape := ⟨4, ![1, 1, 1, 512]⟩
abbrev S1x512 : Shape := ⟨2, ![1, 512]⟩
abbrev S512x512 : Shape := ⟨2, ![512, 512]⟩
abbrev S1x1x512x512 : Shape := ⟨4, ![1, 1, 512, 512]⟩
abbrev S1x1x1024x512 : Shape := ⟨4, ![1, 1, 1024, 512]⟩
abbrev S1024x512 : Shape := ⟨2, ![1024, 512]⟩

abbrev nBuf : Space → Nat
  | .hbm => 516
  | .vmem => 15
  | .smem => 0
  | _ => 0

abbrev hbmTy0_0 (i : Nat) : BufTy := match i % 128 with
  | 0 => ⟨S2x8192x512, .f32⟩
  | 1 => ⟨S32x64, .f32⟩
  | 2 => ⟨S32x64, .f32⟩
  | 3 => ⟨S32x64x16, .f32⟩
  | 4 => ⟨S32x64x16, .f32⟩
  | 5 => ⟨S32x16x64, .f32⟩
  | 6 => ⟨S32x16x64, .f32⟩
  | 7 => ⟨S32, .f32⟩
  | 8 => ⟨S8, .i32⟩
  | 9 => ⟨S8, .i1⟩
  | 10 => ⟨S8, .i1⟩
  | 11 => ⟨S16384x4x128, .f32⟩
  | 12 => ⟨S4x16384x128, .f32⟩
  | 13 => ⟨S32, .f32⟩
  | 14 => ⟨S32x1, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S_, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x16x64, .f32⟩
  | 41 => ⟨S32x16x64, .f32⟩
  | 42 => ⟨S32x1x64, .f32⟩
  | 43 => ⟨S32x16x64, .f32⟩
  | 44 => ⟨S32x16x64, .f32⟩
  | 45 => ⟨S32x1x64, .f32⟩
  | 46 => ⟨S32x16x64, .f32⟩
  | 47 => ⟨S32x16x64, .f32⟩
  | 48 => ⟨S32x16x64, .f32⟩
  | 49 => ⟨S32x1x64, .f32⟩
  | 50 => ⟨S32x16x64, .f32⟩
  | 51 => ⟨S32x16x64, .f32⟩
  | 52 => ⟨S32x1x64, .f32⟩
  | 53 => ⟨S32x16x64, .f32⟩
  | 54 => ⟨S32x16x64, .f32⟩
  | 55 => ⟨S32x16x64, .f32⟩
  | 56 => ⟨S32x64, .f32⟩
  | 57 => ⟨S32x64, .f32⟩
  | 58 => ⟨S32x64, .f32⟩
  | 59 => ⟨S32x64, .f32⟩
  | 60 => ⟨S9, .f32⟩
  | 61 => ⟨S9x1x1, .f32⟩
  | 62 => ⟨S1x32x64, .f32⟩
  | 63 => ⟨S9x32x64, .f32⟩
  | 64 => ⟨S9x32x64, .f32⟩
  | 65 => ⟨S9x32x64, .f32⟩
  | 66 => ⟨S9x32x64, .f32⟩
  | 67 => ⟨S9x1x1, .f32⟩
  | 68 => ⟨S1x32x64, .f32⟩
  | 69 => ⟨S9x32x64, .f32⟩
  | 70 => ⟨S9x32x64, .f32⟩
  | 71 => ⟨S9x32x64, .f32⟩
  | 72 => ⟨S9x32x64, .f32⟩
  | 73 => ⟨S9x32x64, .f32⟩
  | 74 => ⟨S9x1x1, .f32⟩
  | 75 => ⟨S1x32x64, .f32⟩
  | 76 => ⟨S9x32x64, .f32⟩
  | 77 => ⟨S9x32x64, .f32⟩
  | 78 => ⟨S9x32x64, .f32⟩
  | 79 => ⟨S9x32x64, .f32⟩
  | 80 => ⟨S9x1x1, .f32⟩
  | 81 => ⟨S1x32x64, .f32⟩
  | 82 => ⟨S9x32x64, .f32⟩
  | 83 => ⟨S9x32x64, .f32⟩
  | 84 => ⟨S9x32x64, .f32⟩
  | 85 => ⟨S9x32x64, .f32⟩
  | 86 => ⟨S9x32x64, .f32⟩
  | 87 => ⟨S32x64x1, .f32⟩
  | 88 => ⟨S1x1x9, .f32⟩
  | 89 => ⟨S32x64x9, .f32⟩
  | 90 => ⟨S32x64x9, .f32⟩
  | 91 => ⟨S32x64x9, .f32⟩
  | 92 => ⟨S32x64x9, .f32⟩
  | 93 => ⟨S32x64x1, .f32⟩
  | 94 => ⟨S1x1x9, .f32⟩
  | 95 => ⟨S32x64x9, .f32⟩
  | 96 => ⟨S32x64x9, .f32⟩
  | 97 => ⟨S32x64x9, .f32⟩
  | 98 => ⟨S32x64x9, .f32⟩
  | 99 => ⟨S32x64x9, .f32⟩
  | 100 => ⟨S32x64x1, .f32⟩
  | 101 => ⟨S1x1x9, .f32⟩
  | 102 => ⟨S32x64x9, .f32⟩
  | 103 => ⟨S32x64x9, .f32⟩
  | 104 => ⟨S32x64x9, .f32⟩
  | 105 => ⟨S32x64x9, .f32⟩
  | 106 => ⟨S32x64x1, .f32⟩
  | 107 => ⟨S1x1x9, .f32⟩
  | 108 => ⟨S32x64x9, .f32⟩
  | 109 => ⟨S32x64x9, .f32⟩
  | 110 => ⟨S32x64x9, .f32⟩
  | 111 => ⟨S32x64x9, .f32⟩
  | 112 => ⟨S32x64x9, .f32⟩
  | 113 => ⟨S9x32x1x64, .f32⟩
  | 114 => ⟨S1x32x16x64, .f32⟩
  | 115 => ⟨S9x32x16x64, .f32⟩
  | 116 => ⟨S9x32x16x64, .f32⟩
  | 117 => ⟨S9x32x16x64, .f32⟩
  | 118 => ⟨S9x32x1x64, .f32⟩
  | 119 => ⟨S1x32x16x64, .f32⟩
  | 120 => ⟨S9x32x16x64, .f32⟩
  | 121 => ⟨S9x32x16x64, .f32⟩
  | 122 => ⟨S9x32x16x64, .f32⟩
  | 123 => ⟨S9x32x16x64, .f32⟩
  | 124 => ⟨S9x32x1x64, .f32⟩
  | 125 => ⟨S1x32x16x64, .f32⟩
  | 126 => ⟨S9x32x16x64, .f32⟩
  | 127 => ⟨S9x32x16x64, .f32⟩
  | _ => ⟨S2x8192x512, .f32⟩

abbrev hbmTy0_1 (i : Nat) : BufTy := match i % 128 with
  | 0 => ⟨S9x32x16x64, .f32⟩
  | 1 => ⟨S9x32x1x64, .f32⟩
  | 2 => ⟨S1x32x16x64, .f32⟩
  | 3 => ⟨S9x32x16x64, .f32⟩
  | 4 => ⟨S9x32x16x64, .f32⟩
  | 5 => ⟨S9x32x16x64, .f32⟩
  | 6 => ⟨S9x32x16x64, .f32⟩
  | 7 => ⟨S8x32x16x64, .f32⟩
  | 8 => ⟨S32x16x8x16, .f32⟩
  | 9 => ⟨S32x16x8x16, .f32⟩
  | 10 => ⟨S8x32x16x64, .f32⟩
  | 11 => ⟨S32x16x8x16, .f32⟩
  | 12 => ⟨S32x16x8x16, .f32⟩
  | 13 => ⟨S32x16x8x16, .f32⟩
  | 14 => ⟨S32x16x8x16, .bf16⟩
  | 15 => ⟨S512x128, .bf16⟩
  | 16 => ⟨S_, .i32⟩
  | 17 => ⟨S_, .bf16⟩
  | 18 => ⟨S512x128, .bf16⟩
  | 19 => ⟨S_, .i32⟩
  | 20 => ⟨S_, .bf16⟩
  | 21 => ⟨S512x144, .bf16⟩
  | 22 => ⟨S512x128, .bf16⟩
  | 23 => ⟨S_, .i32⟩
  | 24 => ⟨S_, .bf16⟩
  | 25 => ⟨S512x160, .bf16⟩
  | 26 => ⟨S512x128, .bf16⟩
  | 27 => ⟨S_, .i32⟩
  | 28 => ⟨S_, .bf16⟩
  | 29 => ⟨S512x176, .bf16⟩
  | 30 => ⟨S512x128, .bf16⟩
  | 31 => ⟨S_, .i32⟩
  | 32 => ⟨S_, .bf16⟩
  | 33 => ⟨S512x192, .bf16⟩
  | 34 => ⟨S512x128, .bf16⟩
  | 35 => ⟨S_, .i32⟩
  | 36 => ⟨S_, .bf16⟩
  | 37 => ⟨S512x208, .bf16⟩
  | 38 => ⟨S512x128, .bf16⟩
  | 39 => ⟨S_, .i32⟩
  | 40 => ⟨S_, .bf16⟩
  | 41 => ⟨S512x224, .bf16⟩
  | 42 => ⟨S512x128, .bf16⟩
  | 43 => ⟨S_, .i32⟩
  | 44 => ⟨S_, .bf16⟩
  | 45 => ⟨S512x240, .bf16⟩
  | 46 => ⟨S512x128, .bf16⟩
  | 47 => ⟨S1x512x128, .bf16⟩
  | 48 => ⟨S1x512x128, .bf16⟩
  | 49 => ⟨S1x512x128, .bf16⟩
  | 50 => ⟨S1x512x128, .bf16⟩
  | 51 => ⟨S1x512x128, .bf16⟩
  | 52 => ⟨S1x512x128, .bf16⟩
  | 53 => ⟨S1x512x128, .bf16⟩
  | 54 => ⟨S1x512x128, .bf16⟩
  | 55 => ⟨S8x512x128, .bf16⟩
  | 56 => ⟨S8x4x128x128, .bf16⟩
  | 57 => ⟨S4x8x128x128, .bf16⟩
  | 58 => ⟨S4x1024x128, .bf16⟩
  | 59 => ⟨S_, .i32⟩
  | 60 => ⟨S8, .i32⟩
  | 61 => ⟨S8, .i32⟩
  | 62 => ⟨S8, .i32⟩
  | 63 => ⟨S8x1, .i32⟩
  | 64 => ⟨S8x32x16x64, .f32⟩
  | 65 => ⟨S_, .i32⟩
  | 66 => ⟨S8, .i32⟩
  | 67 => ⟨S8, .i32⟩
  | 68 => ⟨S8, .i32⟩
  | 69 => ⟨S8x1, .i32⟩
  | 70 => ⟨S8x32x16x64, .f32⟩
  | 71 => ⟨S8x32x16x128, .f32⟩
  | 72 => ⟨S8x32x16x128, .bf16⟩
  | 73 => ⟨S8x4x8x16x128, .bf16⟩
  | 74 => ⟨S4x8x8x16x128, .bf16⟩
  | 75 => ⟨S4x1024x128, .bf16⟩
  | 76 => ⟨S32x64x16, .f32⟩
  | 77 => ⟨S32x64x1x16, .f32⟩
  | 78 => ⟨S32x64x16, .f32⟩
  | 79 => ⟨S32x64x1x16, .f32⟩
  | 80 => ⟨S32x64x8, .f32⟩
  | 81 => ⟨S32x64x8x1, .f32⟩
  | 82 => ⟨S32x64x8, .f32⟩
  | 83 => ⟨S32x64x8x1, .f32⟩
  | 84 => ⟨S32x64x8x16, .f32⟩
  | 85 => ⟨S32x64x8x16, .f32⟩
  | 86 => ⟨S32x64x8x16, .f32⟩
  | 87 => ⟨S32x64x8x16, .f32⟩
  | 88 => ⟨S32x64x8x16, .f32⟩
  | 89 => ⟨S32x64x8x16, .f32⟩
  | 90 => ⟨S32x64x8x16, .f32⟩
  | 91 => ⟨S32x64x8x16, .bf16⟩
  | 92 => ⟨S4x512x128, .bf16⟩
  | 93 => ⟨S32x64x8x16, .f32⟩
  | 94 => ⟨S32x64x8x16, .f32⟩
  | 95 => ⟨S32x64x8x16, .f32⟩
  | 96 => ⟨S32x64x8x16, .f32⟩
  | 97 => ⟨S32x64x8x16, .f32⟩
  | 98 => ⟨S32x64x8x16, .f32⟩
  | 99 => ⟨S32x64x8x16, .f32⟩
  | 100 => ⟨S32x64x8x16, .f32⟩
  | 101 => ⟨S32x64x8x16, .bf16⟩
  | 102 => ⟨S4x512x128, .bf16⟩
  | 103 => ⟨S4x1024x128, .bf16⟩
  | 104 => ⟨S4x1024x8x1x16, .bf16⟩
  | 105 => ⟨S4x1024x8x8x16, .bf16⟩
  | 106 => ⟨S4x1024x1024, .bf16⟩
  | 107 => ⟨S1024x1024, .i32⟩
  | 108 => ⟨S_, .i32⟩
  | 109 => ⟨S_, .i32⟩
  | 110 => ⟨S1024x1024, .i32⟩
  | 111 => ⟨S1024x1024, .i32⟩
  | 112 => ⟨S1024x1024, .i32⟩
  | 113 => ⟨S_, .i32⟩
  | 114 => ⟨S1024x1024, .i32⟩
  | 115 => ⟨S1024x1024, .i1⟩
  | 116 => ⟨S1024x1024, .i32⟩
  | 117 => ⟨S1024x1024, .i32⟩
  | 118 => ⟨S_, .i32⟩
  | 119 => ⟨S1024x1024, .i32⟩
  | 120 => ⟨S1024x1024, .i1⟩
  | 121 => ⟨S1024x1024, .i1⟩
  | 122 => ⟨S_, .i32⟩
  | 123 => ⟨S1024x1024, .i32⟩
  | 124 => ⟨S1024x1024, .i32⟩
  | 125 => ⟨S1024x1024, .i32⟩
  | 126 => ⟨S_, .i32⟩
  | 127 => ⟨S_, .i32⟩
  | _ => ⟨S2x8192x512, .f32⟩

abbrev hbmTy0_2 (i : Nat) : BufTy := match i % 128 with
  | 0 => ⟨S_, .i32⟩
  | 1 => ⟨S_, .i1⟩
  | 2 => ⟨S_, .i32⟩
  | 3 => ⟨S_, .i32⟩
  | 4 => ⟨S1024x1024, .i32⟩
  | 5 => ⟨S1024x1024, .i32⟩
  | 6 => ⟨S_, .i32⟩
  | 7 => ⟨S1024x1024, .i32⟩
  | 8 => ⟨S1024x1024, .i1⟩
  | 9 => ⟨S_, .i32⟩
  | 10 => ⟨S1024x1024, .i32⟩
  | 11 => ⟨S1024x1024, .i1⟩
  | 12 => ⟨S_, .i32⟩
  | 13 => ⟨S_, .i1⟩
  | 14 => ⟨S1024x1024, .i1⟩
  | 15 => ⟨S1024x1024, .i1⟩
  | 16 => ⟨S1024x1024, .i1⟩
  | 17 => ⟨S1024x1024, .i32⟩
  | 18 => ⟨S1024x1024, .i32⟩
  | 19 => ⟨S1024x1024, .i32⟩
  | 20 => ⟨S1024x1024, .i32⟩
  | 21 => ⟨S_, .i32⟩
  | 22 => ⟨S_, .i32⟩
  | 23 => ⟨S1024x1024, .i32⟩
  | 24 => ⟨S1024x1024, .i32⟩
  | 25 => ⟨S1024x1024, .i32⟩
  | 26 => ⟨S_, .i32⟩
  | 27 => ⟨S1024x1024, .i32⟩
  | 28 => ⟨S1024x1024, .i1⟩
  | 29 => ⟨S1024x1024, .i32⟩
  | 30 => ⟨S1024x1024, .i32⟩
  | 31 => ⟨S_, .i32⟩
  | 32 => ⟨S1024x1024, .i32⟩
  | 33 => ⟨S1024x1024, .i1⟩
  | 34 => ⟨S1024x1024, .i1⟩
  | 35 => ⟨S_, .i32⟩
  | 36 => ⟨S1024x1024, .i32⟩
  | 37 => ⟨S1024x1024, .i32⟩
  | 38 => ⟨S1024x1024, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S1024x1024, .i32⟩
  | 46 => ⟨S1024x1024, .i32⟩
  | 47 => ⟨S_, .i32⟩
  | 48 => ⟨S1024x1024, .i32⟩
  | 49 => ⟨S1024x1024, .i1⟩
  | 50 => ⟨S_, .i32⟩
  | 51 => ⟨S1024x1024, .i32⟩
  | 52 => ⟨S1024x1024, .i1⟩
  | 53 => ⟨S_, .i32⟩
  | 54 => ⟨S_, .i1⟩
  | 55 => ⟨S1024x1024, .i1⟩
  | 56 => ⟨S1024x1024, .i1⟩
  | 57 => ⟨S1024x1024, .i1⟩
  | 58 => ⟨S1024x1024, .i32⟩
  | 59 => ⟨S1024x1024, .i32⟩
  | 60 => ⟨S1024x1024, .i32⟩
  | 61 => ⟨S1024x1024, .i1⟩
  | 62 => ⟨S_, .bf16⟩
  | 63 => ⟨S4x1024x1024, .bf16⟩
  | 64 => ⟨S4x1024x1024, .i1⟩
  | 65 => ⟨S4x1024x1024, .bf16⟩
  | 66 => ⟨S4x1024x2x1x64, .bf16⟩
  | 67 => ⟨S4x1024x2x8x64, .bf16⟩
  | 68 => ⟨S4x1024x1024, .bf16⟩
  | 69 => ⟨S1024x1024, .i32⟩
  | 70 => ⟨S_, .i32⟩
  | 71 => ⟨S_, .i32⟩
  | 72 => ⟨S1024x1024, .i32⟩
  | 73 => ⟨S1024x1024, .i32⟩
  | 74 => ⟨S1024x1024, .i32⟩
  | 75 => ⟨S_, .i32⟩
  | 76 => ⟨S1024x1024, .i32⟩
  | 77 => ⟨S1024x1024, .i1⟩
  | 78 => ⟨S1024x1024, .i32⟩
  | 79 => ⟨S1024x1024, .i32⟩
  | 80 => ⟨S_, .i32⟩
  | 81 => ⟨S1024x1024, .i32⟩
  | 82 => ⟨S1024x1024, .i1⟩
  | 83 => ⟨S1024x1024, .i1⟩
  | 84 => ⟨S_, .i32⟩
  | 85 => ⟨S1024x1024, .i32⟩
  | 86 => ⟨S1024x1024, .i32⟩
  | 87 => ⟨S1024x1024, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S1024x1024, .i32⟩
  | 95 => ⟨S1024x1024, .i32⟩
  | 96 => ⟨S_, .i32⟩
  | 97 => ⟨S1024x1024, .i32⟩
  | 98 => ⟨S1024x1024, .i1⟩
  | 99 => ⟨S_, .i32⟩
  | 100 => ⟨S1024x1024, .i32⟩
  | 101 => ⟨S1024x1024, .i1⟩
  | 102 => ⟨S_, .i32⟩
  | 103 => ⟨S_, .i1⟩
  | 104 => ⟨S1024x1024, .i1⟩
  | 105 => ⟨S1024x1024, .i1⟩
  | 106 => ⟨S1024x1024, .i1⟩
  | 107 => ⟨S1024x1024, .i32⟩
  | 108 => ⟨S1024x1024, .i32⟩
  | 109 => ⟨S1024x1024, .i32⟩
  | 110 => ⟨S1024x1024, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S1024x1024, .i32⟩
  | 118 => ⟨S1024x1024, .i32⟩
  | 119 => ⟨S_, .i32⟩
  | 120 => ⟨S1024x1024, .i32⟩
  | 121 => ⟨S1024x1024, .i1⟩
  | 122 => ⟨S_, .i32⟩
  | 123 => ⟨S1024x1024, .i32⟩
  | 124 => ⟨S1024x1024, .i1⟩
  | 125 => ⟨S_, .i32⟩
  | 126 => ⟨S_, .i1⟩
  | 127 => ⟨S1024x1024, .i1⟩
  | _ => ⟨S2x8192x512, .f32⟩

abbrev hbmTy0_3 (i : Nat) : BufTy := match i % 128 with
  | 0 => ⟨S1024x1024, .i1⟩
  | 1 => ⟨S1024x1024, .i1⟩
  | 2 => ⟨S1024x1024, .i32⟩
  | 3 => ⟨S1024x1024, .i32⟩
  | 4 => ⟨S1024x1024, .i32⟩
  | 5 => ⟨S_, .i32⟩
  | 6 => ⟨S_, .i32⟩
  | 7 => ⟨S1024x1024, .i32⟩
  | 8 => ⟨S1024x1024, .i32⟩
  | 9 => ⟨S1024x1024, .i32⟩
  | 10 => ⟨S_, .i32⟩
  | 11 => ⟨S1024x1024, .i32⟩
  | 12 => ⟨S1024x1024, .i1⟩
  | 13 => ⟨S1024x1024, .i32⟩
  | 14 => ⟨S1024x1024, .i32⟩
  | 15 => ⟨S_, .i32⟩
  | 16 => ⟨S1024x1024, .i32⟩
  | 17 => ⟨S1024x1024, .i1⟩
  | 18 => ⟨S1024x1024, .i1⟩
  | 19 => ⟨S_, .i32⟩
  | 20 => ⟨S1024x1024, .i32⟩
  | 21 => ⟨S1024x1024, .i32⟩
  | 22 => ⟨S1024x1024, .i32⟩
  | 23 => ⟨S1024x1024, .i1⟩
  | 24 => ⟨S_, .bf16⟩
  | 25 => ⟨S4x1024x1024, .bf16⟩
  | 26 => ⟨S4x1024x1024, .i1⟩
  | 27 => ⟨S4x1024x1024, .bf16⟩
  | 28 => ⟨S4x1024x8x1x16, .bf16⟩
  | 29 => ⟨S4x1024x8x8x16, .bf16⟩
  | 30 => ⟨S4x1024x1024, .bf16⟩
  | 31 => ⟨S1024x1024, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S1024x1024, .i32⟩
  | 39 => ⟨S1024x1024, .i32⟩
  | 40 => ⟨S_, .i32⟩
  | 41 => ⟨S1024x1024, .i32⟩
  | 42 => ⟨S1024x1024, .i1⟩
  | 43 => ⟨S_, .i32⟩
  | 44 => ⟨S1024x1024, .i32⟩
  | 45 => ⟨S1024x1024, .i1⟩
  | 46 => ⟨S_, .i32⟩
  | 47 => ⟨S_, .i1⟩
  | 48 => ⟨S1024x1024, .i1⟩
  | 49 => ⟨S1024x1024, .i1⟩
  | 50 => ⟨S1024x1024, .i1⟩
  | 51 => ⟨S1024x1024, .i32⟩
  | 52 => ⟨S1024x1024, .i32⟩
  | 53 => ⟨S1024x1024, .i32⟩
  | 54 => ⟨S_, .i32⟩
  | 55 => ⟨S_, .i32⟩
  | 56 => ⟨S1024x1024, .i32⟩
  | 57 => ⟨S1024x1024, .i32⟩
  | 58 => ⟨S1024x1024, .i32⟩
  | 59 => ⟨S_, .i32⟩
  | 60 => ⟨S1024x1024, .i32⟩
  | 61 => ⟨S1024x1024, .i1⟩
  | 62 => ⟨S1024x1024, .i32⟩
  | 63 => ⟨S1024x1024, .i32⟩
  | 64 => ⟨S_, .i32⟩
  | 65 => ⟨S1024x1024, .i32⟩
  | 66 => ⟨S1024x1024, .i1⟩
  | 67 => ⟨S1024x1024, .i1⟩
  | 68 => ⟨S_, .i32⟩
  | 69 => ⟨S1024x1024, .i32⟩
  | 70 => ⟨S1024x1024, .i32⟩
  | 71 => ⟨S1024x1024, .i32⟩
  | 72 => ⟨S1024x1024, .i32⟩
  | 73 => ⟨S_, .i32⟩
  | 74 => ⟨S_, .i32⟩
  | 75 => ⟨S1024x1024, .i32⟩
  | 76 => ⟨S1024x1024, .i32⟩
  | 77 => ⟨S1024x1024, .i32⟩
  | 78 => ⟨S_, .i32⟩
  | 79 => ⟨S1024x1024, .i32⟩
  | 80 => ⟨S1024x1024, .i1⟩
  | 81 => ⟨S1024x1024, .i32⟩
  | 82 => ⟨S1024x1024, .i32⟩
  | 83 => ⟨S_, .i32⟩
  | 84 => ⟨S1024x1024, .i32⟩
  | 85 => ⟨S1024x1024, .i1⟩
  | 86 => ⟨S1024x1024, .i1⟩
  | 87 => ⟨S_, .i32⟩
  | 88 => ⟨S1024x1024, .i32⟩
  | 89 => ⟨S1024x1024, .i32⟩
  | 90 => ⟨S1024x1024, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S1024x1024, .i32⟩
  | 98 => ⟨S1024x1024, .i32⟩
  | 99 => ⟨S_, .i32⟩
  | 100 => ⟨S1024x1024, .i32⟩
  | 101 => ⟨S1024x1024, .i1⟩
  | 102 => ⟨S_, .i32⟩
  | 103 => ⟨S1024x1024, .i32⟩
  | 104 => ⟨S1024x1024, .i1⟩
  | 105 => ⟨S_, .i32⟩
  | 106 => ⟨S_, .i1⟩
  | 107 => ⟨S1024x1024, .i1⟩
  | 108 => ⟨S1024x1024, .i1⟩
  | 109 => ⟨S1024x1024, .i1⟩
  | 110 => ⟨S1024x1024, .i32⟩
  | 111 => ⟨S1024x1024, .i32⟩
  | 112 => ⟨S1024x1024, .i32⟩
  | 113 => ⟨S1024x1024, .i1⟩
  | 114 => ⟨S_, .bf16⟩
  | 115 => ⟨S4x1024x1024, .bf16⟩
  | 116 => ⟨S4x1024x1024, .i1⟩
  | 117 => ⟨S4x1024x1024, .bf16⟩
  | 118 => ⟨S1x32x64, .f32⟩
  | 119 => ⟨S32x64, .f32⟩
  | 120 => ⟨S4x512, .f32⟩
  | 121 => ⟨S1x32x64, .f32⟩
  | 122 => ⟨S32x64, .f32⟩
  | 123 => ⟨S4x512, .f32⟩
  | 124 => ⟨S4x1x512, .f32⟩
  | 125 => ⟨S4x1x512, .f32⟩
  | 126 => ⟨S4x2x512, .f32⟩
  | 127 => ⟨S1x4x1024x1024, .bf16⟩
  | _ => ⟨S2x8192x512, .f32⟩

abbrev hbmTy0_4 (i : Nat) : BufTy := match i % 128 with
  | 0 => ⟨S1x4x1024x1024, .bf16⟩
  | 1 => ⟨S1x4x1024x1024, .bf16⟩
  | 2 => ⟨S1x4x2x512, .f32⟩
  | 3 => ⟨S4x16384x128, .f32⟩
  | _ => ⟨S2x8192x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x8192x512, .f32⟩

abbrev bufTy : (tb : Table) → Fin (tcTables nBuf tb) → BufTy
  | .hbm, ⟨i, _⟩ => hbmTy i
  | .local _ .vmem, ⟨0, _⟩ => ⟨S1x4096x128, .f32⟩
  | .local _ .vmem, ⟨1, _⟩ => ⟨S1x4096x128, .f32⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1x1x2x512, .f32⟩
  | .local _ .vmem, ⟨9, _⟩ => ⟨S1x1x2x512, .f32⟩
  | .local _ .vmem, ⟨10, _⟩ => ⟨S1x4096x128, .f32⟩
  | .local _ .vmem, ⟨11, _⟩ => ⟨S1x4096x128, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_c_2 : Ref sig .tc := ⟨.hbm, 144, rfl⟩
abbrev main_call0_v0 : Ref sig .tc := ⟨.hbm, 145, rfl⟩
abbrev main_v132 : Ref sig .tc := ⟨.hbm, 146, rfl⟩
abbrev main_c_3 : Ref sig .tc := ⟨.hbm, 147, rfl⟩
abbrev main_call1_v0 : Ref sig .tc := ⟨.hbm, 148, rfl⟩
abbrev main_v133 : Ref sig .tc := ⟨.hbm, 149, rfl⟩
abbrev main_v134 : Ref sig .tc := ⟨.hbm, 150, rfl⟩
abbrev main_c_4 : Ref sig .tc := ⟨.hbm, 151, rfl⟩
abbrev main_call2_v0 : Ref sig .tc := ⟨.hbm, 152, rfl⟩
abbrev main_v135 : Ref sig .tc := ⟨.hbm, 153, rfl⟩
abbrev main_v136 : Ref sig .tc := ⟨.hbm, 154, rfl⟩
abbrev main_c_5 : Ref sig .tc := ⟨.hbm, 155, rfl⟩
abbrev main_call3_v0 : Ref sig .tc := ⟨.hbm, 156, rfl⟩
abbrev main_v137 : Ref sig .tc := ⟨.hbm, 157, rfl⟩
abbrev main_v138 : Ref sig .tc := ⟨.hbm, 158, rfl⟩
abbrev main_c_6 : Ref sig .tc := ⟨.hbm, 159, rfl⟩
abbrev main_call4_v0 : Ref sig .tc := ⟨.hbm, 160, rfl⟩
abbrev main_v139 : Ref sig .tc := ⟨.hbm, 161, rfl⟩
abbrev main_v140 : Ref sig .tc := ⟨.hbm, 162, rfl⟩
abbrev main_c_7 : Ref sig .tc := ⟨.hbm, 163, rfl⟩
abbrev main_call5_v0 : Ref sig .tc := ⟨.hbm, 164, rfl⟩
abbrev main_v141 : Ref sig .tc := ⟨.hbm, 165, rfl⟩
abbrev main_v142 : Ref sig .tc := ⟨.hbm, 166, rfl⟩
abbrev main_c_8 : Ref sig .tc := ⟨.hbm, 167, rfl⟩
abbrev main_call6_v0 : Ref sig .tc := ⟨.hbm, 168, rfl⟩
abbrev main_v143 : Ref sig .tc := ⟨.hbm, 169, rfl⟩
abbrev main_v144 : Ref sig .tc := ⟨.hbm, 170, rfl⟩
abbrev main_c_9 : Ref sig .tc := ⟨.hbm, 171, rfl⟩
abbrev main_call7_v0 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_c_10 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_c_11 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_c_12 : Ref sig .tc := ⟨.hbm, 236, rfl⟩
abbrev main_call8_v0 : Ref sig .tc := ⟨.hbm, 237, rfl⟩
abbrev main_call8_v1 : Ref sig .tc := ⟨.hbm, 238, rfl⟩
abbrev main_call8_v2 : Ref sig .tc := ⟨.hbm, 239, rfl⟩
abbrev main_call8_v3 : Ref sig .tc := ⟨.hbm, 240, rfl⟩
abbrev main_call8_v4 : Ref sig .tc := ⟨.hbm, 241, rfl⟩
abbrev main_call8_v5 : Ref sig .tc := ⟨.hbm, 242, rfl⟩
abbrev main_call8_v6 : Ref sig .tc := ⟨.hbm, 243, rfl⟩
abbrev main_call8_v7 : Ref sig .tc := ⟨.hbm, 244, rfl⟩
abbrev main_call8_v8 : Ref sig .tc := ⟨.hbm, 245, rfl⟩
abbrev main_call8_c : Ref sig .tc := ⟨.hbm, 246, rfl⟩
abbrev main_call8_v9 : Ref sig .tc := ⟨.hbm, 247, rfl⟩
abbrev main_call8_v10 : Ref sig .tc := ⟨.hbm, 248, rfl⟩
abbrev main_call8_v11 : Ref sig .tc := ⟨.hbm, 249, rfl⟩
abbrev main_call8_c_0 : Ref sig .tc := ⟨.hbm, 250, rfl⟩
abbrev main_call8_v12 : Ref sig .tc := ⟨.hbm, 251, rfl⟩
abbrev main_call8_v13 : Ref sig .tc := ⟨.hbm, 252, rfl⟩
abbrev main_v206 : Ref sig .tc := ⟨.hbm, 253, rfl⟩
abbrev main_c_13 : Ref sig .tc := ⟨.hbm, 254, rfl⟩
abbrev main_call9_v0 : Ref sig .tc := ⟨.hbm, 255, rfl⟩
abbrev main_call9_c : Ref sig .tc := ⟨.hbm, 256, rfl⟩
abbrev main_call9_v1 : Ref sig .tc := ⟨.hbm, 257, rfl⟩
abbrev main_call9_c_0 : Ref sig .tc := ⟨.hbm, 258, rfl⟩
abbrev main_call9_v2 : Ref sig .tc := ⟨.hbm, 259, rfl⟩
abbrev main_call9_v3 : Ref sig .tc := ⟨.hbm, 260, rfl⟩
abbrev main_call9_v4 : Ref sig .tc := ⟨.hbm, 261, rfl⟩
abbrev main_call9_c_1 : Ref sig .tc := ⟨.hbm, 262, rfl⟩
abbrev main_call9_v5 : Ref sig .tc := ⟨.hbm, 263, rfl⟩
abbrev main_call9_v6 : Ref sig .tc := ⟨.hbm, 264, rfl⟩
abbrev main_call9_c_2 : Ref sig .tc := ⟨.hbm, 265, rfl⟩
abbrev main_call9_v7 : Ref sig .tc := ⟨.hbm, 266, rfl⟩
abbrev main_call9_v8 : Ref sig .tc := ⟨.hbm, 267, rfl⟩
abbrev main_call9_c_3 : Ref sig .tc := ⟨.hbm, 268, rfl⟩
abbrev main_call9_v9 : Ref sig .tc := ⟨.hbm, 269, rfl⟩
abbrev main_call9_v10 : Ref sig .tc := ⟨.hbm, 270, rfl⟩
abbrev main_call9_v11 : Ref sig .tc := ⟨.hbm, 271, rfl⟩
abbrev main_call9_v12 : Ref sig .tc := ⟨.hbm, 272, rfl⟩
abbrev main_call9_v13 : Ref sig .tc := ⟨.hbm, 273, rfl⟩
abbrev main_call9_v14 : Ref sig .tc := ⟨.hbm, 274, rfl⟩
abbrev main_v207 : Ref sig .tc := ⟨.hbm, 275, rfl⟩
abbrev main_v208 : Ref sig .tc := ⟨.hbm, 276, rfl⟩
abbrev main_c_14 : Ref sig .tc := ⟨.hbm, 277, rfl⟩
abbrev main_call10_v0 : Ref sig .tc := ⟨.hbm, 278, rfl⟩
abbrev main_call10_v1 : Ref sig .tc := ⟨.hbm, 279, rfl⟩
abbrev main_call10_v2 : Ref sig .tc := ⟨.hbm, 280, rfl⟩
abbrev main_call10_v3 : Ref sig .tc := ⟨.hbm, 281, rfl⟩
abbrev main_call10_v4 : Ref sig .tc := ⟨.hbm, 282, rfl⟩
abbrev main_call10_v5 : Ref sig .tc := ⟨.hbm, 283, rfl⟩
abbrev main_call10_v6 : Ref sig .tc := ⟨.hbm, 284, rfl⟩
abbrev main_call10_v7 : Ref sig .tc := ⟨.hbm, 285, rfl⟩
abbrev main_call10_v8 : Ref sig .tc := ⟨.hbm, 286, rfl⟩
abbrev main_call10_c : Ref sig .tc := ⟨.hbm, 287, rfl⟩
abbrev main_call10_v9 : Ref sig .tc := ⟨.hbm, 288, rfl⟩
abbrev main_call10_v10 : Ref sig .tc := ⟨.hbm, 289, rfl⟩
abbrev main_call10_v11 : Ref sig .tc := ⟨.hbm, 290, rfl⟩
abbrev main_call10_c_0 : Ref sig .tc := ⟨.hbm, 291, rfl⟩
abbrev main_call10_v12 : Ref sig .tc := ⟨.hbm, 292, rfl⟩
abbrev main_call10_v13 : Ref sig .tc := ⟨.hbm, 293, rfl⟩
abbrev main_v209 : Ref sig .tc := ⟨.hbm, 294, rfl⟩
abbrev main_c_15 : Ref sig .tc := ⟨.hbm, 295, rfl⟩
abbrev main_call11_v0 : Ref sig .tc := ⟨.hbm, 296, rfl⟩
abbrev main_call11_c : Ref sig .tc := ⟨.hbm, 297, rfl⟩
abbrev main_call11_v1 : Ref sig .tc := ⟨.hbm, 298, rfl⟩
abbrev main_call11_c_0 : Ref sig .tc := ⟨.hbm, 299, rfl⟩
abbrev main_call11_v2 : Ref sig .tc := ⟨.hbm, 300, rfl⟩
abbrev main_call11_v3 : Ref sig .tc := ⟨.hbm, 301, rfl⟩
abbrev main_call11_v4 : Ref sig .tc := ⟨.hbm, 302, rfl⟩
abbrev main_call11_c_1 : Ref sig .tc := ⟨.hbm, 303, rfl⟩
abbrev main_call11_v5 : Ref sig .tc := ⟨.hbm, 304, rfl⟩
abbrev main_call11_v6 : Ref sig .tc := ⟨.hbm, 305, rfl⟩
abbrev main_call11_c_2 : Ref sig .tc := ⟨.hbm, 306, rfl⟩
abbrev main_call11_v7 : Ref sig .tc := ⟨.hbm, 307, rfl⟩
abbrev main_call11_v8 : Ref sig .tc := ⟨.hbm, 308, rfl⟩
abbrev main_call11_c_3 : Ref sig .tc := ⟨.hbm, 309, rfl⟩
abbrev main_call11_v9 : Ref sig .tc := ⟨.hbm, 310, rfl⟩
abbrev main_call11_v10 : Ref sig .tc := ⟨.hbm, 311, rfl⟩
abbrev main_call11_v11 : Ref sig .tc := ⟨.hbm, 312, rfl⟩
abbrev main_call11_v12 : Ref sig .tc := ⟨.hbm, 313, rfl⟩
abbrev main_call11_v13 : Ref sig .tc := ⟨.hbm, 314, rfl⟩
abbrev main_call11_v14 : Ref sig .tc := ⟨.hbm, 315, rfl⟩
abbrev main_v210 : Ref sig .tc := ⟨.hbm, 316, rfl⟩
abbrev main_v211 : Ref sig .tc := ⟨.hbm, 317, rfl⟩
abbrev main_cst_16 : Ref sig .tc := ⟨.hbm, 318, rfl⟩
abbrev main_v212 : Ref sig .tc := ⟨.hbm, 319, rfl⟩
abbrev main_call12_v0 : Ref sig .tc := ⟨.hbm, 320, rfl⟩
abbrev main_v213 : Ref sig .tc := ⟨.hbm, 321, rfl⟩
abbrev main_v214 : Ref sig .tc := ⟨.hbm, 322, rfl⟩
abbrev main_v215 : Ref sig .tc := ⟨.hbm, 323, rfl⟩
abbrev main_v216 : Ref sig .tc := ⟨.hbm, 324, rfl⟩
abbrev main_v217 : Ref sig .tc := ⟨.hbm, 325, rfl⟩
abbrev main_c_17 : Ref sig .tc := ⟨.hbm, 326, rfl⟩
abbrev main_call13_v0 : Ref sig .tc := ⟨.hbm, 327, rfl⟩
abbrev main_call13_v1 : Ref sig .tc := ⟨.hbm, 328, rfl⟩
abbrev main_call13_v2 : Ref sig .tc := ⟨.hbm, 329, rfl⟩
abbrev main_call13_v3 : Ref sig .tc := ⟨.hbm, 330, rfl⟩
abbrev main_call13_v4 : Ref sig .tc := ⟨.hbm, 331, rfl⟩
abbrev main_call13_v5 : Ref sig .tc := ⟨.hbm, 332, rfl⟩
abbrev main_call13_v6 : Ref sig .tc := ⟨.hbm, 333, rfl⟩
abbrev main_call13_v7 : Ref sig .tc := ⟨.hbm, 334, rfl⟩
abbrev main_call13_v8 : Ref sig .tc := ⟨.hbm, 335, rfl⟩
abbrev main_call13_c : Ref sig .tc := ⟨.hbm, 336, rfl⟩
abbrev main_call13_v9 : Ref sig .tc := ⟨.hbm, 337, rfl⟩
abbrev main_call13_v10 : Ref sig .tc := ⟨.hbm, 338, rfl⟩
abbrev main_call13_v11 : Ref sig .tc := ⟨.hbm, 339, rfl⟩
abbrev main_call13_c_0 : Ref sig .tc := ⟨.hbm, 340, rfl⟩
abbrev main_call13_v12 : Ref sig .tc := ⟨.hbm, 341, rfl⟩
abbrev main_call13_v13 : Ref sig .tc := ⟨.hbm, 342, rfl⟩
abbrev main_v218 : Ref sig .tc := ⟨.hbm, 343, rfl⟩
abbrev main_c_18 : Ref sig .tc := ⟨.hbm, 344, rfl⟩
abbrev main_call14_v0 : Ref sig .tc := ⟨.hbm, 345, rfl⟩
abbrev main_call14_c : Ref sig .tc := ⟨.hbm, 346, rfl⟩
abbrev main_call14_v1 : Ref sig .tc := ⟨.hbm, 347, rfl⟩
abbrev main_call14_c_0 : Ref sig .tc := ⟨.hbm, 348, rfl⟩
abbrev main_call14_v2 : Ref sig .tc := ⟨.hbm, 349, rfl⟩
abbrev main_call14_v3 : Ref sig .tc := ⟨.hbm, 350, rfl⟩
abbrev main_call14_v4 : Ref sig .tc := ⟨.hbm, 351, rfl⟩
abbrev main_call14_c_1 : Ref sig .tc := ⟨.hbm, 352, rfl⟩
abbrev main_call14_v5 : Ref sig .tc := ⟨.hbm, 353, rfl⟩
abbrev main_call14_v6 : Ref sig .tc := ⟨.hbm, 354, rfl⟩
abbrev main_call14_c_2 : Ref sig .tc := ⟨.hbm, 355, rfl⟩
abbrev main_call14_v7 : Ref sig .tc := ⟨.hbm, 356, rfl⟩
abbrev main_call14_v8 : Ref sig .tc := ⟨.hbm, 357, rfl⟩
abbrev main_call14_c_3 : Ref sig .tc := ⟨.hbm, 358, rfl⟩
abbrev main_call14_v9 : Ref sig .tc := ⟨.hbm, 359, rfl⟩
abbrev main_call14_v10 : Ref sig .tc := ⟨.hbm, 360, rfl⟩
abbrev main_call14_v11 : Ref sig .tc := ⟨.hbm, 361, rfl⟩
abbrev main_call14_v12 : Ref sig .tc := ⟨.hbm, 362, rfl⟩
abbrev main_call14_v13 : Ref sig .tc := ⟨.hbm, 363, rfl⟩
abbrev main_call14_v14 : Ref sig .tc := ⟨.hbm, 364, rfl⟩
abbrev main_v219 : Ref sig .tc := ⟨.hbm, 365, rfl⟩
abbrev main_v220 : Ref sig .tc := ⟨.hbm, 366, rfl⟩
abbrev main_c_19 : Ref sig .tc := ⟨.hbm, 367, rfl⟩
abbrev main_call15_v0 : Ref sig .tc := ⟨.hbm, 368, rfl⟩
abbrev main_call15_c : Ref sig .tc := ⟨.hbm, 369, rfl⟩
abbrev main_call15_v1 : Ref sig .tc := ⟨.hbm, 370, rfl⟩
abbrev main_call15_c_0 : Ref sig .tc := ⟨.hbm, 371, rfl⟩
abbrev main_call15_v2 : Ref sig .tc := ⟨.hbm, 372, rfl⟩
abbrev main_call15_v3 : Ref sig .tc := ⟨.hbm, 373, rfl⟩
abbrev main_call15_v4 : Ref sig .tc := ⟨.hbm, 374, rfl⟩
abbrev main_call15_c_1 : Ref sig .tc := ⟨.hbm, 375, rfl⟩
abbrev main_call15_v5 : Ref sig .tc := ⟨.hbm, 376, rfl⟩
abbrev main_call15_v6 : Ref sig .tc := ⟨.hbm, 377, rfl⟩
abbrev main_call15_c_2 : Ref sig .tc := ⟨.hbm, 378, rfl⟩
abbrev main_call15_v7 : Ref sig .tc := ⟨.hbm, 379, rfl⟩
abbrev main_call15_v8 : Ref sig .tc := ⟨.hbm, 380, rfl⟩
abbrev main_call15_c_3 : Ref sig .tc := ⟨.hbm, 381, rfl⟩
abbrev main_call15_v9 : Ref sig .tc := ⟨.hbm, 382, rfl⟩
abbrev main_call15_v10 : Ref sig .tc := ⟨.hbm, 383, rfl⟩
abbrev main_call15_v11 : Ref sig .tc := ⟨.hbm, 384, rfl⟩
abbrev main_call15_v12 : Ref sig .tc := ⟨.hbm, 385, rfl⟩
abbrev main_call15_v13 : Ref sig .tc := ⟨.hbm, 386, rfl⟩
abbrev main_call15_v14 : Ref sig .tc := ⟨.hbm, 387, rfl⟩
abbrev main_v221 : Ref sig .tc := ⟨.hbm, 388, rfl⟩
abbrev main_c_20 : Ref sig .tc := ⟨.hbm, 389, rfl⟩
abbrev main_call16_v0 : Ref sig .tc := ⟨.hbm, 390, rfl⟩
abbrev main_call16_v1 : Ref sig .tc := ⟨.hbm, 391, rfl⟩
abbrev main_call16_v2 : Ref sig .tc := ⟨.hbm, 392, rfl⟩
abbrev main_call16_v3 : Ref sig .tc := ⟨.hbm, 393, rfl⟩
abbrev main_call16_v4 : Ref sig .tc := ⟨.hbm, 394, rfl⟩
abbrev main_call16_v5 : Ref sig .tc := ⟨.hbm, 395, rfl⟩
abbrev main_call16_v6 : Ref sig .tc := ⟨.hbm, 396, rfl⟩
abbrev main_call16_v7 : Ref sig .tc := ⟨.hbm, 397, rfl⟩
abbrev main_call16_v8 : Ref sig .tc := ⟨.hbm, 398, rfl⟩
abbrev main_call16_c : Ref sig .tc := ⟨.hbm, 399, rfl⟩
abbrev main_call16_v9 : Ref sig .tc := ⟨.hbm, 400, rfl⟩
abbrev main_call16_v10 : Ref sig .tc := ⟨.hbm, 401, rfl⟩
abbrev main_call16_v11 : Ref sig .tc := ⟨.hbm, 402, rfl⟩
abbrev main_call16_c_0 : Ref sig .tc := ⟨.hbm, 403, rfl⟩
abbrev main_call16_v12 : Ref sig .tc := ⟨.hbm, 404, rfl⟩
abbrev main_call16_v13 : Ref sig .tc := ⟨.hbm, 405, rfl⟩
abbrev main_v222 : Ref sig .tc := ⟨.hbm, 406, rfl⟩
abbrev main_v223 : Ref sig .tc := ⟨.hbm, 407, rfl⟩
abbrev main_cst_21 : Ref sig .tc := ⟨.hbm, 408, rfl⟩
abbrev main_v224 : Ref sig .tc := ⟨.hbm, 409, rfl⟩
abbrev main_call17_v0 : Ref sig .tc := ⟨.hbm, 410, rfl⟩
abbrev main_v225 : Ref sig .tc := ⟨.hbm, 411, rfl⟩
abbrev main_v226 : Ref sig .tc := ⟨.hbm, 412, rfl⟩
abbrev main_v227 : Ref sig .tc := ⟨.hbm, 413, rfl⟩
abbrev main_v228 : Ref sig .tc := ⟨.hbm, 414, rfl⟩
abbrev main_v229 : Ref sig .tc := ⟨.hbm, 415, rfl⟩
abbrev main_c_22 : Ref sig .tc := ⟨.hbm, 416, rfl⟩
abbrev main_call18_v0 : Ref sig .tc := ⟨.hbm, 417, rfl⟩
abbrev main_call18_c : Ref sig .tc := ⟨.hbm, 418, rfl⟩
abbrev main_call18_v1 : Ref sig .tc := ⟨.hbm, 419, rfl⟩
abbrev main_call18_c_0 : Ref sig .tc := ⟨.hbm, 420, rfl⟩
abbrev main_call18_v2 : Ref sig .tc := ⟨.hbm, 421, rfl⟩
abbrev main_call18_v3 : Ref sig .tc := ⟨.hbm, 422, rfl⟩
abbrev main_call18_v4 : Ref sig .tc := ⟨.hbm, 423, rfl⟩
abbrev main_call18_c_1 : Ref sig .tc := ⟨.hbm, 424, rfl⟩
abbrev main_call18_v5 : Ref sig .tc := ⟨.hbm, 425, rfl⟩
abbrev main_call18_v6 : Ref sig .tc := ⟨.hbm, 426, rfl⟩
abbrev main_call18_c_2 : Ref sig .tc := ⟨.hbm, 427, rfl⟩
abbrev main_call18_v7 : Ref sig .tc := ⟨.hbm, 428, rfl⟩
abbrev main_call18_v8 : Ref sig .tc := ⟨.hbm, 429, rfl⟩
abbrev main_call18_c_3 : Ref sig .tc := ⟨.hbm, 430, rfl⟩
abbrev main_call18_v9 : Ref sig .tc := ⟨.hbm, 431, rfl⟩
abbrev main_call18_v10 : Ref sig .tc := ⟨.hbm, 432, rfl⟩
abbrev main_call18_v11 : Ref sig .tc := ⟨.hbm, 433, rfl⟩
abbrev main_call18_v12 : Ref sig .tc := ⟨.hbm, 434, rfl⟩
abbrev main_call18_v13 : Ref sig .tc := ⟨.hbm, 435, rfl⟩
abbrev main_call18_v14 : Ref sig .tc := ⟨.hbm, 436, rfl⟩
abbrev main_v230 : Ref sig .tc := ⟨.hbm, 437, rfl⟩
abbrev main_c_23 : Ref sig .tc := ⟨.hbm, 438, rfl⟩
abbrev main_call19_v0 : Ref sig .tc := ⟨.hbm, 439, rfl⟩
abbrev main_call19_v1 : Ref sig .tc := ⟨.hbm, 440, rfl⟩
abbrev main_call19_v2 : Ref sig .tc := ⟨.hbm, 441, rfl⟩
abbrev main_call19_v3 : Ref sig .tc := ⟨.hbm, 442, rfl⟩
abbrev main_call19_v4 : Ref sig .tc := ⟨.hbm, 443, rfl⟩
abbrev main_call19_v5 : Ref sig .tc := ⟨.hbm, 444, rfl⟩
abbrev main_call19_v6 : Ref sig .tc := ⟨.hbm, 445, rfl⟩
abbrev main_call19_v7 : Ref sig .tc := ⟨.hbm, 446, rfl⟩
abbrev main_call19_v8 : Ref sig .tc := ⟨.hbm, 447, rfl⟩
abbrev main_call19_c : Ref sig .tc := ⟨.hbm, 448, rfl⟩
abbrev main_call19_v9 : Ref sig .tc := ⟨.hbm, 449, rfl⟩
abbrev main_call19_v10 : Ref sig .tc := ⟨.hbm, 450, rfl⟩
abbrev main_call19_v11 : Ref sig .tc := ⟨.hbm, 451, rfl⟩
abbrev main_call19_c_0 : Ref sig .tc := ⟨.hbm, 452, rfl⟩
abbrev main_call19_v12 : Ref sig .tc := ⟨.hbm, 453, rfl⟩
abbrev main_call19_v13 : Ref sig .tc := ⟨.hbm, 454, rfl⟩
abbrev main_v231 : Ref sig .tc := ⟨.hbm, 455, rfl⟩
abbrev main_v232 : Ref sig .tc := ⟨.hbm, 456, rfl⟩
abbrev main_c_24 : Ref sig .tc := ⟨.hbm, 457, rfl⟩
abbrev main_call20_v0 : Ref sig .tc := ⟨.hbm, 458, rfl⟩
abbrev main_call20_v1 : Ref sig .tc := ⟨.hbm, 459, rfl⟩
abbrev main_call20_v2 : Ref sig .tc := ⟨.hbm, 460, rfl⟩
abbrev main_call20_v3 : Ref sig .tc := ⟨.hbm, 461, rfl⟩
abbrev main_call20_v4 : Ref sig .tc := ⟨.hbm, 462, rfl⟩
abbrev main_call20_v5 : Ref sig .tc := ⟨.hbm, 463, rfl⟩
abbrev main_call20_v6 : Ref sig .tc := ⟨.hbm, 464, rfl⟩
abbrev main_call20_v7 : Ref sig .tc := ⟨.hbm, 465, rfl⟩
abbrev main_call20_v8 : Ref sig .tc := ⟨.hbm, 466, rfl⟩
abbrev main_call20_c : Ref sig .tc := ⟨.hbm, 467, rfl⟩
abbrev main_call20_v9 : Ref sig .tc := ⟨.hbm, 468, rfl⟩
abbrev main_call20_v10 : Ref sig .tc := ⟨.hbm, 469, rfl⟩
abbrev main_call20_v11 : Ref sig .tc := ⟨.hbm, 470, rfl⟩
abbrev main_call20_c_0 : Ref sig .tc := ⟨.hbm, 471, rfl⟩
abbrev main_call20_v12 : Ref sig .tc := ⟨.hbm, 472, rfl⟩
abbrev main_call20_v13 : Ref sig .tc := ⟨.hbm, 473, rfl⟩
abbrev main_v233 : Ref sig .tc := ⟨.hbm, 474, rfl⟩
abbrev main_c_25 : Ref sig .tc := ⟨.hbm, 475, rfl⟩
abbrev main_call21_v0 : Ref sig .tc := ⟨.hbm, 476, rfl⟩
abbrev main_call21_c : Ref sig .tc := ⟨.hbm, 477, rfl⟩
abbrev main_call21_v1 : Ref sig .tc := ⟨.hbm, 478, rfl⟩
abbrev main_call21_c_0 : Ref sig .tc := ⟨.hbm, 479, rfl⟩
abbrev main_call21_v2 : Ref sig .tc := ⟨.hbm, 480, rfl⟩
abbrev main_call21_v3 : Ref sig .tc := ⟨.hbm, 481, rfl⟩
abbrev main_call21_v4 : Ref sig .tc := ⟨.hbm, 482, rfl⟩
abbrev main_call21_c_1 : Ref sig .tc := ⟨.hbm, 483, rfl⟩
abbrev main_call21_v5 : Ref sig .tc := ⟨.hbm, 484, rfl⟩
abbrev main_call21_v6 : Ref sig .tc := ⟨.hbm, 485, rfl⟩
abbrev main_call21_c_2 : Ref sig .tc := ⟨.hbm, 486, rfl⟩
abbrev main_call21_v7 : Ref sig .tc := ⟨.hbm, 487, rfl⟩
abbrev main_call21_v8 : Ref sig .tc := ⟨.hbm, 488, rfl⟩
abbrev main_call21_c_3 : Ref sig .tc := ⟨.hbm, 489, rfl⟩
abbrev main_call21_v9 : Ref sig .tc := ⟨.hbm, 490, rfl⟩
abbrev main_call21_v10 : Ref sig .tc := ⟨.hbm, 491, rfl⟩
abbrev main_call21_v11 : Ref sig .tc := ⟨.hbm, 492, rfl⟩
abbrev main_call21_v12 : Ref sig .tc := ⟨.hbm, 493, rfl⟩
abbrev main_call21_v13 : Ref sig .tc := ⟨.hbm, 494, rfl⟩
abbrev main_call21_v14 : Ref sig .tc := ⟨.hbm, 495, rfl⟩
abbrev main_v234 : Ref sig .tc := ⟨.hbm, 496, rfl⟩
abbrev main_v235 : Ref sig .tc := ⟨.hbm, 497, rfl⟩
abbrev main_cst_26 : Ref sig .tc := ⟨.hbm, 498, rfl⟩
abbrev main_v236 : Ref sig .tc := ⟨.hbm, 499, rfl⟩
abbrev main_call22_v0 : Ref sig .tc := ⟨.hbm, 500, rfl⟩
abbrev main_v237 : Ref sig .tc := ⟨.hbm, 501, rfl⟩
abbrev main_v238 : Ref sig .tc := ⟨.hbm, 502, rfl⟩
abbrev main_v239 : Ref sig .tc := ⟨.hbm, 503, rfl⟩
abbrev main_v240 : Ref sig .tc := ⟨.hbm, 504, rfl⟩
abbrev main_v241 : Ref sig .tc := ⟨.hbm, 505, rfl⟩
abbrev main_v242 : Ref sig .tc := ⟨.hbm, 506, rfl⟩
abbrev main_v243 : Ref sig .tc := ⟨.hbm, 507, rfl⟩
abbrev main_v244 : Ref sig .tc := ⟨.hbm, 508, rfl⟩
abbrev main_v245 : Ref sig .tc := ⟨.hbm, 509, rfl⟩
abbrev main_v246 : Ref sig .tc := ⟨.hbm, 510, rfl⟩
abbrev main_v247 : Ref sig .tc := ⟨.hbm, 511, rfl⟩
abbrev main_v248 : Ref sig .tc := ⟨.hbm, 512, rfl⟩
abbrev main_v249 : Ref sig .tc := ⟨.hbm, 513, rfl⟩
abbrev main_v250 : Ref sig .tc := ⟨.hbm, 514, rfl⟩
abbrev main_v251 : Ref sig .tc := ⟨.hbm, 515, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 2], ![false, false, false]⟩

@[reducible] def k0_t1_loop : Scf.Loop 32 :=
  let c0_i32_34 : BitVec 32 := 0#32
  let c512_i32 : BitVec 32 := 512#32
  let v33 : BitVec 32 := Scalar.addi c0_i32_34 c512_i32
  let c1_i32 : BitVec 32 := 1#32
  ⟨c0_i32_34, v33, c1_i32⟩
def k0_off1 (k0_t1 : Fin k0_t1_loop.trips) : Fin 2 → Nat :=
  let c0_i32_34 : BitVec 32 := 0#32
  let c1_i32 : BitVec 32 := 1#32
  let arg12 : BitVec 32 := Scf.iv c0_i32_34 c1_i32 k0_t1
  let v87 : Index := Scalar.indexCast arg12
  let c0_81 : Index := 0#32
  ![v87.toNat, 0]
def k0_off2 (k0_t1 : Fin k0_t1_loop.trips) : Fin 2 → Nat :=
  let c0_i32_34 : BitVec 32 := 0#32
  let c1_i32 : BitVec 32 := 1#32
  let arg12 : BitVec 32 := Scf.iv c0_i32_34 c1_i32 k0_t1
  let v91 : Index := Scalar.indexCast arg12
  let c512_82 : Index := 512#32
  ![v91.toNat, 512]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x8192x512 : Shape := ⟨3, ![2, 8192, 512]⟩
abbrev S32x64 : Shape := ⟨2, ![32, 64]⟩
abbrev S32x64x16 : Shape := ⟨3, ![32, 64, 16]⟩
abbrev S32x16x64 : Shape := ⟨3, ![32, 16, 64]⟩
abbrev S32 : Shape := ⟨1, ![32]⟩
abbrev S2x8192x32x16 : Shape := ⟨4, ![2, 8192, 32, 16]⟩
abbrev S32x1 : Shape := ⟨2, ![32, 1]⟩
abbrev S_ : Shape := ⟨0, ![]⟩
abbrev S32x64x1 : Shape := ⟨3, ![32, 64, 1]⟩
abbrev S32x64x2x8192 : Shape := ⟨4, ![32, 64, 2, 8192]⟩
abbrev S2x8192x32x64 : Shape := ⟨4, ![2, 8192, 32, 64]⟩
abbrev S2x32x64 : Shape := ⟨3, ![2, 32, 64]⟩
abbrev S8192x2x32x64 : Shape := ⟨4, ![8192, 2, 32, 64]⟩
abbrev S1x2x32x64 : Shape := ⟨4, ![1, 2, 32, 64]⟩
abbrev S1x32x64 : Shape := ⟨3, ![1, 32, 64]⟩
abbrev S32x16x8192x2 : Shape := ⟨4, ![32, 16, 8192, 2]⟩
abbrev S16384x4x128 : Shape := ⟨3, ![16384, 4, 128]⟩
abbrev S4x16384x128 : Shape := ⟨3, ![4, 16384, 128]⟩

abbrev nBuf : Space → Nat
  | .hbm => 119
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S32x64, .f32⟩
  | .hbm, ⟨2, _⟩ => ⟨S32x64, .f32⟩
  | .hbm, ⟨3, _⟩ => ⟨S32x64x16, .f32⟩
  | .hbm, ⟨4, _⟩ => ⟨S32x64x16, .f32⟩
  | .hbm, ⟨5, _⟩ => ⟨S32x16x64, .f32⟩
  | .hbm, ⟨6, _⟩ => ⟨S32x16x64, .f32⟩
  | .hbm, ⟨7, _⟩ => ⟨S32, .f32⟩
  | .hbm, ⟨8, _⟩ => ⟨S2x8192x32x16, .f32⟩
  | .hbm, ⟨9, _⟩ => ⟨S32, .f32⟩
  | .hbm, ⟨10, _⟩ => ⟨S32x1, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S_, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64x1, .f32⟩
  | .hbm, ⟨37, _⟩ => ⟨S32x64x16, .f32⟩
  | .hbm, ⟨38, _⟩ => ⟨S32x64x16, .f32⟩
  | .hbm, ⟨39, _⟩ => ⟨S32x64x1, .f32⟩
  | .hbm, ⟨40, _⟩ => ⟨S32x64x16, .f32⟩
  | .hbm, ⟨41, _⟩ => ⟨S32x64x16, .f32⟩
  | .hbm, ⟨42, _⟩ => ⟨S32x64x16, .f32⟩
  | .hbm, ⟨43, _⟩ => ⟨S32x64x1, .f32⟩
  | .hbm, ⟨44, _⟩ => ⟨S32x64x16, .f32⟩
  | .hbm, ⟨45, _⟩ => ⟨S32x64x16, .f32⟩
  | .hbm, ⟨46, _⟩ => ⟨S32x64x1, .f32⟩
  | .hbm, ⟨47, _⟩ => ⟨S32x64x16, .f32⟩
  | .hbm, ⟨48, _⟩ => ⟨S32x64x16, .f32⟩
  | .hbm, ⟨49, _⟩ => ⟨S32x64x16, .f32⟩
  | .hbm, ⟨50, _⟩ => ⟨S32x64x2x8192, .f32⟩
  | .hbm, ⟨51, _⟩ => ⟨S2x8192x32x64, .f32⟩
  | .hbm, ⟨52, _⟩ => ⟨S32x64x2x8192, .f32⟩
  | .hbm, ⟨53, _⟩ => ⟨S2x8192x32x64, .f32⟩
  | .hbm, ⟨54, _⟩ => ⟨S_, .f32⟩
  | .hbm, ⟨55, _⟩ => ⟨S2x32x64, .f32⟩
  | .hbm, ⟨56, _⟩ => ⟨S8192x2x32x64, .f32⟩
  | .hbm, ⟨57, _⟩ => ⟨S8192x2x32x64, .f32⟩
  | .hbm, ⟨58, _⟩ => ⟨S_, .f32⟩
  | .hbm, ⟨59, _⟩ => ⟨S8192x2x32x64, .f32⟩
  | .hbm, ⟨60, _⟩ => ⟨S_, .f32⟩
  | .hbm, ⟨61, _⟩ => ⟨S8192x2x32x64, .f32⟩
  | .hbm, ⟨62, _⟩ => ⟨S_, .i32⟩
  | .hbm, ⟨63, _⟩ => ⟨S8192x2x32x64, .f32⟩
  | .hbm, ⟨64, _⟩ => ⟨S8192x2x32x64, .f32⟩
  | .hbm, ⟨65, _⟩ => ⟨S32x64, .f32⟩
  | .hbm, ⟨66, _⟩ => ⟨S32x64, .f32⟩
  | .hbm, ⟨67, _⟩ => ⟨S_, .i32⟩
  | .hbm, ⟨68, _⟩ => ⟨S2x32x64, .f32⟩
  | .hbm, ⟨69, _⟩ => ⟨S2x32x64, .f32⟩
  | .hbm, ⟨70, _⟩ => ⟨S8192x2x32x64, .f32⟩
  | .hbm, ⟨71, _⟩ => ⟨S8192x2x32x64, .f32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S1x2x32x64, .f32⟩
  | .hbm, ⟨78, _⟩ => ⟨S2x32x64, .f32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S1x2x32x64, .f32⟩
  | .hbm, ⟨83, _⟩ => ⟨S2x32x64, .f32⟩
  | .hbm, ⟨84, _⟩ => ⟨S1x32x64, .f32⟩
  | .hbm, ⟨85, _⟩ => ⟨S2x32x64, .f32⟩
  | .hbm, ⟨86, _⟩ => ⟨S2x32x64, .f32⟩
  | .hbm, ⟨87, _⟩ => ⟨S1x32x64, .f32⟩
  | .hbm, ⟨88, _⟩ => ⟨S2x32x64, .f32⟩
  | .hbm, ⟨89, _⟩ => ⟨S2x32x64, .f32⟩
  | .hbm, ⟨90, _⟩ => ⟨S2x32x64, .f32⟩
  | .hbm, ⟨91, _⟩ => ⟨S2x32x64, .f32⟩
  | .hbm, ⟨92, _⟩ => ⟨S1x32x64, .f32⟩
  | .hbm, ⟨93, _⟩ => ⟨S2x32x64, .f32⟩
  | .hbm, ⟨94, _⟩ => ⟨S2x32x64, .f32⟩
  | .hbm, ⟨95, _⟩ => ⟨S1x32x64, .f32⟩
  | .hbm, ⟨96, _⟩ => ⟨S2x32x64, .f32⟩
  | .hbm, ⟨97, _⟩ => ⟨S2x32x64, .f32⟩
  | .hbm, ⟨98, _⟩ => ⟨S2x32x64, .f32⟩
  | .hbm, ⟨99, _⟩ => ⟨S2x32x64, .f32⟩
  | .hbm, ⟨100, _⟩ => ⟨S1x2x32x64, .f32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S8192x2x32x64, .f32⟩
  | .hbm, ⟨105, _⟩ => ⟨S1x2x32x64, .f32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S8192x2x32x64, .f32⟩
  | .hbm, ⟨110, _⟩ => ⟨S_, .i32⟩
  | .hbm, ⟨111, _⟩ => ⟨S_, .i32⟩
  | .hbm, ⟨112, _⟩ => ⟨S32x16x8192x2, .f32⟩
  | .hbm, ⟨113, _⟩ => ⟨S2x8192x32x16, .f32⟩
  | .hbm, ⟨114, _⟩ => ⟨S32x16x8192x2, .f32⟩
  | .hbm, ⟨115, _⟩ => ⟨S2x8192x32x16, .f32⟩
  | .hbm, ⟨116, _⟩ => ⟨S2x8192x32x16, .f32⟩
  | .hbm, ⟨117, _⟩ => ⟨S16384x4x128, .f32⟩
  | .hbm, ⟨118, _⟩ => ⟨S4x16384x128, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_0 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_1 : Ref sig .tc := ⟨.hbm, 58, rfl⟩
abbrev main_v48 : Ref sig .tc := ⟨.hbm, 59, rfl⟩
abbrev main_cst_2 : Ref sig .tc := ⟨.hbm, 60, rfl⟩
abbrev main_v49 : Ref sig .tc := ⟨.hbm, 61, rfl⟩
abbrev main_c : Ref sig .tc := ⟨.hbm, 62, rfl⟩
abbrev main_v50_0 : Ref sig .tc := ⟨.hbm, 63, rfl⟩
abbrev main_v50_1 : Ref sig .tc := ⟨.hbm, 64, rfl⟩
abbrev main_v50_2 : Ref sig .tc := ⟨.hbm, 65, rfl⟩
abbrev main_v50_3 : Ref sig .tc := ⟨.hbm, 66, rfl⟩
abbrev main_v50_4 : Ref sig .tc := ⟨.hbm, 67, rfl⟩
abbrev main_v50_5 : Ref sig .tc := ⟨.hbm, 68, rfl⟩
abbrev main_v50_6 : Ref sig .tc := ⟨.hbm, 69, rfl⟩
abbrev main_v50_7 : Ref sig .tc := ⟨.hbm, 70, rfl⟩
abbrev main_v50_8 : Ref sig .tc := ⟨.hbm, 71, rfl⟩
abbrev main_while0c_c_11 : Ref sig .tc := ⟨.hbm, 72, rfl⟩
abbrev main_while0c_v58 : Ref sig .tc := ⟨.hbm, 73, rfl⟩
abbrev main_while0b_call0_c : Ref sig .tc := ⟨.hbm, 74, rfl⟩
abbrev main_while0b_call0_c_0 : Ref sig .tc := ⟨.hbm, 75, rfl⟩
abbrev main_while0b_call0_c_1 : Ref sig .tc := ⟨.hbm, 76, rfl⟩
abbrev main_while0b_call0_v0 : Ref sig .tc := ⟨.hbm, 77, rfl⟩
abbrev main_while0b_v58 : Ref sig .tc := ⟨.hbm, 78, rfl⟩
abbrev main_while0b_call1_c : Ref sig .tc := ⟨.hbm, 79, rfl⟩
abbrev main_while0b_call1_c_0 : Ref sig .tc := ⟨.hbm, 80, rfl⟩
abbrev main_while0b_call1_c_1 : Ref sig .tc := ⟨.hbm, 81, rfl⟩
abbrev main_while0b_call1_v0 : Ref sig .tc := ⟨.hbm, 82, rfl⟩
abbrev main_while0b_v59 : Ref sig .tc := ⟨.hbm, 83, rfl⟩
abbrev main_while0b_v60 : Ref sig .tc := ⟨.hbm, 84, rfl⟩
abbrev main_while0b_v61 : Ref sig .tc := ⟨.hbm, 85, rfl⟩
abbrev main_while0b_v62 : Ref sig .tc := ⟨.hbm, 86, rfl⟩
abbrev main_while0b_v63 : Ref sig .tc := ⟨.hbm, 87, rfl⟩
abbrev main_while0b_v64 : Ref sig .tc := ⟨.hbm, 88, rfl⟩
abbrev main_while0b_v65 : Ref sig .tc := ⟨.hbm, 89, rfl⟩
abbrev main_while0b_v66 : Ref sig .tc := ⟨.hbm, 90, rfl⟩
abbrev main_while0b_v67 : Ref sig .tc := ⟨.hbm, 91, rfl⟩
abbrev main_while0b_v68 : Ref sig .tc := ⟨.hbm, 92, rfl⟩
abbrev main_while0b_v69 : Ref sig .tc := ⟨.hbm, 93, rfl⟩
abbrev main_while0b_v70 : Ref sig .tc := ⟨.hbm, 94, rfl⟩
abbrev main_while0b_v71 : Ref sig .tc := ⟨.hbm, 95, rfl⟩
abbrev main_while0b_v72 : Ref sig .tc := ⟨.hbm, 96, rfl⟩
abbrev main_while0b_v73 : Ref sig .tc := ⟨.hbm, 97, rfl⟩
abbrev main_while0b_v74 : Ref sig .tc := ⟨.hbm, 98, rfl⟩
abbrev main_while0b_v75 : Ref sig .tc := ⟨.hbm, 99, rfl⟩
abbrev main_while0b_call2_v0 : Ref sig .tc := ⟨.hbm, 100, rfl⟩
abbrev main_while0b_call2_c : Ref sig .tc := ⟨.hbm, 101, rfl⟩
abbrev main_while0b_call2_c_0 : Ref sig .tc := ⟨.hbm, 102, rfl⟩
abbrev main_while0b_call2_c_1 : Ref sig .tc := ⟨.hbm, 103, rfl⟩
abbrev main_while0b_v76 : Ref sig .tc := ⟨.hbm, 104, rfl⟩
abbrev main_while0b_call3_v0 : Ref sig .tc := ⟨.hbm, 105, rfl⟩
abbrev main_while0b_call3_c : Ref sig .tc := ⟨.hbm, 106, rfl⟩
abbrev main_while0b_call3_c_0 : Ref sig .tc := ⟨.hbm, 107, rfl⟩
abbrev main_while0b_call3_c_1 : Ref sig .tc := ⟨.hbm, 108, rfl⟩
abbrev main_while0b_v77 : Ref sig .tc := ⟨.hbm, 109, rfl⟩
abbrev main_while0b_c_11 : Ref sig .tc := ⟨.hbm, 110, rfl⟩
abbrev main_while0b_v78 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S16384x1024 : Shape := ⟨2, ![16384, 1024]⟩
abbrev S6x1024 : Shape := ⟨2, ![6, 1024]⟩
abbrev S2x1024x2816 : Shape := ⟨3, ![2, 1024, 2816]⟩
abbrev S2x2816x1024 : Shape := ⟨3, ![2, 2816, 1024]⟩
abbrev S6x1x1024 : Shape := ⟨3, ![6, 1, 1024]⟩
abbrev S1x2x1024x2816 : Shape := ⟨4, ![1, 2, 1024, 2816]⟩
abbrev S1x2x2816x1024 : Shape := ⟨4, ![1, 2, 2816, 1024]⟩
abbrev S512x1024 : Shape := ⟨2, ![512, 1024]⟩
abbrev S1x1x1024 : Shape := ⟨3, ![1, 1, 1024]⟩
abbrev S1x1x1024x2816 : Shape := ⟨4, ![1, 1, 1024, 2816]⟩
abbrev S1x1x2816x1024 : Shape := ⟨4, ![1, 1, 2816, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 13
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S6x1x1024, .f32⟩
  | .hbm, ⟨6, _⟩ => ⟨S1x2x1024x2816, .f32⟩
  | .hbm, ⟨7, _⟩ => ⟨S1x2x1024x2816, .bf16⟩
  | .hbm, ⟨8, _⟩ => ⟨S1x2x1024x2816, .f32⟩
  | .hbm, ⟨9, _⟩ => ⟨S1x2x1024x2816, .bf16⟩
  | .hbm, ⟨10, _⟩ => ⟨S1x2x2816x1024, .f32⟩
  | .hbm, ⟨11, _⟩ => ⟨S1x2x2816x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024x2816, .bf16⟩
  | .local _ .vmem, ⟨4, _⟩ => ⟨S1x1x1024x2816, .bf16⟩
  | .local _ .vmem, ⟨5, _⟩ => ⟨S1x1x2816x1024, .bf16⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S6x1024 : Shape := ⟨2, ![6, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S1x1024, .f32⟩
  | .hbm, ⟨43, _⟩ => ⟨S1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S4x16384x128 : Shape := ⟨3, ![4, 16384, 128]⟩
abbrev S512 : Shape := ⟨1, ![512]⟩
abbrev S512x512 : Shape := ⟨2, ![512, 512]⟩
abbrev S1536x1024 : Shape := ⟨2, ![1536, 1024]⟩
abbrev S6x1024 : Shape := ⟨2, ![6, 1024]⟩
abbrev S2x1024x2816 : Shape := ⟨3, ![2, 1024, 2816]⟩
abbrev S2x2816x1024 : Shape := ⟨3, ![2, 2816, 1024]⟩
abbrev S1x1x512 : Shape := ⟨3, ![1, 1, 512]⟩
abbrev S1x512x512 : Shape := ⟨3, ![1, 512, 512]⟩
abbrev S1x1536x1024 : Shape := ⟨3, ![1, 1536, 1024]⟩
abbrev S6x1x1024 : Shape := ⟨3, ![6, 1, 1024]⟩
abbrev S1x2x1024x2816 : Shape := ⟨4, ![1, 2, 1024, 2816]⟩
abbrev S1x2x2816x1024 : Shape := ⟨4, ![1, 2, 2816, 1024]⟩
abbrev S512x1024 : Shape := ⟨2, ![512, 1024]⟩
abbrev S1x512x128 : Shape := ⟨3, ![1, 512, 128]⟩
abbrev S1x1x1024 : Shape := ⟨3, ![1, 1, 1024]⟩
abbrev S1x1x1024x2816 : Shape := ⟨4, ![1, 1, 1024, 2816]⟩
abbrev S1x1x2816x1024 : Shape := ⟨4, ![1, 1, 2816, 1024]⟩
abbrev S512x128 : Shape := ⟨2, ![512, 128]⟩
abbrev S1x512 : Shape := ⟨2, ![1, 512]⟩
abbrev S1x512x1024 : Shape := ⟨3, ![1, 512, 1024]⟩
abbrev S1x1024 : Shape := ⟨2, ![1, 1024]⟩
abbrev S512x1 : Shape := ⟨2, ![512, 1]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 27
  | .vmem => 34
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S4x16384x128, .f32⟩
  | .hbm, ⟨4, _⟩ => ⟨S4x16384x128, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1536x1024, .f32⟩
  | .hbm, ⟨9, _⟩ => ⟨S6x1024, .f32⟩
  | .hbm, ⟨10, _⟩ => ⟨S2x1024x2816, .f32⟩
  | .hbm, ⟨11, _⟩ => ⟨S2x1024x2816, .f32⟩
  | .hbm, ⟨12, _⟩ => ⟨S2x2816x1024, .f32⟩
  | .hbm, ⟨13, _⟩ => ⟨S1x1x512, .f32⟩
  | .hbm, ⟨14, _⟩ => ⟨S1x512x512, .f32⟩
  | .hbm, ⟨15, _⟩ => ⟨S1x512x512, .bf16⟩
  | .hbm, ⟨16, _⟩ => ⟨S1x1x512, .f32⟩
  | .hbm, ⟨17, _⟩ => ⟨S1x1536x1024, .f32⟩
  | .hbm, ⟨18, _⟩ => ⟨S1x1536x1024, .bf16⟩
  | .hbm, ⟨19, _⟩ => ⟨S6x1x1024, .f32⟩
  | .hbm, ⟨20, _⟩ => ⟨S1x2x1024x2816, .f32⟩
  | .hbm, ⟨21, _⟩ => ⟨S1x2x1024x2816, .bf16⟩
  | .hbm, ⟨22, _⟩ => ⟨S1x2x1024x2816, .f32⟩
  | .hbm, ⟨23, _⟩ => ⟨S1x2x1024x2816, .bf16⟩
  | .hbm, ⟨24, _⟩ => ⟨S1x2x2816x1024, .f32⟩
  | .hbm, ⟨25, _⟩ => ⟨S1x2x2816x1024, .bf16⟩
  | .hbm, ⟨26, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | .local _ .vmem, ⟨22, _⟩ => ⟨S1x1x512, .f32⟩
  | .local _ .vmem, ⟨23, _⟩ => ⟨S1x512x512, .bf16⟩
  | .local _ .vmem, ⟨24, _⟩ => ⟨S1x1x512, .f32⟩
  | .local _ .vmem, ⟨25, _⟩ => ⟨S1x1536x1024, .bf16⟩
  | .local _ .vmem, ⟨26, _⟩ => ⟨S1x1x1024, .f32⟩
  | .local _ .vmem, ⟨27, _⟩ => ⟨S1x1x1024, .f32⟩
  | .local _ .vmem, ⟨28, _⟩ => ⟨S1x1x1024x2816, .bf16⟩
  | .local _ .vmem, ⟨29, _⟩ => ⟨S1x1x1024x2816, .bf16⟩
  | .local _ .vmem, ⟨30, _⟩ => ⟨S1x1x2816x1024, .bf16⟩
  | .local _ .vmem, ⟨31, _⟩ => ⟨S1x1x1024, .f32⟩
  | .local _ .vmem, ⟨32, _⟩ => ⟨S512x1024, .f32⟩
  | .local _ .vmem, ⟨33, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg21_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem21_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_16 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_17 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_18 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_19 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_20 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1536x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x1024x2816 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1x1024x2816 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1x2816x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S16384x1024 : Shape := ⟨2, ![16384, 1024]⟩
abbrev S16384x512 : Shape := ⟨2, ![16384, 512]⟩
abbrev S4x16384x128 : Shape := ⟨3, ![4, 16384, 128]⟩
abbrev S512 : Shape := ⟨1, ![512]⟩
abbrev S512x512 : Shape := ⟨2, ![512, 512]⟩
abbrev S1536x1024 : Shape := ⟨2, ![1536, 1024]⟩
abbrev S6x1024 : Shape := ⟨2, ![6, 1024]⟩
abbrev S2x1024x2816 : Shape := ⟨3, ![2, 1024, 2816]⟩
abbrev S2x2816x1024 : Shape := ⟨3, ![2, 2816, 1024]⟩
abbrev S16384x4x128 : Shape := ⟨3, ![16384, 4, 128]⟩
abbrev S1x512 : Shape := ⟨2, ![1, 512]⟩
abbrev S_ : Shape := ⟨0, ![]⟩
abbrev S16384x1536 : Shape := ⟨2, ![16384, 1536]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 133
  | .vmem => 0
  | .smem => 0
  | _ => 0

abbrev hbmTy0_0 (i : Nat) : BufTy := match i % 128 with
  | 0 => ⟨S16384x1024, .f32⟩
  | 1 => ⟨S16384x512, .bf16⟩
  | 2 => ⟨S16384x512, .bf16⟩
  | 3 => ⟨S4x16384x128, .f32⟩
  | 4 => ⟨S4x16384x128, .f32⟩
  | 5 => ⟨S512, .f32⟩
  | 6 => ⟨S512x512, .f32⟩
  | 7 => ⟨S512, .f32⟩
  | 8 => ⟨S1536x1024, .f32⟩
  | 9 => ⟨S6x1024, .f32⟩
  | 10 => ⟨S2x1024x2816, .f32⟩
  | 11 => ⟨S2x1024x2816, .f32⟩
  | 12 => ⟨S2x2816x1024, .f32⟩
  | 13 => ⟨S16384x4x128, .f32⟩
  | 14 => ⟨S16384x512, .f32⟩
  | 15 => ⟨S16384x4x128, .f32⟩
  | 16 => ⟨S16384x512, .f32⟩
  | 17 => ⟨S1x512, .f32⟩
  | 18 => ⟨S16384x512, .f32⟩
  | 19 => ⟨S16384x512, .f32⟩
  | 20 => ⟨S16384x512, .f32⟩
  | 21 => ⟨S16384x512, .f32⟩
  | 22 => ⟨S16384x512, .f32⟩
  | 23 => ⟨S_, .f32⟩
  | 24 => ⟨S16384x512, .f32⟩
  | 25 => ⟨S16384x512, .f32⟩
  | 26 => ⟨S16384x512, .f32⟩
  | 27 => ⟨S_, .f32⟩
  | 28 => ⟨S16384x512, .f32⟩
  | 29 => ⟨S16384x512, .f32⟩
  | 30 => ⟨S16384x512, .f32⟩
  | 31 => ⟨S_, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S16384x512, .f32⟩
  | 38 => ⟨S16384x512, .f32⟩
  | 39 => ⟨S1x512, .f32⟩
  | 40 => ⟨S16384x512, .f32⟩
  | 41 => ⟨S16384x512, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S16384x512, .f32⟩
  | 51 => ⟨S16384x512, .f32⟩
  | 52 => ⟨S16384x512, .f32⟩
  | 53 => ⟨S16384x1536, .f32⟩
  | 54 => ⟨S16384x1024, .f32⟩
  | 55 => ⟨S1x1024, .f32⟩
  | 56 => ⟨S1024, .f32⟩
  | 57 => ⟨S16384x1024, .f32⟩
  | 58 => ⟨S_, .f32⟩
  | 59 => ⟨S16384, .f32⟩
  | 60 => ⟨S16384x1, .f32⟩
  | 61 => ⟨S_, .f32⟩
  | 62 => ⟨S16384x1, .f32⟩
  | 63 => ⟨S16384x1, .f32⟩
  | 64 => ⟨S_, .f32⟩
  | 65 => ⟨S16384x1, .f32⟩
  | 66 => ⟨S16384x1, .f32⟩
  | 67 => ⟨S16384x1, .f32⟩
  | 68 => ⟨S16384x1024, .f32⟩
  | 69 => ⟨S16384x1024, .f32⟩
  | 70 => ⟨S1x1024, .f32⟩
  | 71 => ⟨S16384x1024, .f32⟩
  | 72 => ⟨S16384x1024, .f32⟩
  | 73 => ⟨S16384x1024, .f32⟩
  | 74 => ⟨S1x1024, .f32⟩
  | 75 => ⟨S1024, .f32⟩
  | 76 => ⟨S16384x1024, .f32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S_, .f32⟩
  | 84 => ⟨S16384x1, .f32⟩
  | 85 => ⟨S16384x1, .f32⟩
  | 86 => ⟨S16384x1, .f32⟩
  | 87 => ⟨S16384x1024, .f32⟩
  | 88 => ⟨S16384x1024, .f32⟩
  | 89 => ⟨S1x1024, .f32⟩
  | 90 => ⟨S16384x1024, .f32⟩
  | 91 => ⟨S16384x1024, .f32⟩
  | 92 => ⟨S1x1024x2816, .f32⟩
  | 93 => ⟨S1024x2816, .f32⟩
  | 94 => ⟨S1x1024x2816, .f32⟩
  | 95 => ⟨S1024x2816, .f32⟩
  | 96 => ⟨S1x2816x1024, .f32⟩
  | 97 => ⟨S2816x1024, .f32⟩
  | 98 => ⟨S16384x2816, .f32⟩
  | 99 => ⟨S16384x2816, .f32⟩
  | 100 => ⟨S16384x2816, .f32⟩
  | 101 => ⟨S_, .f32⟩
  | 102 => ⟨S16384x2816, .f32⟩
  | 103 => ⟨S16384x2816, .f32⟩
  | 104 => ⟨S_, .f32⟩
  | 105 => ⟨S16384x2816, .f32⟩
  | 106 => ⟨S16384x2816, .f32⟩
  | 107 => ⟨S16384x2816, .f32⟩
  | 108 => ⟨S16384x2816, .f32⟩
  | 109 => ⟨S16384x2816, .f32⟩
  | 110 => ⟨S16384x1024, .f32⟩
  | 111 => ⟨S1x1024, .f32⟩
  | 112 => ⟨S1024, .f32⟩
  | 113 => ⟨S16384x1024, .f32⟩
  | 114 => ⟨S_, .f32⟩
  | 115 => ⟨S16384, .f32⟩
  | 116 => ⟨S16384x1, .f32⟩
  | 117 => ⟨S_, .f32⟩
  | 118 => ⟨S16384x1, .f32⟩
  | 119 => ⟨S16384x1, .f32⟩
  | 120 => ⟨S_, .f32⟩
  | 121 => ⟨S16384x1, .f32⟩
  | 122 => ⟨S16384x1, .f32⟩
  | 123 => ⟨S16384x1, .f32⟩
  | 124 => ⟨S16384x1024, .f32⟩
  | 125 => ⟨S16384x1024, .f32⟩
  | 126 => ⟨S1x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S_, .f32⟩
  | 2 => ⟨S16384x1024, .f32⟩
  | 3 => ⟨S16384x1024, .f32⟩
  | 4 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_call0_v0 : Ref sig .tc := ⟨.hbm, 99, rfl⟩
abbrev main_call0_v1 : Ref sig .tc := ⟨.hbm, 100, rfl⟩
abbrev main_call0_cst : Ref sig .tc := ⟨.hbm, 101, rfl⟩
abbrev main_call0_v2 : Ref sig .tc := ⟨.hbm, 102, rfl⟩
abbrev main_call0_v3 : Ref sig .tc := ⟨.hbm, 103, rfl⟩
abbrev main_call0_cst_0 : Ref sig .tc := ⟨.hbm, 104, rfl⟩
abbrev main_call0_v4 : Ref sig .tc := ⟨.hbm, 105, rfl⟩
abbrev main_call0_v5 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_11 : Ref sig .tc := ⟨.hbm, 114, rfl⟩
abbrev main_v81 : Ref sig .tc := ⟨.hbm, 115, rfl⟩
abbrev main_v82 : Ref sig .tc := ⟨.hbm, 116, rfl⟩
abbrev main_cst_12 : Ref sig .tc := ⟨.hbm, 117, rfl⟩
abbrev main_v83 : Ref sig .tc := ⟨.hbm, 118, rfl⟩
abbrev main_v84 : Ref sig .tc := ⟨.hbm, 119, rfl⟩
abbrev main_cst_13 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_14 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]
-- ==== Kernel4.lean ====
abbrev S16384x1024 : Shape := ⟨2, ![16384, 1024]⟩
abbrev S6x1024 : Shape := ⟨2, ![6, 1024]⟩
abbrev S1024x4104 : Shape := ⟨2, ![1024, 4104]⟩
abbrev S1x1024x4104 : Shape := ⟨3, ![1, 1024, 4104]⟩
abbrev S1x1024x512 : Shape := ⟨3, ![1, 1024, 512]⟩
abbrev S1x1024x8 : Shape := ⟨3, ![1, 1024, 8]⟩
abbrev S_ : Shape := ⟨0, ![]⟩
abbrev S1x1024x120 : Shape := ⟨3, ![1, 1024, 120]⟩
abbrev S1x1024x640 : Shape := ⟨3, ![1, 1024, 640]⟩
abbrev S6x1x1024 : Shape := ⟨3, ![6, 1, 1024]⟩
abbrev S16384x2048 : Shape := ⟨2, ![16384, 2048]⟩
abbrev S16384x512 : Shape := ⟨2, ![16384, 512]⟩
abbrev S4x16384x128 : Shape := ⟨3, ![4, 16384, 128]⟩
abbrev S16384x128 : Shape := ⟨2, ![16384, 128]⟩
abbrev S512x1024 : Shape := ⟨2, ![512, 1024]⟩
abbrev S1x1x1024 : Shape := ⟨3, ![1, 1, 1024]⟩
abbrev S512x2048 : Shape := ⟨2, ![512, 2048]⟩
abbrev S512x512 : Shape := ⟨2, ![512, 512]⟩
abbrev S4x512x128 : Shape := ⟨3, ![4, 512, 128]⟩
abbrev S512x128 : Shape := ⟨2, ![512, 128]⟩
abbrev S1x1024 : Shape := ⟨2, ![1, 1024]⟩
abbrev S512 : Shape := ⟨1, ![512]⟩
abbrev S512x1 : Shape := ⟨2, ![512, 1]⟩
abbrev S1x1024x2048 : Shape := ⟨3, ![1, 1024, 2048]⟩
abbrev S1024x2048 : Shape := ⟨2, ![1024, 2048]⟩
abbrev S1024x512 : Shape := ⟨2, ![1024, 512]⟩
abbrev S1x1024x1024 : Shape := ⟨3, ![1, 1024, 1024]⟩
abbrev S1024x1024 : Shape := ⟨2, ![1024, 1024]⟩
abbrev S1x512x128 : Shape := ⟨3, ![1, 512, 128]⟩
abbrev S1x1024x128 : Shape := ⟨3, ![1, 1024, 128]⟩
abbrev S1024x128 : Shape := ⟨2, ![1024, 128]⟩

abbrev nBuf : Space → Nat
  | .hbm => 16
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S1024x4104, .f32⟩
  | .hbm, ⟨3, _⟩ => ⟨S1x1024x4104, .f32⟩
  | .hbm, ⟨4, _⟩ => ⟨S1x1024x4104, .bf16⟩
  | .hbm, ⟨5, _⟩ => ⟨S1x1024x512, .bf16⟩
  | .hbm, ⟨6, _⟩ => ⟨S1x1024x8, .bf16⟩
  | .hbm, ⟨7, _⟩ => ⟨S_, .bf16⟩
  | .hbm, ⟨8, _⟩ => ⟨S1x1024x120, .bf16⟩
  | .hbm, ⟨9, _⟩ => ⟨S1x1024x640, .bf16⟩
  | .hbm, ⟨10, _⟩ => ⟨S6x1x1024, .f32⟩
  | .hbm, ⟨11, _⟩ => ⟨S16384x2048, .f32⟩
  | .hbm, ⟨12, _⟩ => ⟨S16384x1024, .f32⟩
  | .hbm, ⟨13, _⟩ => ⟨S16384x512, .f32⟩
  | .hbm, ⟨14, _⟩ => ⟨S4x16384x128, .f32⟩
  | .hbm, ⟨15, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x4104, .bf16⟩
  | .local _ .vmem, ⟨4, _⟩ => ⟨S1x1024x640, .bf16⟩
  | .local _ .vmem, ⟨5, _⟩ => ⟨S512x2048, .f32⟩
  | .local _ .vmem, ⟨6, _⟩ => ⟨S512x2048, .f32⟩
  | .local _ .vmem, ⟨7, _⟩ => ⟨S512x1024, .f32⟩
  | .local _ .vmem, ⟨8, _⟩ => ⟨S512x1024, .f32⟩
  | .local _ .vmem, ⟨9, _⟩ => ⟨S512x512, .f32⟩
  | .local _ .vmem, ⟨10, _⟩ => ⟨S512x512, .f32⟩
  | .local _ .vmem, ⟨11, _⟩ => ⟨S4x512x128, .f32⟩
  | .local _ .vmem, ⟨12, _⟩ => ⟨S4x512x128, .f32⟩
  | .local _ .vmem, ⟨13, _⟩ => ⟨S512x128, .f32⟩
  | .local _ .vmem, ⟨14, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4104 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S6x1024 : Shape := ⟨2, ![6, 1024]⟩
abbrev S1024x4104 : Shape := ⟨2, ![1024, 4104]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4104 : Shape := ⟨2, ![16384, 4104]⟩
abbrev S16384x8 : Shape := ⟨2, ![16384, 8]⟩
abbrev S16384x512 : Shape := ⟨2, ![16384, 512]⟩
abbrev S16384x4x128 : Shape := ⟨3, ![16384, 4, 128]⟩
abbrev S4x16384x128 : Shape := ⟨3, ![4, 16384, 128]⟩
abbrev S16384x2048 : Shape := ⟨2, ![16384, 2048]⟩
abbrev S16384x120 : Shape := ⟨2, ![16384, 120]⟩
abbrev S16384x128 : Shape := ⟨2, ![16384, 128]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S1024x4104, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4104, .f32⟩
  | .hbm, ⟨22, _⟩ => ⟨S16384x8, .f32⟩
  | .hbm, ⟨23, _⟩ => ⟨S16384x512, .f32⟩
  | .hbm, ⟨24, _⟩ => ⟨S16384x4x128, .f32⟩
  | .hbm, ⟨25, _⟩ => ⟨S4x16384x128, .f32⟩
  | .hbm, ⟨26, _⟩ => ⟨S16384x2048, .f32⟩
  | .hbm, ⟨27, _⟩ => ⟨S16384x1024, .f32⟩
  | .hbm, ⟨28, _⟩ => ⟨S16384x512, .f32⟩
  | .hbm, ⟨29, _⟩ => ⟨S_, .f32⟩
  | .hbm, ⟨30, _⟩ => ⟨S16384x120, .f32⟩
  | .hbm, ⟨31, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.S5.RunB.lean ====
module

public import proofs.«01_k».proof.Proof.Gen.KernelIdeal.Frame
public import proofs.«01_k».proof.Proof.Gen.KernelIdeal.Loops

@[expose] public section

set_option maxRecDepth 16384

noncomputable section

namespace Cert.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point is the first of its sequence: the carried state is zeroed. -/
abbrev first (i : grid0.Coords) : Prop := (Scalar.cmpi .ne (Scalar.extui (Scalar.cmpi .eq (BitVec.ofNat 32 (i 2).val) 0#32)) 0#32) = 1#1

set_option maxHeartbeats 4000000 in
/-- One point that is not the first of its sequence, run. -/
def runB (c : Dev nD) (i : grid0.Coords) (arg3 : Memref sig .tc .vmem S1x4096x128 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S1x1x1024x1024 .bf16) (harg6 : arg6.IsWhole) (arg7 : Memref sig .tc .vmem S1x1x2x512 .f32) (harg7 : arg7.IsWhole) (arg8 : Memref sig .tc .vmem S1x4096x128 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S8x1024 .f32) (harg11 : arg11.IsWhole)
    (hc : ¬first i) (x0 : Vec F S1x4096x128 .f32) (x1 : Vec F S1x1x1024x1024 .bf16) (x2 : Vec F S1x1x1024x1024 .bf16) (x3 : Vec F S1x1x1024x1024 .bf16) (x4 : Vec F S1x1x2x512 .f32) (xs1 : Vec F S512x1024 .f32) (xs2 : Vec F S8x1024 .f32) :
    Σ' (L8 : List (View.Piece (Elt F) S1x4096x128 .f32)), { L11 : List (View.Piece (Elt F) S8x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ (∃ f, (arg11.view.loc (c : Thread nD τ) ↦[arg11.view.set]{fullShare} arg11.view.writes (Elt F) f L11) ∗ ⌜f = harg11.unread xs2⌝)) -∗ K ⟨⟩))
          ⊢ wp frame (wpE (defs₀ (F := F)) Variants.none c none) E (cc0_s5 i arg3 harg3 arg4 harg4 arg5 harg5 arg6 harg6 arg7 harg7 arg8 harg8 arg9 harg9 arg10 harg10 arg11 harg11) K } := by
  refine ⟨?_, ?_, fun E K => ?run⟩
  case run =>
    simp only [cc0_s5_eq_skeleton]; unfold cc0_s5_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4
    obtain rfl := harg10.eq_unread hf7; obtain rfl := harg11.eq_unread hf8
    sl_exec_parts (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _, _; isplitr
      swap; · iexact H6
      ipureintro; rfl
    isplitl [H7]
    · iexists _, _; isplitr
      swap; · iexact H7
      ipureintro; rfl
    iexists _; isplitl [H8]; · iexact H8
    ipureintro; rfl

end Cert.S5
-- ==== Proof.S5.RunA.lean ====
module

public import proofs.«01_k».proof.Proof.Gen.KernelIdeal.Frame
public import proofs.«01_k».proof.Proof.S5.RunB

@[expose] public section

set_option maxRecDepth 16384

noncomputable section

namespace Cert.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The first point of a sequence, run. -/
def runA (c : Dev nD) (i : grid0.Coords) (arg3 : Memref sig .tc .vmem S1x4096x128 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S1x1x1024x1024 .bf16) (harg6 : arg6.IsWhole) (arg7 : Memref sig .tc .vmem S1x1x2x512 .f32) (harg7 : arg7.IsWhole) (arg8 : Memref sig .tc .vmem S1x4096x128 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S8x1024 .f32) (harg11 : arg11.IsWhole)
    (hc : first i) (x0 : Vec F S1x4096x128 .f32) (x1 : Vec F S1x1x1024x1024 .bf16) (x2 : Vec F S1x1x1024x1024 .bf16) (x3 : Vec F S1x1x1024x1024 .bf16) (x4 : Vec F S1x1x2x512 .f32) (xs1 : Vec F S512x1024 .f32) (xs2 : Vec F S8x1024 .f32) :
    Σ' (L8 : List (View.Piece (Elt F) S1x4096x128 .f32)), { L11 : List (View.Piece (Elt F) S8x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ (∃ f, (arg11.view.loc (c : Thread nD τ) ↦[arg11.view.set]{fullShare} arg11.view.writes (Elt F) f L11) )) -∗ K ⟨⟩))
          ⊢ wp frame (wpE (defs₀ (F := F)) Variants.none c none) E (cc0_s5 i arg3 harg3 arg4 harg4 arg5 harg5 arg6 harg6 arg7 harg7 arg8 harg8 arg9 harg9 arg10 harg10 arg11 harg11) K } := by
  refine ⟨?_, ?_, fun E K => ?run⟩
  case run =>
    simp only [cc0_s5_eq_skeleton]; unfold cc0_s5_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4
    obtain rfl := harg10.eq_unread hf7; obtain rfl := harg11.eq_unread hf8
    sl_exec_parts (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _, _; isplitr
      swap; · iexact H6
      ipureintro; rfl
    isplitl [H7]
    · iexists _, _; isplitr
      swap; · iexact H7
      ipureintro; rfl
    iexists _; iexact H8

end Cert.S5
-- ==== Proof.S5.Body.lean ====
module

public import proofs.«01_k».proof.Proof.Gen.KernelIdeal.Frame
public import proofs.«01_k».proof.Proof.S5.RunA
public import Idealize.ShloMosaic.Lib.VecWindow
public import Idealize.ShloMosaic.Lib.Pipeline.Value
public import Idealize.ShloMosaic.Lib.ValueIdxCore

@[expose] public section

set_option maxRecDepth 16384

noncomputable section

namespace Cert.S5

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The elements of an array under a rectangle. -/
def rd {s : Shape} {e : EltTy} (x : s.Idx → Elt F e) (r : LoadRect s) : r.shape.Idx → Elt F e := fun j => x (r.idx j)

theorem readAt_unread {sp : Space} {s : Shape} {e : EltTy} (M : Memref sig .tc sp s e) (h : M.IsWhole) (x : s.Idx → Elt F e) (r : LoadRect s) :
    View.readAt (Elt F) M.view r (h.unread x) = rd x r := by
  funext j; rw [View.readAt_apply, h.read_unread]; rfl

theorem readAt_of_read {sp : Space} {s : Shape} {e : EltTy} (v : View sig .tc sp s e) (f : v.ty.Contents (Elt F)) (x : s.Idx → Elt F e)
    (h : v.read (Elt F) f = x) (r : LoadRect s) : View.readAt (Elt F) v r f = rd x r := by
  funext j; rw [View.readAt_apply, h]; rfl

/-- The rows `8 r + j` of a block, as the body loads them. -/
abbrev rows (j : ℕ) (h : ∀ a, S1x512x128.size a = 0 ∨ (![0, j, 0] : Fin 3 → ℕ) a + (![1, 8, 1] : Fin 3 → ℕ) a * (S1x512x128.size a - 1) < S1x4096x128.size a) : LoadRect S1x4096x128 :=
  ⟨![0, j, 0], S1x512x128.size, ![1, 8, 1], h⟩

/-- Eight tokens a row, narrowed. -/
def ub (x0 : Vec F S1x4096x128 .f32) : FVec F S512x1024 .bf16 :=
  k0_pay4 (rd x0 (rows 0 inb_S1x4096x128_S1x512x128_0_0_0_s_1_8_1)) (rd x0 (rows 1 inb_S1x4096x128_S1x512x128_0_1_0_s_1_8_1))
    (rd x0 (rows 2 inb_S1x4096x128_S1x512x128_0_2_0_s_1_8_1)) (rd x0 (rows 3 inb_S1x4096x128_S1x512x128_0_3_0_s_1_8_1))
    (rd x0 (rows 4 inb_S1x4096x128_S1x512x128_0_4_0_s_1_8_1)) (rd x0 (rows 5 inb_S1x4096x128_S1x512x128_0_5_0_s_1_8_1))
    (rd x0 (rows 6 inb_S1x4096x128_S1x512x128_0_6_0_s_1_8_1)) (rd x0 (rows 7 inb_S1x4096x128_S1x512x128_0_7_0_s_1_8_1))

abbrev whole4 : LoadRect S1x1x1024x1024 := (Rect.unit ![0, 0, 0, 0] S1x1x1024x1024.size inb_S1x1x1024x1024_S1x1x1024x1024_0_0_0_0).toLoadRect

/-- What the eight tokens of each row add to the state. -/
def zz (x0 : Vec F S1x4096x128 .f32) (x2 : Vec F S1x1x1024x1024 .bf16) : FVec F S512x1024 .f32 :=
  k0_pay5 (rd x0 (rows 0 inb_S1x4096x128_S1x512x128_0_0_0_s_1_8_1)) (rd x0 (rows 1 inb_S1x4096x128_S1x512x128_0_1_0_s_1_8_1))
    (rd x0 (rows 2 inb_S1x4096x128_S1x512x128_0_2_0_s_1_8_1)) (rd x0 (rows 3 inb_S1x4096x128_S1x512x128_0_3_0_s_1_8_1))
    (rd x0 (rows 4 inb_S1x4096x128_S1x512x128_0_4_0_s_1_8_1)) (rd x0 (rows 5 inb_S1x4096x128_S1x512x128_0_5_0_s_1_8_1))
    (rd x0 (rows 6 inb_S1x4096x128_S1x512x128_0_6_0_s_1_8_1)) (rd x0 (rows 7 inb_S1x4096x128_S1x512x128_0_7_0_s_1_8_1))
    (rd x2 whole4)

abbrev atRe : LoadRect S1x1x2x512 := (Rect.unit (s := S1x1x2x512) ![0, 0, 0, 0] S1x1x1x512.size inb_S1x1x2x512_S1x1x1x512_0_0_0_0).toLoadRect
abbrev atIm : LoadRect S1x1x2x512 := (Rect.unit (s := S1x1x2x512) ![0, 0, 1, 0] S1x1x1x512.size inb_S1x1x2x512_S1x1x1x512_0_0_1_0).toLoadRect
abbrev stRe : LoadRect S8x1024 := (Rect.unit (s := S8x1024) ![0, 0] S1x512.size inb_S8x1024_S1x512_0_0).toLoadRect
abbrev stIm : LoadRect S8x1024 := (Rect.unit (s := S8x1024) ![0, 512] S1x512.size inb_S8x1024_S1x512_0_512).toLoadRect

/-- The state, its real and its imaginary parts, before row `k`. -/
def stt (z : FVec F S512x1024 .f32) (a b : Vec F S1x1x1x512 .f32) (s : Vec F S1x512 .f32 × Vec F S1x512 .f32) : ℕ → Vec F S1x512 .f32 × Vec F S1x512 .f32
  | 0 => s
  | k + 1 => if h : k < k0_t1_loop.trips then
      (k0_pay11 a b (stt z a b s k).1 (stt z a b s k).2 (rd (k0_pay6 z) (Rect.unit (s := S512x1024) (k0_off1 ⟨k, h⟩) S1x512.size (k0_off1_inb ⟨k, h⟩)).toLoadRect),
       k0_pay12 a b (stt z a b s k).1 (stt z a b s k).2 (rd (k0_pay6 z) (Rect.unit (s := S512x1024) (k0_off2 ⟨k, h⟩) S1x512.size (k0_off2_inb ⟨k, h⟩)).toLoadRect))
    else stt z a b s k

/-- The state before each row, side by side. -/
def xp (z : FVec F S512x1024 .f32) (a b : Vec F S1x1x1x512 .f32) (s : Vec F S1x512 .f32 × Vec F S1x512 .f32) : Vec F S512x1024 .f32 := fun y =>
  if h : (y 1).val < 512 then (stt z a b s (y 0).val).1 (ix2 (n0 := 1) (n1 := 512) 0 ⟨(y 1).val, h⟩)
  else (stt z a b s (y 0).val).2 (ix2 (n0 := 1) (n1 := 512) 0 ⟨(y 1).val - 512, by have : (y 1).val < 1024 := (y 1).isLt; omega⟩)

section trip

variable (c : Dev nD) (i : grid0.Coords) (arg3 : Memref sig .tc .vmem S1x4096x128 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S1x1x1024x1024 .bf16) (harg6 : arg6.IsWhole) (arg7 : Memref sig .tc .vmem S1x1x2x512 .f32) (harg7 : arg7.IsWhole) (arg8 : Memref sig .tc .vmem S1x4096x128 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S8x1024 .f32) (harg11 : arg11.IsWhole)
    (v20 : FVec F S512x1024 .bf16) (v23 : FVec F S512x1024 .f32) (a b : Vec F S1x1x1x512 .f32) (z : FVec F S512x1024 .f32)

theorem tripR_eq (f : BufTy.Contents (Elt F) arg9.view.ty) (hf : arg9.view.read (Elt F) f = k0_pay6 z) (k : Fin k0_t1_loop.trips) (acc : Vec F S1x512 .f32 × Vec F S1x512 .f32) :
    tripR_k0_t1 (F := F) Variants.none c none i arg3 harg3 arg4 harg4 arg5 harg5 arg6 harg6 arg7 harg7 arg8 harg8 arg9 harg9 arg10 harg10 arg11 harg11 v20 v23 a b f k acc
      = (k0_pay11 a b acc.1 acc.2 (rd (k0_pay6 z) (Rect.unit (s := S512x1024) (k0_off1 k) S1x512.size (k0_off1_inb k)).toLoadRect),
         k0_pay12 a b acc.1 acc.2 (rd (k0_pay6 z) (Rect.unit (s := S512x1024) (k0_off2 k) S1x512.size (k0_off2_inb k)).toLoadRect)) := by
  rw [← readAt_of_read _ _ _ hf, ← readAt_of_read _ _ _ hf]
  unfold tripR_k0_t1 trip_k0_t1
  rfl

theorem tripL_eq (f : BufTy.Contents (Elt F) arg9.view.ty) (k : Fin k0_t1_loop.trips) (acc : Vec F S1x512 .f32 × Vec F S1x512 .f32) :
    tripL_k0_t1 (F := F) Variants.none c none i arg3 harg3 arg4 harg4 arg5 harg5 arg6 harg6 arg7 harg7 arg8 harg8 arg9 harg9 arg10 harg10 arg11 harg11 v20 v23 a b f k acc
      = [⟨Rect.unit (s := S512x1024) (k0_off2 k) S1x512.size (k0_off2_inb k), k0_pay10 acc.2⟩,
         ⟨Rect.unit (s := S512x1024) (k0_off1 k) S1x512.size (k0_off1_inb k), k0_pay9 acc.1⟩] := by
  unfold tripL_k0_t1 trip_k0_t1
  rfl

theorem st_fst (f : BufTy.Contents (Elt F) arg9.view.ty) (hf : arg9.view.read (Elt F) f = k0_pay6 z) (s : Vec F S1x512 .f32 × Vec F S1x512 .f32) :
    ∀ k, k ≤ k0_t1_loop.trips → (st_k0_t1 (F := F) Variants.none c none i arg3 harg3 arg4 harg4 arg5 harg5 arg6 harg6 arg7 harg7 arg8 harg8 arg9 harg9 arg10 harg10 arg11 harg11 v20 v23 a b f s k).1 = stt z a b s k
  | 0, _ => rfl
  | k + 1, h => by
    have ih := st_fst f hf s k (by omega)
    rw [st_k0_t1_succ Variants.none c none i arg3 harg3 arg4 harg4 arg5 harg5 arg6 harg6 arg7 harg7 arg8 harg8 arg9 harg9 arg10 harg10 arg11 harg11 v20 v23 a b f s ⟨k, h⟩]
    rw [stt, dif_pos (show k < k0_t1_loop.trips from h)]
    dsimp only
    rw [ih, tripR_eq c i arg3 harg3 arg4 harg4 arg5 harg5 arg6 harg6 arg7 harg7 arg8 harg8 arg9 harg9 arg10 harg10 arg11 harg11 v20 v23 a b z f hf]

theorem xp_lo (s : Vec F S1x512 .f32 × Vec F S1x512 .f32) (y : S512x1024.Idx) (k : ℕ) (x : S1x512.Idx) (h0 : (y 0).val = k) (h1 : (y 1).val = (x 1).val) :
    xp z a b s y = (stt z a b s k).1 x := by
  have hx : (x 1).val < 512 := (x 1).isLt
  unfold xp
  rw [dif_pos (show (y 1).val < 512 by omega), h0]
  have h : (x 0).val < 1 := (x 0).isLt
  refine congrArg _ (funext fun a' => ?_)
  match a' with
  | ⟨0, _⟩ => exact Fin.ext (by show 0 = (x 0).val; omega)
  | ⟨1, _⟩ => exact Fin.ext h1

theorem xp_hi (s : Vec F S1x512 .f32 × Vec F S1x512 .f32) (y : S512x1024.Idx) (k : ℕ) (x : S1x512.Idx) (h0 : (y 0).val = k) (h1 : (y 1).val = 512 + (x 1).val) :
    xp z a b s y = (stt z a b s k).2 x := by
  unfold xp
  rw [dif_neg (show ¬(y 1).val < 512 by omega), h0]
  have h : (x 0).val < 1 := (x 0).isLt
  refine congrArg _ (funext fun a' => ?_)
  match a' with
  | ⟨0, _⟩ => exact Fin.ext (by show 0 = (x 0).val; omega)
  | ⟨1, _⟩ => exact Fin.ext (by show (y 1).val - 512 = (x 1).val; omega)

theorem pay9_eq (v : Vec F S1x512 .f32) : k0_pay9 v = v := shapeCast_self _ _
theorem pay10_eq (v : Vec F S1x512 .f32) : k0_pay10 v = v := shapeCast_self _ _
theorem pay13_eq (v : Vec F S1x512 .f32) : k0_pay13 v = v := shapeCast_self _ _
theorem pay14_eq (v : Vec F S1x512 .f32) : k0_pay14 v = v := shapeCast_self _ _
theorem pay6_eq (v : FVec F S512x1024 .f32) : k0_pay6 v = v := shapeCast_self _ _

theorem trip_pieces (s : Vec F S1x512 .f32 × Vec F S1x512 .f32) (k : Fin k0_t1_loop.trips) :
    ∀ p ∈ ([⟨Rect.unit (s := S512x1024) (k0_off2 k) S1x512.size (k0_off2_inb k), k0_pay10 (stt z a b s k.val).2⟩,
         ⟨Rect.unit (s := S512x1024) (k0_off1 k) S1x512.size (k0_off1_inb k), k0_pay9 (stt z a b s k.val).1⟩] : List (View.Piece (Elt F) S512x1024 .f32)),
      ∀ x : p.1.shape.Idx, p.2 x = xp z a b s (p.1.emb x) := by
  intro p hp
  have e10 : (k0_off1 k) 0 = k.val := by rw [Gen.k0_off1_eq]; rfl
  have e11 : (k0_off1 k) 1 = 0 := by rw [Gen.k0_off1_eq]; rfl
  have e20 : (k0_off2 k) 0 = k.val := by rw [Gen.k0_off2_eq]; rfl
  have e21 : (k0_off2 k) 1 = 512 := by rw [Gen.k0_off2_eq]; rfl
  simp only [List.mem_cons, List.not_mem_nil, or_false] at hp
  rcases hp with rfl | rfl
  · intro (x : S1x512.Idx)
    have h : (x 0).val < 1 := (x 0).isLt
    rw [pay10_eq]
    refine (xp_hi a b z s _ k.val x ?_ ?_).symm
    · show (k0_off2 k) 0 + 1 * (x 0).val = k.val; omega
    · show (k0_off2 k) 1 + 1 * (x 1).val = 512 + (x 1).val; omega
  · intro (x : S1x512.Idx)
    have h : (x 0).val < 1 := (x 0).isLt
    rw [pay9_eq]
    refine (xp_lo a b z s _ k.val x ?_ ?_).symm
    · show (k0_off1 k) 0 + 1 * (x 0).val = k.val; omega
    · show (k0_off1 k) 1 + 1 * (x 1).val = (x 1).val; omega

theorem trip_cover (w1 w2 : Vec F S1x512 .f32) (k : Fin k0_t1_loop.trips) (y : S512x1024.Idx) (hy : (y 0).val = k.val) :
    ∃ p ∈ ([⟨Rect.unit (s := S512x1024) (k0_off2 k) S1x512.size (k0_off2_inb k), w2⟩,
         ⟨Rect.unit (s := S512x1024) (k0_off1 k) S1x512.size (k0_off1_inb k), w1⟩] : List (View.Piece (Elt F) S512x1024 .f32)), y ∈ p.1.set := by
  have e10 : (k0_off1 k) 0 = k.val := by rw [Gen.k0_off1_eq]; rfl
  have e11 : (k0_off1 k) 1 = 0 := by rw [Gen.k0_off1_eq]; rfl
  have e20 : (k0_off2 k) 0 = k.val := by rw [Gen.k0_off2_eq]; rfl
  have e21 : (k0_off2 k) 1 = 512 := by rw [Gen.k0_off2_eq]; rfl
  have hy1 : (y 1).val < 1024 := (y 1).isLt
  by_cases hlt : (y 1).val < 512
  · refine ⟨_, List.mem_cons_of_mem _ List.mem_cons_self, ?_⟩
    rw [← (Rect.unit (s := S512x1024) (k0_off1 k) S1x512.size (k0_off1_inb k)).emb_eq_of_coords (ix2 (n0 := 1) (n1 := 512) 0 ⟨(y 1).val, hlt⟩) y ?_]
    · rw [← Rect.map_emb_univ]; exact Finset.mem_map_of_mem _ (Finset.mem_univ _)
    · intro a'
      match a' with
      | ⟨0, _⟩ => show (y 0).val = (k0_off1 k) 0 + 1 * 0; omega
      | ⟨1, _⟩ => show (y 1).val = (k0_off1 k) 1 + 1 * (y 1).val; omega
  · refine ⟨_, List.mem_cons_self, ?_⟩
    rw [← (Rect.unit (s := S512x1024) (k0_off2 k) S1x512.size (k0_off2_inb k)).emb_eq_of_coords (ix2 (n0 := 1) (n1 := 512) 0 ⟨(y 1).val - 512, by omega⟩) y ?_]
    · rw [← Rect.map_emb_univ]; exact Finset.mem_map_of_mem _ (Finset.mem_univ _)
    · intro a'
      match a' with
      | ⟨0, _⟩ => show (y 0).val = (k0_off2 k) 0 + 1 * 0; omega
      | ⟨1, _⟩ => show (y 1).val = (k0_off2 k) 1 + 1 * ((y 1).val - 512); omega

theorem st_snd (f : BufTy.Contents (Elt F) arg9.view.ty) (hf : arg9.view.read (Elt F) f = k0_pay6 z) (s : Vec F S1x512 .f32 × Vec F S1x512 .f32) :
    ∀ k, k ≤ k0_t1_loop.trips →
      (∀ p ∈ (st_k0_t1 (F := F) Variants.none c none i arg3 harg3 arg4 harg4 arg5 harg5 arg6 harg6 arg7 harg7 arg8 harg8 arg9 harg9 arg10 harg10 arg11 harg11 v20 v23 a b f s k).2, ∀ x : p.1.shape.Idx, p.2 x = xp z a b s (p.1.emb x))
      ∧ ∀ y : S512x1024.Idx, (y 0).val < k → ∃ p ∈ (st_k0_t1 (F := F) Variants.none c none i arg3 harg3 arg4 harg4 arg5 harg5 arg6 harg6 arg7 harg7 arg8 harg8 arg9 harg9 arg10 harg10 arg11 harg11 v20 v23 a b f s k).2, y ∈ p.1.set
  | 0, _ => ⟨fun p hp => absurd hp List.not_mem_nil, fun y h => absurd h (Nat.not_lt_zero _)⟩
  | k + 1, h => by
    obtain ⟨ih1, ih2⟩ := st_snd f hf s k (by omega)
    rw [st_k0_t1_succ Variants.none c none i arg3 harg3 arg4 harg4 arg5 harg5 arg6 harg6 arg7 harg7 arg8 harg8 arg9 harg9 arg10 harg10 arg11 harg11 v20 v23 a b f s ⟨k, h⟩]
    dsimp only
    rw [st_fst c i arg3 harg3 arg4 harg4 arg5 harg5 arg6 harg6 arg7 harg7 arg8 harg8 arg9 harg9 arg10 harg10 arg11 harg11 v20 v23 a b z f hf s k (by omega), tripL_eq c i arg3 harg3 arg4 harg4 arg5 harg5 arg6 harg6 arg7 harg7 arg8 harg8 arg9 harg9 arg10 harg10 arg11 harg11 v20 v23 a b]
    constructor
    · intro p hp
      rcases List.mem_append.mp hp with hp | hp
      · exact trip_pieces a b z s ⟨k, h⟩ p hp
      · exact ih1 p hp
    · intro y hy
      by_cases hk : (y 0).val < k
      · obtain ⟨p, hp, hm⟩ := ih2 y hk
        exact ⟨p, List.mem_append_right _ hp, hm⟩
      · obtain ⟨p, hp, hm⟩ := trip_cover (k0_pay9 (stt z a b s k).1) (k0_pay10 (stt z a b s k).2) ⟨k, h⟩ y (by show (y 0).val = k; omega)
        exact ⟨p, List.mem_append_left _ hp, hm⟩

theorem trips_eq : k0_t1_loop.trips = 512 := by decide +kernel

/-- After the loop the second scratch holds the state before every row. -/
theorem st_read (f : BufTy.Contents (Elt F) arg9.view.ty) (hf : arg9.view.read (Elt F) f = k0_pay6 z) (s : Vec F S1x512 .f32 × Vec F S1x512 .f32)
    (g : BufTy.Contents (Elt F) arg10.view.ty) :
    arg10.view.read (Elt F) (arg10.view.writes (Elt F) g (st_k0_t1 (F := F) Variants.none c none i arg3 harg3 arg4 harg4 arg5 harg5 arg6 harg6 arg7 harg7 arg8 harg8 arg9 harg9 arg10 harg10 arg11 harg11 v20 v23 a b f s k0_t1_loop.trips).2) = xp z a b s := by
  funext y
  obtain ⟨h1, h2⟩ := st_snd c i arg3 harg3 arg4 harg4 arg5 harg5 arg6 harg6 arg7 harg7 arg8 harg8 arg9 harg9 arg10 harg10 arg11 harg11 v20 v23 a b z f hf s k0_t1_loop.trips le_rfl
  exact View.read_writes_apply_of_pieces _ _ _ _ h1 y (h2 y (by rw [trips_eq]; exact (y 0).isLt))

end trip

attribute [irreducible] stt xp

end Cert.S5
-- ==== Proof.S5.Step.lean ====
module

public import proofs.«01_k».proof.Proof.Gen.KernelIdeal.Frame
public import proofs.«01_k».proof.Proof.S5.Body

@[expose] public section

set_option maxRecDepth 16384

noncomputable section

namespace Cert.S5

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev tLo : LoadRect S1x1x1024x1024 := (Rect.unit (s := S1x1x1024x1024) ![0, 0, 0, 0] S1x1x512x512.size inb_S1x1x1024x1024_S1x1x512x512_0_0_0_0).toLoadRect
abbrev tHi : LoadRect S1x1x1024x1024 := (Rect.unit (s := S1x1x1024x1024) ![0, 0, 0, 512] S1x1x1024x512.size inb_S1x1x1024x1024_S1x1x1024x512_0_0_0_512).toLoadRect

/-- The carried state as the loop reads it. -/
def st0 (s : Vec F S8x1024 .f32) : Vec F S1x512 .f32 × Vec F S1x512 .f32 := (rd s stRe, rd s stIm)

/-- The outputs of a block, eight tokens a row. -/
def core (x0 : Vec F S1x4096x128 .f32) (x1 x2 x3 : Vec F S1x1x1024x1024 .bf16) (x4 : Vec F S1x1x2x512 .f32) (s : Vec F S8x1024 .f32) : FVec F S512x1024 .f32 :=
  k0_pay16 (k0_pay15 (ub x0) (rd x1 tLo) (rd x1 tHi)) (xp (zz x0 x2) (rd x4 atRe) (rd x4 atIm) (st0 s)) (rd x3 whole4)

/-- Token `8 r + j` of a block is row `r`, lanes `128 j …`. -/
def spread (v : FVec F S512x1024 .f32) : Vec F S1x4096x128 .f32 := fun y =>
  v (ix2 (n0 := 512) (n1 := 1024) ⟨(y 1).val / 8, by have : (y 1).val < 4096 := (y 1).isLt; omega⟩
    ⟨(y 1).val % 8 * 128 + (y 2).val, by have : (y 2).val < 128 := (y 2).isLt; omega⟩)

/-- The output block of a point. -/
def out (x0 : Vec F S1x4096x128 .f32) (x1 x2 x3 : Vec F S1x1x1024x1024 .bf16) (x4 : Vec F S1x1x2x512 .f32) (s : Vec F S8x1024 .f32) : Vec F S1x4096x128 .f32 :=
  spread (core x0 x1 x2 x3 x4 s)

/-- The state a point leaves. -/
def nxt (x0 : Vec F S1x4096x128 .f32) (x2 : Vec F S1x1x1024x1024 .bf16) (x4 : Vec F S1x1x2x512 .f32) (s : Vec F S8x1024 .f32) : Vec F S8x1024 .f32 := fun y =>
  if (y 0).val = 0 then
    if h : (y 1).val < 512 then (stt (zz x0 x2) (rd x4 atRe) (rd x4 atIm) (st0 s) k0_t1_loop.trips).1 (ix2 (n0 := 1) (n1 := 512) 0 ⟨(y 1).val, h⟩)
    else (stt (zz x0 x2) (rd x4 atRe) (rd x4 atIm) (st0 s) k0_t1_loop.trips).2 (ix2 (n0 := 1) (n1 := 512) 0 ⟨(y 1).val - 512, by have : (y 1).val < 1024 := (y 1).isLt; omega⟩)
  else s y

theorem lane_apply (v : FVec F S512x1024 .f32) (o : ℕ) (hs : S512x1024.Slices ![0, o] S512x128) (hc : S512x128.ShapeCasts S1x512x128)
    (x : S1x512x128.Idx) (ho : o + 128 ≤ 1024) :
    shapeCast S1x512x128 (extractStridedSlice S512x128 ![0, o] v hs) hc x
      = v (ix2 (n0 := 512) (n1 := 1024) (x 1) ⟨o + (x 2).val, by have : (x 2).val < 128 := (x 2).isLt; omega⟩) := by
  refine (shapeCast_addUnit_apply ![512, 128] _ hc x).trans ?_
  refine extractStridedSlice_apply ![0, o] v hs _ _ fun a => ?_
  match a with
  | ⟨0, _⟩ => show (x 1).val = 0 + (x 1).val; omega
  | ⟨1, _⟩ => rfl

/-- The eight stores of the output, the newest first. -/
def outPieces (v48 : FVec F S512x1024 .f32) (v49 : Vec F S512x1024 .f32) (v51 : Vec F S1x1x1024x1024 .bf16) : List (View.Piece (Elt F) S1x4096x128 .f32) :=
  [
     ⟨⟨rows 7 inb_S1x4096x128_S1x512x128_0_7_0_s_1_8_1, spos_1_8_1⟩, k0_pay2 (k0_pay16 v48 v49 v51)⟩,
     ⟨⟨rows 6 inb_S1x4096x128_S1x512x128_0_6_0_s_1_8_1, spos_1_8_1⟩, k0_pay1 (k0_pay16 v48 v49 v51)⟩,
     ⟨⟨rows 5 inb_S1x4096x128_S1x512x128_0_5_0_s_1_8_1, spos_1_8_1⟩, k0_pay22 v48 v49 v51⟩,
     ⟨⟨rows 4 inb_S1x4096x128_S1x512x128_0_4_0_s_1_8_1, spos_1_8_1⟩, k0_pay21 v48 v49 v51⟩,
     ⟨⟨rows 3 inb_S1x4096x128_S1x512x128_0_3_0_s_1_8_1, spos_1_8_1⟩, k0_pay20 v48 v49 v51⟩,
     ⟨⟨rows 2 inb_S1x4096x128_S1x512x128_0_2_0_s_1_8_1, spos_1_8_1⟩, k0_pay19 v48 v49 v51⟩,
     ⟨⟨rows 1 inb_S1x4096x128_S1x512x128_0_1_0_s_1_8_1, spos_1_8_1⟩, k0_pay18 v48 v49 v51⟩,
     ⟨⟨rows 0 inb_S1x4096x128_S1x512x128_0_0_0_s_1_8_1, spos_1_8_1⟩, k0_pay17 v48 v49 v51⟩]

theorem piece_eq (v : FVec F S512x1024 .f32) (j o : ℕ) (hj : j < 8) (ho : o = 128 * j) (h) (hs : S512x1024.Slices ![0, o] S512x128) (hc : S512x128.ShapeCasts S1x512x128)
    (x : S1x512x128.Idx) :
    shapeCast S1x512x128 (extractStridedSlice S512x128 ![0, o] v hs) hc x
      = spread v ((⟨rows j h, spos_1_8_1⟩ : Rect S1x4096x128).emb x) := by
  rw [lane_apply v o hs hc x (by omega)]
  have h1 : (x 1).val < 512 := (x 1).isLt
  have h2 : (x 2).val < 128 := (x 2).isLt
  have e1 : (((⟨rows j h, spos_1_8_1⟩ : Rect S1x4096x128).emb x) 1).val = j + 8 * (x 1).val := rfl
  have e2 : (((⟨rows j h, spos_1_8_1⟩ : Rect S1x4096x128).emb x) 2).val = 0 + 1 * (x 2).val := rfl
  unfold spread
  refine congrArg v (funext fun a => ?_)
  match a with
  | ⟨0, _⟩ => refine Fin.ext ?_; show (x 1).val = _ / 8; rw [e1]; omega
  | ⟨1, _⟩ => refine Fin.ext ?_; show o + (x 2).val = _ % 8 * 128 + _; rw [e1, e2]; omega

theorem outPieces_apply (v48 : FVec F S512x1024 .f32) (v49 : Vec F S512x1024 .f32) (v51 : Vec F S1x1x1024x1024 .bf16) :
    ∀ p ∈ outPieces v48 v49 v51, ∀ x : p.1.shape.Idx, p.2 x = spread (k0_pay16 v48 v49 v51) (p.1.emb x) := by
  intro p hp
  unfold outPieces at hp
  simp only [List.mem_cons, List.not_mem_nil, or_false] at hp
  rcases hp with rfl | rfl | rfl | rfl | rfl | rfl | rfl | rfl
  · exact fun x => piece_eq (k0_pay16 v48 v49 v51) 7 896 (by decide) rfl _ slices_S512x1024_o0_896_S512x128 shapeCasts_S512x128_S1x512x128 x
  · exact fun x => piece_eq (k0_pay16 v48 v49 v51) 6 768 (by decide) rfl _ slices_S512x1024_o0_768_S512x128 shapeCasts_S512x128_S1x512x128 x
  · exact fun x => piece_eq (k0_pay16 v48 v49 v51) 5 640 (by decide) rfl _ slices_S512x1024_o0_640_S512x128 shapeCasts_S512x128_S1x512x128 x
  · exact fun x => piece_eq (k0_pay16 v48 v49 v51) 4 512 (by decide) rfl _ slices_S512x1024_o0_512_S512x128 shapeCasts_S512x128_S1x512x128 x
  · exact fun x => piece_eq (k0_pay16 v48 v49 v51) 3 384 (by decide) rfl _ slices_S512x1024_o0_384_S512x128 shapeCasts_S512x128_S1x512x128 x
  · exact fun x => piece_eq (k0_pay16 v48 v49 v51) 2 256 (by decide) rfl _ slices_S512x1024_o0_256_S512x128 shapeCasts_S512x128_S1x512x128 x
  · exact fun x => piece_eq (k0_pay16 v48 v49 v51) 1 128 (by decide) rfl _ slices_S512x1024_o0_128_S512x128 shapeCasts_S512x128_S1x512x128 x
  · exact fun x => piece_eq (k0_pay16 v48 v49 v51) 0 0 (by decide) rfl _ slices_S512x1024_o0_0_S512x128 shapeCasts_S512x128_S1x512x128 x

theorem rows_mem (j : ℕ) (h) (y : S1x4096x128.Idx) (hy : (y 1).val % 8 = j) : y ∈ (⟨rows j h, spos_1_8_1⟩ : Rect S1x4096x128).set := by
  have h0 : (y 0).val < 1 := (y 0).isLt
  have h1 : (y 1).val < 4096 := (y 1).isLt
  have h2 : (y 2).val < 128 := (y 2).isLt
  rw [← (⟨rows j h, spos_1_8_1⟩ : Rect S1x4096x128).emb_eq_of_coords (ix3 (n0 := 1) (n1 := 512) (n2 := 128) 0 ⟨(y 1).val / 8, by omega⟩ ⟨(y 2).val, h2⟩) y ?_]
  · rw [← Rect.map_emb_univ]; exact Finset.mem_map_of_mem _ (Finset.mem_univ _)
  · intro a
    match a with
    | ⟨0, _⟩ => show (y 0).val = 0 + 1 * 0; omega
    | ⟨1, _⟩ => show (y 1).val = j + 8 * ((y 1).val / 8); omega
    | ⟨2, _⟩ => show (y 2).val = 0 + 1 * (y 2).val; omega

theorem outPieces_cover (v48 : FVec F S512x1024 .f32) (v49 : Vec F S512x1024 .f32) (v51 : Vec F S1x1x1024x1024 .bf16) (y : S1x4096x128.Idx) :
    ∃ p ∈ outPieces v48 v49 v51, y ∈ p.1.set := by
  have h8 : (y 1).val % 8 < 8 := Nat.mod_lt _ (by decide)
  unfold outPieces
  simp only [List.mem_cons, List.not_mem_nil, or_false, exists_eq_or_imp, exists_eq_left]
  rcases (show (y 1).val % 8 = 7 ∨ (y 1).val % 8 = 6 ∨ (y 1).val % 8 = 5 ∨ (y 1).val % 8 = 4 ∨ (y 1).val % 8 = 3 ∨ (y 1).val % 8 = 2 ∨ (y 1).val % 8 = 1 ∨ (y 1).val % 8 = 0 by omega) with e | e | e | e | e | e | e | e
  · exact Or.inl (rows_mem 7 _ y e)
  · exact Or.inr (Or.inl (rows_mem 6 _ y e))
  · exact Or.inr (Or.inr (Or.inl (rows_mem 5 _ y e)))
  · exact Or.inr (Or.inr (Or.inr (Or.inl (rows_mem 4 _ y e))))
  · exact Or.inr (Or.inr (Or.inr (Or.inr (Or.inl (rows_mem 3 _ y e)))))
  · exact Or.inr (Or.inr (Or.inr (Or.inr (Or.inr (Or.inl (rows_mem 2 _ y e))))))
  · exact Or.inr (Or.inr (Or.inr (Or.inr (Or.inr (Or.inr (Or.inl (rows_mem 1 _ y e)))))))
  · exact Or.inr (Or.inr (Or.inr (Or.inr (Or.inr (Or.inr (Or.inr (rows_mem 0 _ y e)))))))

theorem out_read {sp : Space} (v : View sig .tc sp S1x4096x128 .f32) (f : v.ty.Contents (Elt F)) (v48 : FVec F S512x1024 .f32) (v49 : Vec F S512x1024 .f32) (v51 : Vec F S1x1x1024x1024 .bf16) :
    v.read (Elt F) (v.writes (Elt F) f (outPieces v48 v49 v51)) = spread (k0_pay16 v48 v49 v51) :=
  funext fun y => View.read_writes_apply_of_pieces _ _ _ _ (outPieces_apply v48 v49 v51) y (outPieces_cover v48 v49 v51 y)

/-- The two stores of the state over what the rest held. -/
theorem nxt_read {sp : Space} (v : View sig .tc sp S8x1024 .f32) (f : v.ty.Contents (Elt F)) (L : List (View.Piece (Elt F) S8x1024 .f32))
    (x0 : Vec F S1x4096x128 .f32) (x2 : Vec F S1x1x1024x1024 .bf16) (x4 : Vec F S1x1x2x512 .f32) (s : Vec F S8x1024 .f32) (p : Vec F S1x512 .f32 × Vec F S1x512 .f32)
    (hp : p = stt (zz x0 x2) (rd x4 atRe) (rd x4 atIm) (st0 s) k0_t1_loop.trips)
    (hf : v.read (Elt F) (v.writes (Elt F) f L) = s) :
    v.read (Elt F) (v.writes (Elt F) f (⟨Rect.unit (s := S8x1024) ![0, 512] S1x512.size inb_S8x1024_S1x512_0_512, k0_pay14 p.2⟩
      :: ⟨Rect.unit (s := S8x1024) ![0, 0] S1x512.size inb_S8x1024_S1x512_0_0, k0_pay13 p.1⟩ :: L)) = nxt x0 x2 x4 s := by
  funext y
  have h1 : (y 1).val < 1024 := (y 1).isLt
  rw [pay13_eq, pay14_eq]
  unfold nxt
  rw [← hp]
  by_cases h0 : (y 0).val = 0
  · rw [if_pos h0]
    by_cases hlt : (y 1).val < 512
    · rw [dif_pos hlt]
      rw [View.read_writes_cons_miss_of_axis v f _ _ y 1 512 512 rfl rfl rfl (Or.inl hlt)]
      exact View.read_writes_cons_hit_of_coords v f (Rect.unit (s := S8x1024) ![0, 0] S1x512.size inb_S8x1024_S1x512_0_0) _ _ (ix2 (n0 := 1) (n1 := 512) 0 ⟨(y 1).val, hlt⟩) y fun a => by
        match a with
        | ⟨0, _⟩ => show (y 0).val = 0 + 1 * 0; omega
        | ⟨1, _⟩ => show (y 1).val = 0 + 1 * (y 1).val; omega
    · rw [dif_neg hlt]
      exact View.read_writes_cons_hit_of_coords v f (Rect.unit (s := S8x1024) ![0, 512] S1x512.size inb_S8x1024_S1x512_0_512) _ _ (ix2 (n0 := 1) (n1 := 512) 0 ⟨(y 1).val - 512, by omega⟩) y fun a => by
        match a with
        | ⟨0, _⟩ => show (y 0).val = 0 + 1 * 0; omega
        | ⟨1, _⟩ => show (y 1).val = 512 + 1 * ((y 1).val - 512); omega
  · rw [if_neg h0]
    rw [View.read_writes_cons_miss_of_axis v f _ _ y 0 0 1 rfl rfl rfl (Or.inr (by omega)),
      View.read_writes_cons_miss_of_axis v f _ _ y 0 0 1 rfl rfl rfl (Or.inr (by omega)), hf]

theorem rd_whole10 (x : Vec F S512x1024 .f32) : rd x (Rect.unit (s := S512x1024) ![0, 0] S512x1024.size inb_S512x1024_S512x1024_0_0).toLoadRect = x := by
  funext y
  unfold rd
  refine congrArg x (funext fun a => ?_)
  match a with
  | ⟨0, _⟩ => exact Fin.ext (by show 0 + 1 * (y 0).val = (y 0).val; omega)
  | ⟨1, _⟩ => exact Fin.ext (by show 0 + 1 * (y 1).val = (y 1).val; omega)

section point

variable (c : Dev nD) (i : grid0.Coords) (arg3 : Memref sig .tc .vmem S1x4096x128 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S1x1x1024x1024 .bf16) (harg6 : arg6.IsWhole) (arg7 : Memref sig .tc .vmem S1x1x2x512 .f32) (harg7 : arg7.IsWhole) (arg8 : Memref sig .tc .vmem S1x4096x128 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S8x1024 .f32) (harg11 : arg11.IsWhole)
    (x0 : Vec F S1x4096x128 .f32) (x1 x2 x3 : Vec F S1x1x1024x1024 .bf16) (x4 : Vec F S1x1x2x512 .f32) (xs1 : Vec F S512x1024 .f32)

theorem core_of_runs (f : BufTy.Contents (Elt F) arg9.view.ty) (g : BufTy.Contents (Elt F) arg10.view.ty)
    (v20 : FVec F S512x1024 .bf16) (v23 : FVec F S512x1024 .f32) (a b : Vec F S1x1x1x512 .f32) (s : Vec F S8x1024 .f32) (z : FVec F S512x1024 .f32)
    (hf : arg9.view.read (Elt F) f = k0_pay6 z) :
    View.readAt (Elt F) arg10.view (Rect.unit (s := S512x1024) ![0, 0] S512x1024.size inb_S512x1024_S512x1024_0_0).toLoadRect
      (arg10.view.writes (Elt F) g (st_k0_t1 (F := F) Variants.none c none i arg3 harg3 arg4 harg4 arg5 harg5 arg6 harg6 arg7 harg7 arg8 harg8 arg9 harg9 arg10 harg10 arg11 harg11 v20 v23 a b f (st0 s) k0_t1_loop.trips).2)
      = xp z a b (st0 s) := by
  rw [readAt_of_read _ _ _ (st_read c i arg3 harg3 arg4 harg4 arg5 harg5 arg6 harg6 arg7 harg7 arg8 harg8 arg9 harg9 arg10 harg10 arg11 harg11 v20 v23 a b z f hf (st0 s) g), rd_whole10]

theorem outB (hc : ¬first i) (s : Vec F S8x1024 .f32) (f : BufTy.Contents (Elt F) arg8.view.ty) :
    arg8.view.read (Elt F) (arg8.view.writes (Elt F) f (runB c i arg3 harg3 arg4 harg4 arg5 harg5 arg6 harg6 arg7 harg7 arg8 harg8 arg9 harg9 arg10 harg10 arg11 harg11 hc x0 x1 x2 x3 x4 xs1 s).1) = out x0 x1 x2 x3 x4 s := by
  refine Eq.trans (congrArg (fun L => arg8.view.read (Elt F) (arg8.view.writes (Elt F) f L)) ?_) (out_read arg8.view f (k0_pay15 (ub x0) (rd x1 tLo) (rd x1 tHi)) (xp (zz x0 x2) (rd x4 atRe) (rd x4 atIm) (st0 s)) (rd x3 whole4))
  dsimp only [runB]
  sl_unfold_run_names
  simp only [readAt_unread]
  have key := core_of_runs c i arg3 harg3 arg4 harg4 arg5 harg5 arg6 harg6 arg7 harg7 arg8 harg8 arg9 harg9 arg10 harg10 arg11 harg11 (arg9.view.writes (Elt F) arg9.view.junk [⟨Rect.unit (s := S512x1024) ![0, 0] S512x1024.size inb_S512x1024_S512x1024_0_0, k0_pay6 (zz x0 x2)⟩])
    (harg10.unread xs1) (ub x0) (zz x0 x2) (rd x4 atRe) (rd x4 atIm) s (zz x0 x2) (View.read_writes_full _ _ _ _ _)
  rw [← key]
  rfl

theorem nxtB (hc : ¬first i) (s : Vec F S8x1024 .f32) :
    arg11.view.read (Elt F) (arg11.view.writes (Elt F) (harg11.unread s) (runB c i arg3 harg3 arg4 harg4 arg5 harg5 arg6 harg6 arg7 harg7 arg8 harg8 arg9 harg9 arg10 harg10 arg11 harg11 hc x0 x1 x2 x3 x4 xs1 s).2.1) = nxt x0 x2 x4 s := by
  have key := st_fst c i arg3 harg3 arg4 harg4 arg5 harg5 arg6 harg6 arg7 harg7 arg8 harg8 arg9 harg9 arg10 harg10 arg11 harg11 (ub x0) (zz x0 x2) (rd x4 atRe) (rd x4 atIm) (zz x0 x2) (arg9.view.writes (Elt F) arg9.view.junk [⟨Rect.unit (s := S512x1024) ![0, 0] S512x1024.size inb_S512x1024_S512x1024_0_0, k0_pay6 (zz x0 x2)⟩])
    (View.read_writes_full _ _ _ _ _) (st0 s) k0_t1_loop.trips le_rfl
  refine Eq.trans (congrArg (fun L => arg11.view.read (Elt F) (arg11.view.writes (Elt F) (harg11.unread s) L)) ?_) (nxt_read arg11.view (harg11.unread s) [] x0 x2 x4 s _ key (harg11.read_unread s))
  dsimp only [runB]
  sl_unfold_run_names
  simp only [readAt_unread]
  rfl

theorem zero_st0 (M : Memref sig .tc .vmem S8x1024 .f32) :
    ((M.view.readCov (Val := Elt F) [⟨Rect.unit (s := S8x1024) ![0, 0] S8x1024.size inb_S8x1024_S8x1024_0_0, k0_pay3⟩] stRe,
      M.view.readCov (Val := Elt F) [⟨Rect.unit (s := S8x1024) ![0, 0] S8x1024.size inb_S8x1024_S8x1024_0_0, k0_pay3⟩] stIm) : Vec F S1x512 .f32 × Vec F S1x512 .f32) = st0 k0_pay3 := by
  have h : ∀ r, M.view.readCov (Val := Elt F) [⟨Rect.unit (s := S8x1024) ![0, 0] S8x1024.size inb_S8x1024_S8x1024_0_0, k0_pay3⟩] r = rd k0_pay3 r := fun r =>
    readAt_of_read _ _ _ (View.read_writes_full M.view _ _ _ _) r
  rw [h, h]
  rfl

theorem outA (hc : first i) (xs2 : Vec F S8x1024 .f32) (f : BufTy.Contents (Elt F) arg8.view.ty) :
    arg8.view.read (Elt F) (arg8.view.writes (Elt F) f (runA c i arg3 harg3 arg4 harg4 arg5 harg5 arg6 harg6 arg7 harg7 arg8 harg8 arg9 harg9 arg10 harg10 arg11 harg11 hc x0 x1 x2 x3 x4 xs1 xs2).1) = out x0 x1 x2 x3 x4 k0_pay3 := by
  refine Eq.trans (congrArg (fun L => arg8.view.read (Elt F) (arg8.view.writes (Elt F) f L)) ?_) (out_read arg8.view f (k0_pay15 (ub x0) (rd x1 tLo) (rd x1 tHi)) (xp (zz x0 x2) (rd x4 atRe) (rd x4 atIm) (st0 k0_pay3)) (rd x3 whole4))
  dsimp only [runA]
  sl_unfold_run_names
  simp only [readAt_unread]
  have key := core_of_runs c i arg3 harg3 arg4 harg4 arg5 harg5 arg6 harg6 arg7 harg7 arg8 harg8 arg9 harg9 arg10 harg10 arg11 harg11 (arg9.view.writes (Elt F) arg9.view.junk [⟨Rect.unit (s := S512x1024) ![0, 0] S512x1024.size inb_S512x1024_S512x1024_0_0, k0_pay6 (zz x0 x2)⟩])
    (harg10.unread xs1) (ub x0) (zz x0 x2) (rd x4 atRe) (rd x4 atIm) k0_pay3 (zz x0 x2) (View.read_writes_full _ _ _ _ _)
  rw [← key, ← zero_st0 arg11]
  rfl

theorem nxtA (hc : first i) (xs2 : Vec F S8x1024 .f32) (g : BufTy.Contents (Elt F) arg11.view.ty) :
    arg11.view.read (Elt F) (arg11.view.writes (Elt F) g (runA c i arg3 harg3 arg4 harg4 arg5 harg5 arg6 harg6 arg7 harg7 arg8 harg8 arg9 harg9 arg10 harg10 arg11 harg11 hc x0 x1 x2 x3 x4 xs1 xs2).2.1) = nxt x0 x2 x4 k0_pay3 := by
  have key := st_fst c i arg3 harg3 arg4 harg4 arg5 harg5 arg6 harg6 arg7 harg7 arg8 harg8 arg9 harg9 arg10 harg10 arg11 harg11 (ub x0) (zz x0 x2) (rd x4 atRe) (rd x4 atIm) (zz x0 x2) (arg9.view.writes (Elt F) arg9.view.junk [⟨Rect.unit (s := S512x1024) ![0, 0] S512x1024.size inb_S512x1024_S512x1024_0_0, k0_pay6 (zz x0 x2)⟩])
    (View.read_writes_full _ _ _ _ _) (st0 k0_pay3) k0_t1_loop.trips le_rfl
  refine Eq.trans (congrArg (fun L => arg11.view.read (Elt F) (arg11.view.writes (Elt F) g L)) ?_) (nxt_read arg11.view g [⟨Rect.unit (s := S8x1024) ![0, 0] S8x1024.size inb_S8x1024_S8x1024_0_0, k0_pay3⟩] x0 x2 x4 k0_pay3 _ key (View.read_writes_full _ _ _ _ _))
  dsimp only [runA]
  sl_unfold_run_names
  simp only [readAt_unread]
  rw [← zero_st0 arg11]
  rfl

end point

end Cert.S5
-- ==== Proof.S5.Frame.lean ====
module

public import proofs.«01_k».proof.Proof.Gen.KernelIdeal.Frame
public import proofs.«01_k».proof.Proof.S5.Step
public import Idealize.ShloMosaic.Lib.Claim

@[expose] public section

set_option maxRecDepth 16384

noncomputable section

namespace Cert.S5

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One point of the grid: the blocks stay, the output block is `out` and the carried state becomes `nxt`, the state it starts
    from being zero at the first point of a sequence. -/
theorem point (c : Dev nD) (i : grid0.Coords) (arg3 : Memref sig .tc .vmem S1x4096x128 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S1x1x1024x1024 .bf16) (harg6 : arg6.IsWhole) (arg7 : Memref sig .tc .vmem S1x1x2x512 .f32) (harg7 : arg7.IsWhole) (arg8 : Memref sig .tc .vmem S1x4096x128 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S8x1024 .f32) (harg11 : arg11.IsWhole)
    (x0 : Vec F S1x4096x128 .f32) (x1 x2 x3 : Vec F S1x1x1024x1024 .bf16) (x4 : Vec F S1x1x2x512 .f32) (xs2 s : Vec F S8x1024 .f32)
    (h1 : first i → s = k0_pay3) (h2 : ¬first i → s = xs2) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs2
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (out x0 x1 x2 x3 x4 s) ∗ (∃ d, owns (c : Thread nD τ) arg9 fullShare d) ∗ (∃ d, owns (c : Thread nD τ) arg10 fullShare d) ∗ owns (c : Thread nD τ) arg11 fullShare (nxt x0 x2 x4 s)) -∗ K ⟨⟩))
    ⊢ wp frame (wpE (defs₀ (F := F)) Variants.none c none) Set.univ (cc0_s5 i arg3 harg3 arg4 harg4 arg5 harg5 arg6 harg6 arg7 harg7 arg8 harg8 arg9 harg9 arg10 harg10 arg11 harg11) K := by
  by_cases hc : first i
  · rw [h1 hc]
    iintro ⟨H0, H1, H2, H3, H4, H5, H6, ⟨%d, H7⟩, H8, Hk⟩
    iapply ((runA c i arg3 harg3 arg4 harg4 arg5 harg5 arg6 harg6 arg7 harg7 arg8 harg8 arg9 harg9 arg10 harg10 arg11 harg11 hc x0 x1 x2 x3 x4 d xs2).2.2 Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, ⟨%e5, H5⟩, H6, H7, ⟨%e8, H8⟩⟩
    iapply Hk
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact outA c i arg3 harg3 arg4 harg4 arg5 harg5 arg6 harg6 arg7 harg7 arg8 harg8 arg9 harg9 arg10 harg10 arg11 harg11 x0 x1 x2 x3 x4 d hc xs2 e5
    isplitl [H6]; · iexact H6
    isplitl [H7]; · iexact H7
    unfold owns; iexists _; isplitr
    swap; · iexact H8
    ipureintro; exact nxtA c i arg3 harg3 arg4 harg4 arg5 harg5 arg6 harg6 arg7 harg7 arg8 harg8 arg9 harg9 arg10 harg10 arg11 harg11 x0 x1 x2 x3 x4 d hc xs2 e8
  · rw [h2 hc]
    iintro ⟨H0, H1, H2, H3, H4, H5, H6, ⟨%d, H7⟩, H8, Hk⟩
    iapply ((runB c i arg3 harg3 arg4 harg4 arg5 harg5 arg6 harg6 arg7 harg7 arg8 harg8 arg9 harg9 arg10 harg10 arg11 harg11 hc x0 x1 x2 x3 x4 d xs2).2.2 Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, ⟨%e5, H5⟩, H6, H7, ⟨%e8, H8, %he⟩⟩
    iapply Hk
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact outB c i arg3 harg3 arg4 harg4 arg5 harg5 arg6 harg6 arg7 harg7 arg8 harg8 arg9 harg9 arg10 harg10 arg11 harg11 x0 x1 x2 x3 x4 d hc xs2 e5
    isplitl [H6]; · iexact H6
    isplitl [H7]; · iexact H7
    unfold owns; iexists _; isplitr
    swap; · iexact H8
    ipureintro; rw [he]; exact nxtB c i arg3 harg3 arg4 harg4 arg5 harg5 arg6 harg6 arg7 harg7 arg8 harg8 arg9 harg9 arg10 harg10 arg11 harg11 x0 x1 x2 x3 x4 d hc xs2

variable (m : (ℓ : Loc nD τ sig) → Buf (Elt F) ℓ) (ρ : Dev nD → PrngReg)

theorem first_iff (t : Fin cfg0.N) : first (grid0.coords t) ↔ t.val % 2 = 0 := by
  have e : ((grid0.coords t) 2).val = t.val % 2 := by
    rw [Pipeline.Grid.coords_val (S := 1) (B := 2) t 2 (by decide) rfl, Nat.div_one]
  unfold first
  rw [e]
  have h := Nat.mod_lt t.val (show 0 < 2 by decide)
  generalize t.val % 2 = n at h
  interval_cases n <;> decide

/-- The point before. -/
def prev (t : Fin cfg0.N) : Fin cfg0.N := ⟨t.val - 1, Nat.lt_of_le_of_lt (Nat.sub_le _ _) t.isLt⟩

/-- The state a point starts from. -/
def car (c : Dev nD) (t : Fin cfg0.N) : Vec F S8x1024 .f32 :=
  if t.val % 2 = 0 then k0_pay3 else nxt (iblk m c 0 (prev t)) (iblk m c 2 (prev t)) (iblk m c 4 (prev t)) k0_pay3

/-- The output block of a point, by position. -/
def outAt (c : Dev nD) (t : Fin cfg0.N) : Vec F S1x4096x128 .f32 :=
  out (iblk m c 0 t) (iblk m c 1 t) (iblk m c 2 t) (iblk m c 3 t) (iblk m c 4 t) (car m c t)

/-- The state a point leaves, by position. -/
def nxtAt (c : Dev nD) (t : Fin cfg0.N) : Vec F S8x1024 .f32 := nxt (iblk m c 0 t) (iblk m c 2 t) (iblk m c 4 t) (car m c t)

abbrev sc0 : Memref sig .tc .vmem S512x1024 .f32 := Memref.whole cc0_scratch0
abbrev sc1 : Memref sig .tc .vmem S512x1024 .f32 := Memref.whole cc0_scratch1
abbrev sc2 : Memref sig .tc .vmem S8x1024 .f32 := Memref.whole cc0_scratch2

theorem launch_eq (c : Dev nD) : (Pipeline.ΦA spec0 c : sProp 𝕄)
    = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- Between points: two scratches at anything, the third at the state the last point left. -/
def inv (c : Dev nD) : (n : ℕ) → n ≤ cfg0.N → sProp 𝕄
  | 0, _ => Pipeline.ΦA spec0 c
  | n + 1, hn => iprop(iprop((∃ d, owns (c : Thread nD τ) sc0 fullShare d) ∗ (∃ d, owns (c : Thread nD τ) sc1 fullShare d) ∗ owns (c : Thread nD τ) sc2 fullShare (nxtAt m c ⟨n, hn⟩)) ∗ (∃ r, prngReg c r))

theorem inv_zero (c : Dev nD) (n : ℕ) (h : n ≤ cfg0.N) (hz : n = 0) : inv m c n h = Pipeline.ΦA spec0 c := by subst hz; rfl

theorem inv_succ (c : Dev nD) (n : ℕ) (hn : n < cfg0.N) : inv m c (n + 1) hn
    = iprop(iprop((∃ d, owns (c : Thread nD τ) sc0 fullShare d) ∗ (∃ d, owns (c : Thread nD τ) sc1 fullShare d) ∗ owns (c : Thread nD τ) sc2 fullShare (nxtAt m c ⟨n, hn⟩)) ∗ (∃ r, prngReg c r)) := rfl

theorem inv_pos (c : Dev nD) (n : ℕ) (h : n ≤ cfg0.N) (hz : n ≠ 0) : inv m c n h
    = iprop(iprop((∃ d, owns (c : Thread nD τ) sc0 fullShare d) ∗ (∃ d, owns (c : Thread nD τ) sc1 fullShare d) ∗ owns (c : Thread nD τ) sc2 fullShare (nxtAt m c ⟨n - 1, by omega⟩)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := inv m c t.val (Nat.le_of_lt_succ t.isLt)
  q _ := fullShare
  owed _ := 0

theorem arr_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem aft0 (c : Dev nD) (t : Fin cfg0.N) : (dats m 0 c).after 0 t = iblk m c 0 t := by dsimp only [dats]
theorem aft1 (c : Dev nD) (t : Fin cfg0.N) : (dats m 0 c).after 1 t = iblk m c 1 t := by dsimp only [dats]
theorem aft2 (c : Dev nD) (t : Fin cfg0.N) : (dats m 0 c).after 2 t = iblk m c 2 t := by dsimp only [dats]
theorem aft3 (c : Dev nD) (t : Fin cfg0.N) : (dats m 0 c).after 3 t = iblk m c 3 t := by dsimp only [dats]
theorem aft4 (c : Dev nD) (t : Fin cfg0.N) : (dats m 0 c).after 4 t = iblk m c 4 t := by dsimp only [dats]
theorem aft5 (c : Dev nD) (t : Fin cfg0.N) : (dats m 0 c).after 5 t = outAt m c t := by dsimp only [dats]

theorem bef0 (c : Dev nD) (t : Fin cfg0.N) (d) : (dats m 0 c).before 0 t d = iblk m c 0 t :=
  before0_0_of m (dats m 0 c) (arr_eq m c 0) (aft0 m c) t d
theorem bef1 (c : Dev nD) (t : Fin cfg0.N) (d) : (dats m 0 c).before 1 t d = iblk m c 1 t :=
  before0_1_of m (dats m 0 c) (arr_eq m c 1) (aft1 m c) t d
theorem bef2 (c : Dev nD) (t : Fin cfg0.N) (d) : (dats m 0 c).before 2 t d = iblk m c 2 t :=
  before0_2_of m (dats m 0 c) (arr_eq m c 2) (aft2 m c) t d
theorem bef3 (c : Dev nD) (t : Fin cfg0.N) (d) : (dats m 0 c).before 3 t d = iblk m c 3 t :=
  before0_3_of m (dats m 0 c) (arr_eq m c 3) (aft3 m c) t d
theorem bef4 (c : Dev nD) (t : Fin cfg0.N) (d) : (dats m 0 c).before 4 t d = iblk m c 4 t :=
  before0_4_of m (dats m 0 c) (arr_eq m c 4) (aft4 m c) t d

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

theorem car_first (c : Dev nD) (t : Fin cfg0.N) (h : first (grid0.coords t)) : car m c t = k0_pay3 := if_pos ((first_iff t).mp h)

theorem car_next (c : Dev nD) (t : Fin cfg0.N) (h : ¬t.val % 2 = 0) : car m c t = nxtAt m c (prev t) := by
  unfold nxtAt
  rw [show car m c (prev t) = k0_pay3 from if_pos (show (t.val - 1) % 2 = 0 by omega)]
  exact if_neg h

theorem at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bef0, bef1, bef2, bef3, bef4]
  rw [show (dats m 0 c).owesAt () t.succ = (dats m 0 c).owesAt () t.castSucc from rfl, aft0, aft1, aft2, aft3, aft4, aft5]
  rw [show (dats m 0 c).Φ t.succ = inv m c (t.val + 1) t.isLt from rfl, inv_succ, inv_castSucc m c t]
  by_cases hz : t.val = 0
  · rw [inv_zero m c _ _ hz, launch_eq]
    iintro ⟨⟨⟨S0, S1, ⟨%xs, S2⟩⟩, Hg⟩, Ho, ⟨%d0, H0⟩, ⟨%d1, H1⟩, ⟨%d2, H2⟩, ⟨%d3, H3⟩, ⟨%d4, H4⟩, ⟨%d5, H5⟩⟩
    iapply (point c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) sc0 (Memref.isWhole_whole _) sc1 (Memref.isWhole_whole _) sc2 (Memref.isWhole_whole _) (iblk m c 0 t) (iblk m c 1 t) (iblk m c 2 t) (iblk m c 3 t) (iblk m c 4 t) xs (car m c t) (car_first m c t) (fun h => absurd ((first_iff t).mpr (by rw [hz])) h) _)
    isplitl [H0]; · iexact H0
    isplitl [H1]; · iexact H1
    isplitl [H2]; · iexact H2
    isplitl [H3]; · iexact H3
    isplitl [H4]; · iexact H4
    isplitl [H5]; · iexists _; iexact H5
    isplitl [S0]; · iexact S0
    isplitl [S1]; · iexact S1
    isplitl [S2]; · iexact S2
    iintro ⟨H0, H1, H2, H3, H4, H5, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [inv_pos m c _ _ hz]
    iintro ⟨⟨⟨S0, S1, S2⟩, Hg⟩, Ho, ⟨%d0, H0⟩, ⟨%d1, H1⟩, ⟨%d2, H2⟩, ⟨%d3, H3⟩, ⟨%d4, H4⟩, ⟨%d5, H5⟩⟩
    iapply (point c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) sc0 (Memref.isWhole_whole _) sc1 (Memref.isWhole_whole _) sc2 (Memref.isWhole_whole _) (iblk m c 0 t) (iblk m c 1 t) (iblk m c 2 t) (iblk m c 3 t) (iblk m c 4 t) (nxtAt m c (prev t)) (car m c t) (car_first m c t) (fun h => car_next m c t fun e => h ((first_iff t).mpr e)) _)
    isplitl [H0]; · iexact H0
    isplitl [H1]; · iexact H1
    isplitl [H2]; · iexact H2
    isplitl [H3]; · iexact H3
    isplitl [H4]; · iexact H4
    isplitl [H5]; · iexists _; iexact H5
    isplitl [S0]; · iexact S0
    isplitl [S1]; · iexact S1
    isplitl [S2]; · iexact S2
    iintro ⟨H0, H1, H2, H3, H4, H5, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    iexact H5

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (at_point m c t) rfl .rfl fun _ => .rfl

theorem enter (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem leave (c : Dev nD) : (dats m 0 c).Φ (Fin.last cfg0.N) ⊢ Pipeline.ΦA spec0 c := by
  have hN : cfg0.N = 16 := N_0
  rw [show (dats m 0 c).Φ (Fin.last cfg0.N) = inv m c cfg0.N le_rfl from rfl, inv_pos m c _ _ (by omega), launch_eq]
  iintro ⟨⟨S0, S1, S2⟩, Hg⟩
  isplitl [S0 S1 S2]
  · isplitl [S0]; · iexact S0
    isplitl [S1]; · iexact S1
    iexists _; iexact S2
  iexact Hg

set_option backward.isDefEq.respectTransparency.types false in
/-- Every execution ends, with every array of the pipeline at what the point-by-point contents give and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arr_eq m) (hin := enter m) (hout := leave m)

/-- The part of the run that speaks of the arrays. -/
theorem run_main : θ_run defs (onTc (τ := τ) (main (F := F))) (s₀ m ρ) (Pipeline.FramePost cfgs (dats m) 0 (V m)) :=
  (θ_run defs _ _).mono (fun _ h => h.1) (run_quiet m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (arr_eq m) (run_main m ρ)) ((θ_run defs _ _).mono (fun _ h => h.2) (run_quiet m ρ))

end Cert.S5
-- ==== Proof.S5.Text.lean ====
/- The two printed programs have the same text: equality of their bodies, labels and host stretches at the machine words. -/
module

public import proofs.«01_k».proof.Defs
public import proofs.«01_k».proof.Proof.Gen.Kernel.Launch
public import proofs.«01_k».proof.Proof.Gen.KernelIdeal.Launch

@[expose] public section

noncomputable section

namespace Cert.S5

open Idealize.ShloMosaic Idealize.SL.Sem

set_option maxRecDepth 10000
set_option maxHeartbeats 2000000

theorem same_calls : @Cert.Kernel.pcfgs Bits _ = @Cert.KernelIdeal.pcfgs Bits _ := by
  funext p
  match p with
  | 0 => rfl

theorem same_bodies : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | 0, (t, s) => rfl

open Cert.KernelIdeal in
theorem defs_heq (p q : Fin 1 → Pipeline.PCfg sig Λ₀ (Elt Bits)) (h : p = q) (d e : Defs nD τ sig (Elt Bits) Λ₀) (hd : d = e) :
    HEq (Pipeline.defs p d) (Pipeline.defs q e) := by
  subst h hd; rfl

theorem same_defs : @Cert.Kernel.defs Bits _ Cert.Kernel.Gen.facts = @Cert.KernelIdeal.defs Bits _ Cert.KernelIdeal.Gen.facts :=
  eq_of_heq (defs_heq _ _ same_calls _ _ same_bodies)

theorem same_main (c) : @Cert.Kernel.main Bits _ Cert.Kernel.Gen.facts c = @Cert.KernelIdeal.main Bits _ Cert.KernelIdeal.Gen.facts c := by
  refine (Cert.Kernel.Gen.main_chain_windows (F := Bits) c).trans (Eq.trans ?_ (Cert.KernelIdeal.Gen.main_chain_windows (F := Bits) c).symm)
  refine congrArg _ ?_
  repeat' refine congrArg₂ List.cons ?_ ?_
  all_goals rfl

/-- A run carried along an equality of the labels' bodies and of the program. -/
theorem run_of_eq {nD : Nat} {τ : Topo} {sig : RefSig} {Val : EltTy → Type} {Λ : Labels} {d e : Defs nD τ sig Val Λ}
    {p q : Dev nD → Prog (TpuEff nD τ sig Val Λ .tc) PUnit} (hd : d = e) (hp : ∀ c, p c = q c) {s : MemSt nD τ sig Val}
    {Q : PUnit × MemSt nD τ sig Val → Prop} (h : θ_run e (onTc q) s Q) : θ_run d (onTc p) s Q := by
  obtain rfl : p = q := funext hp
  subst hd; exact h

end Cert.S5
-- ==== Proof.S5.RefFrame.lean ====
/- The reference's frame: its arguments end as the launch has them, and it has no semaphore to count. -/
module

public import proofs.«01_k».proof.Proof.Gen.ReferenceIdeal.Run

@[expose] public section

noncomputable section

namespace Cert.S5

open Idealize.ShloMosaic Idealize.ShloMosaic.TcCoe Idealize.SL.Sem Cert.ReferenceIdeal

variable {F : FTy → Type} [FloatOps F] (m : (ℓ : Loc nD τ sig) → Buf (Elt F) ℓ) (ρ : Dev nD → PrngReg)

/-- The program declares no semaphore of either kind, so every family of counters is the zero one. -/
theorem no_counter (f : GSem nD τ sig → Int) : f = fun _ => 0 := by
  funext g
  rcases g with ⟨_, s | s⟩
  · exact s.elim0
  · exact s.elim0

theorem ref_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2, no_counter r.2.sem⟩) (Cert.ReferenceIdeal.Value.run m ρ)

end Cert.S5
-- ==== Proof.S5.Real.lean ====
/- The recurrence that the S5 call computes, over the reals: its state, its output, and both eight tokens at a time. -/
module

public import Mathlib.Analysis.SpecialFunctions.Trigonometric.Basic
public import Mathlib.Data.EReal.Operations

@[expose] public section

noncomputable section

namespace Cert.S5

/-- The eight arrays of the call, as real numbers. -/
structure Par where
  u : Fin 2 → Fin 8192 → Fin 512 → ℝ
  ar : Fin 32 → Fin 64 → ℝ
  ai : Fin 32 → Fin 64 → ℝ
  br : Fin 32 → Fin 64 → Fin 16 → ℝ
  bi : Fin 32 → Fin 64 → Fin 16 → ℝ
  cr : Fin 32 → Fin 16 → Fin 64 → ℝ
  ci : Fin 32 → Fin 16 → Fin 64 → ℝ
  ld : Fin 32 → ℝ
  den : ∀ g p, ar g p * ar g p + ai g p * ai g p ≠ 0

namespace Par

variable (q : Par)

def lr (g : Fin 32) (p : Fin 64) : ℝ := q.ar g p * Real.exp (q.ld g)
def li (g : Fin 32) (p : Fin 64) : ℝ := q.ai g p * Real.exp (q.ld g)

/-- The factor by which a state decays and turns in one token. -/
def lam (g : Fin 32) (p : Fin 64) : ℂ := Complex.exp ⟨q.lr g p, q.li g p⟩

theorem lam_pow (n : ℕ) (g : Fin 32) (p : Fin 64) : q.lam g p ^ n = Complex.exp ⟨n * q.lr g p, n * q.li g p⟩ := by
  unfold lam
  rw [← Complex.exp_nat_mul]
  congr 1
  apply Complex.ext <;> simp

theorem pow_re (n : ℕ) (g : Fin 32) (p : Fin 64) :
    (q.lam g p ^ n).re = Real.exp (n * q.lr g p) * Real.cos (n * q.li g p) := by
  rw [lam_pow, Complex.exp_re]

theorem pow_im (n : ℕ) (g : Fin 32) (p : Fin 64) :
    (q.lam g p ^ n).im = Real.exp (n * q.lr g p) * Real.sin (n * q.li g p) := by
  rw [lam_pow, Complex.exp_im]

theorem lam_re (g : Fin 32) (p : Fin 64) : (q.lam g p).re = Real.exp (q.lr g p) * Real.cos (q.li g p) := by
  simpa using q.pow_re 1 g p

theorem lam_im (g : Fin 32) (p : Fin 64) : (q.lam g p).im = Real.exp (q.lr g p) * Real.sin (q.li g p) := by
  simpa using q.pow_im 1 g p

def fr (g : Fin 32) (p : Fin 64) : ℝ :=
  (((q.lam g p).re - 1) * q.ar g p + (q.lam g p).im * q.ai g p) / (q.ar g p * q.ar g p + q.ai g p * q.ai g p)
def fi (g : Fin 32) (p : Fin 64) : ℝ :=
  ((q.lam g p).im * q.ar g p - ((q.lam g p).re - 1) * q.ai g p) / (q.ar g p * q.ar g p + q.ai g p * q.ai g p)

/-- How much of a channel goes into a state. -/
def B (g : Fin 32) (p : Fin 64) (c : Fin 16) : ℂ :=
  ⟨q.fr g p * q.br g p c - q.fi g p * q.bi g p c, q.fr g p * q.bi g p c + q.fi g p * q.br g p c⟩

def C (g : Fin 32) (d : Fin 16) (p : Fin 64) : ℂ := ⟨q.cr g d p, q.ci g d p⟩

def ch (g : Fin 32) (c : Fin 16) : Fin 512 := ⟨16 * g.val + c.val, by omega⟩

/-- Token `n` of a sequence at a channel. -/
def tok (b : Fin 2) (n : ℕ) (g : Fin 32) (c : Fin 16) : ℝ := if h : n < 8192 then q.u b ⟨n, h⟩ (ch g c) else 0

def inp (b : Fin 2) (n : ℕ) (g : Fin 32) (p : Fin 64) : ℂ := ∑ c : Fin 16, q.B g p c * (q.tok b n g c : ℂ)

/-- The state before token `n`. -/
def X (b : Fin 2) : ℕ → Fin 32 → Fin 64 → ℂ
  | 0, _, _ => 0
  | n + 1, g, p => q.lam g p * X b n g p + q.inp b n g p

/-- The output at token `n`. -/
def y (b : Fin 2) (n : ℕ) (g : Fin 32) (d : Fin 16) : ℝ := (∑ p : Fin 64, q.C g d p * q.X b (n + 1) g p).re

theorem X_add (b : Fin 2) (m t : ℕ) (g : Fin 32) (p : Fin 64) :
    q.X b (m + t) g p = q.lam g p ^ t * q.X b m g p
      + ∑ j ∈ Finset.range t, q.lam g p ^ (t - 1 - j) * q.inp b (m + j) g p := by
  induction t with
  | zero => simp
  | succ t ih =>
    rw [← add_assoc, X, ih, mul_add, Finset.mul_sum, Finset.sum_range_succ, pow_succ']
    have : ∑ j ∈ Finset.range t, q.lam g p * (q.lam g p ^ (t - 1 - j) * q.inp b (m + j) g p)
        = ∑ j ∈ Finset.range t, q.lam g p ^ (t + 1 - 1 - j) * q.inp b (m + j) g p := by
      refine Finset.sum_congr rfl fun j hj => ?_
      have hj := Finset.mem_range.mp hj
      rw [← mul_assoc, ← pow_succ']
      congr 2
      omega
    rw [this]
    simp
    ring

/-- What a channel leaves at an output `t` tokens on. -/
def K (g : Fin 32) (c : Fin 16) (t : ℕ) (d : Fin 16) : ℝ := (∑ p : Fin 64, q.C g d p * (q.lam g p ^ t * q.B g p c)).re

/-- The state eight tokens on, one real coordinate at a time. -/
theorem X_eight (b : Fin 2) (m : ℕ) (g : Fin 32) (p : Fin 64) :
    q.X b (m + 8) g p = q.lam g p ^ 8 * q.X b m g p
      + ∑ j : Fin 8, ∑ c : Fin 16, q.lam g p ^ (7 - j.val) * q.B g p c * (q.tok b (m + j.val) g c : ℂ) := by
  rw [X_add, ← Fin.sum_univ_eq_sum_range (fun j => q.lam g p ^ (8 - 1 - j) * q.inp b (m + j) g p) 8]
  congr 1
  refine Finset.sum_congr rfl fun j _ => ?_
  rw [inp, Finset.mul_sum]
  refine Finset.sum_congr rfl fun c _ => ?_
  ring

theorem X_eight_re (b : Fin 2) (m : ℕ) (g : Fin 32) (p : Fin 64) :
    (q.X b (m + 8) g p).re = (q.lam g p ^ 8).re * (q.X b m g p).re - (q.lam g p ^ 8).im * (q.X b m g p).im
      + ∑ j : Fin 8, ∑ c : Fin 16, q.tok b (m + j.val) g c * (q.lam g p ^ (7 - j.val) * q.B g p c).re := by
  rw [X_eight, Complex.add_re, Complex.mul_re, Complex.re_sum]
  congr 1
  refine Finset.sum_congr rfl fun j _ => ?_
  rw [Complex.re_sum]
  refine Finset.sum_congr rfl fun c _ => ?_
  rw [Complex.re_mul_ofReal, mul_comm]

theorem X_eight_im (b : Fin 2) (m : ℕ) (g : Fin 32) (p : Fin 64) :
    (q.X b (m + 8) g p).im = (q.lam g p ^ 8).re * (q.X b m g p).im + (q.lam g p ^ 8).im * (q.X b m g p).re
      + ∑ j : Fin 8, ∑ c : Fin 16, q.tok b (m + j.val) g c * (q.lam g p ^ (7 - j.val) * q.B g p c).im := by
  rw [X_eight, Complex.add_im, Complex.mul_im, Complex.im_sum]
  congr 1
  refine Finset.sum_congr rfl fun j _ => ?_
  rw [Complex.im_sum]
  refine Finset.sum_congr rfl fun c _ => ?_
  rw [Complex.im_mul_ofReal, mul_comm]

theorem y_add (b : Fin 2) (m : ℕ) (t : Fin 8) (g : Fin 32) (d : Fin 16) :
    q.y b (m + t.val) g d
      = (∑ j : Fin 8, ∑ c : Fin 16, q.tok b (m + j.val) g c * (if j.val ≤ t.val then q.K g c (t.val - j.val) d else 0))
        + ((∑ p : Fin 64, (q.X b m g p).re * (q.C g d p * q.lam g p ^ (t.val + 1)).re)
          + ∑ p : Fin 64, (q.X b m g p).im * -(q.C g d p * q.lam g p ^ (t.val + 1)).im) := by
  unfold y
  have h1 : ∀ p, q.C g d p * q.X b (m + t.val + 1) g p
      = (q.C g d p * q.lam g p ^ (t.val + 1)) * q.X b m g p
        + ∑ j : Fin 8, ∑ c : Fin 16, (if j.val ≤ t.val then q.C g d p * (q.lam g p ^ (t.val - j.val) * q.B g p c) else 0)
            * (q.tok b (m + j.val) g c : ℂ) := by
    intro p
    rw [add_assoc, X_add, mul_add, mul_assoc]
    congr 1
    rw [Fin.sum_univ_eq_sum_range (fun j => ∑ c : Fin 16, (if j ≤ t.val then q.C g d p * (q.lam g p ^ (t.val - j) * q.B g p c) else 0)
            * (q.tok b (m + j) g c : ℂ)) 8]
    have hs : Finset.range (t.val + 1) ⊆ Finset.range 8 := by
      intro a ha
      have := Finset.mem_range.mp ha
      have := t.isLt
      exact Finset.mem_range.mpr (by omega)
    rw [← Finset.sum_subset hs, Finset.mul_sum]
    · refine Finset.sum_congr rfl fun j hj => ?_
      have hj' : j ≤ t.val := by have := Finset.mem_range.mp hj; omega
      simp only [if_pos hj', inp, Finset.mul_sum]
      refine Finset.sum_congr rfl fun c _ => ?_
      rw [show t.val + 1 - 1 - j = t.val - j by omega]
      ring
    · intro j _ hj
      have hj' : ¬ j ≤ t.val := fun h => hj (Finset.mem_range.mpr (by omega))
      simp [if_neg hj']
  simp only [h1, Finset.sum_add_distrib, Complex.add_re, Complex.re_sum]
  rw [add_comm]
  congr 1
  · rw [Finset.sum_comm]
    refine Finset.sum_congr rfl fun j _ => ?_
    rw [Finset.sum_comm]
    refine Finset.sum_congr rfl fun c _ => ?_
    simp only [Complex.re_mul_ofReal, ← Finset.sum_mul]
    rw [mul_comm]
    congr 1
    split
    · rw [K, Complex.re_sum]
    · simp
  · rw [← Finset.sum_add_distrib]
    refine Finset.sum_congr rfl fun p _ => ?_
    rw [Complex.mul_re]
    ring

end Par

end Cert.S5
-- ==== Proof.S5.Host0.lean ====
/- The first stretch of host operations before the S5 call: the powers of the decay factor, the inputs' weights and the
   response of an output to a channel, read at an index over real arguments. -/
module

public import proofs.«01_k».proof.Proof.S5.Real
public import proofs.«01_k».proof.Proof.Gen.KernelIdeal.Frame
public import Idealize.ShloMosaic.Lib.StableHlo.RunRead
public import Idealize.ShloMosaic.Lib.Pointwise
public import Idealize.ShloMosaic.Lib.Pipeline.Value

@[expose] public section

set_option maxRecDepth 16384

noncomputable section

namespace Cert.S5

open Idealize.ShloMosaic Idealize.ShloMosaic.TcCoe Idealize.SL.Sem Cert.KernelIdeal Cert.KernelIdeal.Gen

theorem exp_real (x : ℝ) : Ideal.exp ((x : ℝ) : EReal) = ((Real.exp x : ℝ) : EReal) := rfl
theorem cos_real (x : ℝ) : Ideal.cos ((x : ℝ) : EReal) = ((Real.cos x : ℝ) : EReal) := rfl
theorem sin_real (x : ℝ) : Ideal.sin ((x : ℝ) : EReal) = ((Real.sin x : ℝ) : EReal) := rfl

theorem div_real (x y : ℝ) (h : y ≠ 0) : Ideal.div (x : EReal) (y : EReal) = ((x / y : ℝ) : EReal) := by
  rw [Ideal.div_coe h, ← EReal.coe_mul, mul_one_div]

theorem int_real (n : ℕ) (h : n < 9) : (FloatOps.sitofp FTy.f32 (BitVec.ofNat 32 n) : Ideal .f32) = ((n : ℝ) : EReal) := by
  show (((BitVec.ofNat 32 n).toInt : ℝ) : EReal) = _
  congr 1
  interval_cases n <;> simp <;> rfl

theorem sum_real {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- Arrays of a memory that hold the real numbers of `q`. -/
structure Holds (q : Par) (x0 : S2x8192x512.Idx → EReal) (x1 x2 : S32x64.Idx → EReal) (x3 x4 : S32x64x16.Idx → EReal)
    (x5 x6 : S32x16x64.Idx → EReal) (x7 : S32.Idx → EReal) : Prop where
  u : ∀ b n l, x0 (ix3 b n l) = ((q.u b n l : ℝ) : EReal)
  ar : ∀ g p, x1 (ix2 g p) = ((q.ar g p : ℝ) : EReal)
  ai : ∀ g p, x2 (ix2 g p) = ((q.ai g p : ℝ) : EReal)
  br : ∀ g p c, x3 (ix3 g p c) = ((q.br g p c : ℝ) : EReal)
  bi : ∀ g p c, x4 (ix3 g p c) = ((q.bi g p c : ℝ) : EReal)
  cr : ∀ g d p, x5 (ix3 g d p) = ((q.cr g d p : ℝ) : EReal)
  ci : ∀ g d p, x6 (ix3 g d p) = ((q.ci g d p : ℝ) : EReal)
  ld : ∀ g, x7 (ix1 g) = ((q.ld g : ℝ) : EReal)

variable {q : Par} {W : Valuation τ sig (Elt Ideal)}

theorem h0_v61 (h : Holds q (W main_arg0) (W main_arg1) (W main_arg2) (W main_arg3) (W main_arg4) (W main_arg5)
      (W main_arg6) (W main_arg7)) (t : Fin 9) (g : Fin 32) (p : Fin 64) :
    (StableHlo.after hostOps0 W main_v61 : (⟨S9x32x64, .f32⟩ : BufTy).Contents (Elt Ideal)) (ix3 t g p)
      = (((q.lam g p ^ t.val).re : ℝ) : EReal) := by
  after_reads_simp
  pointwise
  simp only [h.ar, h.ai, h.ld, exp_real, cos_real, sin_real, int_real t.val t.isLt, ← EReal.coe_mul]
  rw [q.pow_re]; rfl

theorem h0_v74 (h : Holds q (W main_arg0) (W main_arg1) (W main_arg2) (W main_arg3) (W main_arg4) (W main_arg5)
      (W main_arg6) (W main_arg7)) (t : Fin 9) (g : Fin 32) (p : Fin 64) :
    (StableHlo.after hostOps0 W main_v74 : (⟨S9x32x64, .f32⟩ : BufTy).Contents (Elt Ideal)) (ix3 t g p)
      = (((q.lam g p ^ t.val).im : ℝ) : EReal) := by
  after_reads_simp
  pointwise
  simp only [h.ar, h.ai, h.ld, exp_real, cos_real, sin_real, int_real t.val t.isLt, ← EReal.coe_mul]
  rw [q.pow_im]; rfl

theorem h0_v87 (h : Holds q (W main_arg0) (W main_arg1) (W main_arg2) (W main_arg3) (W main_arg4) (W main_arg5)
      (W main_arg6) (W main_arg7)) (t : Fin 9) (g : Fin 32) (p : Fin 64) :
    (StableHlo.after hostOps0 W main_v87 : (⟨S32x64x9, .f32⟩ : BufTy).Contents (Elt Ideal)) (ix3 g p t)
      = (((q.lam g p ^ t.val).re : ℝ) : EReal) := by
  after_reads_simp
  pointwise
  simp only [h.ar, h.ai, h.ld, exp_real, cos_real, sin_real, int_real t.val t.isLt, ← EReal.coe_mul]
  rw [q.pow_re, mul_comm (t.val : ℝ), mul_comm (t.val : ℝ)]; rfl

theorem h0_v100 (h : Holds q (W main_arg0) (W main_arg1) (W main_arg2) (W main_arg3) (W main_arg4) (W main_arg5)
      (W main_arg6) (W main_arg7)) (t : Fin 9) (g : Fin 32) (p : Fin 64) :
    (StableHlo.after hostOps0 W main_v100 : (⟨S32x64x9, .f32⟩ : BufTy).Contents (Elt Ideal)) (ix3 g p t)
      = (((q.lam g p ^ t.val).im : ℝ) : EReal) := by
  after_reads_simp
  pointwise
  simp only [h.ar, h.ai, h.ld, exp_real, cos_real, sin_real, int_real t.val t.isLt, ← EReal.coe_mul]
  rw [q.pow_im, mul_comm (t.val : ℝ), mul_comm (t.val : ℝ)]; rfl

theorem h0_v111 (h : Holds q (W main_arg0) (W main_arg1) (W main_arg2) (W main_arg3) (W main_arg4) (W main_arg5)
      (W main_arg6) (W main_arg7)) (t : Fin 9) (g : Fin 32) (c : Fin 16) (p : Fin 64) :
    (StableHlo.after hostOps0 W main_v111 : (⟨S9x32x16x64, .f32⟩ : BufTy).Contents (Elt Ideal)) (ix4 t g c p)
      = (((q.lam g p ^ t.val * q.B g p c).re : ℝ) : EReal) := by
  after_reads_simp
  pointwise
  simp only [h.ar, h.ai, h.ld, h.br, h.bi, exp_real, cos_real, sin_real, int_real t.val t.isLt, ← EReal.coe_mul,
    ← EReal.coe_add, ← EReal.coe_sub, ← EReal.coe_one, div_real _ _ (q.den g p)]
  rw [Complex.mul_re, q.pow_re, q.pow_im]
  simp only [Par.B, Par.fr, Par.fi, Par.lam_re, Par.lam_im, Par.lr, Par.li]

theorem h0_v122 (h : Holds q (W main_arg0) (W main_arg1) (W main_arg2) (W main_arg3) (W main_arg4) (W main_arg5)
      (W main_arg6) (W main_arg7)) (t : Fin 9) (g : Fin 32) (c : Fin 16) (p : Fin 64) :
    (StableHlo.after hostOps0 W main_v122 : (⟨S9x32x16x64, .f32⟩ : BufTy).Contents (Elt Ideal)) (ix4 t g c p)
      = (((q.lam g p ^ t.val * q.B g p c).im : ℝ) : EReal) := by
  after_reads_simp
  pointwise
  simp only [h.ar, h.ai, h.ld, h.br, h.bi, exp_real, cos_real, sin_real, int_real t.val t.isLt, ← EReal.coe_mul,
    ← EReal.coe_add, ← EReal.coe_sub, ← EReal.coe_one, div_real _ _ (q.den g p)]
  rw [Complex.mul_im, q.pow_re, q.pow_im]
  simp only [Par.B, Par.fr, Par.fi, Par.lam_re, Par.lam_im, Par.lr, Par.li]

theorem dot_resp (x : FVec Ideal S32x16x64 .f32) (w : FVec Ideal S8x32x16x64 .f32) (g : Fin 32) (d : Fin 16) (t : Fin 8) (c : Fin 16) :
    Host.dotGeneral dot_S32x16x64_S8x32x16x64_S32x16x8x16_2_3_1_02_0_1 (some .fp32) x w (ix4 g d t c)
      = ∑ p : Fin 64, x (ix3 g d p) * w (ix4 t g c p) := by
  pointwise

/-- The response of an output to a channel, off the outputs' weights and the inputs' weights times powers of the decay. -/
def resp (x5 x6 : FVec Ideal S32x16x64 .f32) (a b : FVec Ideal S9x32x16x64 .f32) : FVec Ideal S512x128 .bf16 :=
  shapeCast S512x128 (truncf .bf16 (subf
    (transpose S32x16x8x16 [0, 3, 2, 1] (Host.dotGeneral dot_S32x16x64_S8x32x16x64_S32x16x8x16_2_3_1_02_0_1 (some .fp32) x5
      (extractStridedSlice S8x32x16x64 ![0, 0, 0, 0] a slices_S9x32x16x64_S8x32x16x64_0_0_0_0)) transposes_S32x16x8x16_S32x16x8x16_0_3_2_1)
    (transpose S32x16x8x16 [0, 3, 2, 1] (Host.dotGeneral dot_S32x16x64_S8x32x16x64_S32x16x8x16_2_3_1_02_0_1 (some .fp32) x6
      (extractStridedSlice S8x32x16x64 ![0, 0, 0, 0] b slices_S9x32x16x64_S8x32x16x64_0_0_0_0)) transposes_S32x16x8x16_S32x16x8x16_0_3_2_1)) bitsLt_bf16_f32)
    shapeCasts_S32x16x8x16_S512x128

theorem resp_at (x5 x6 : FVec Ideal S32x16x64 .f32) (a b : FVec Ideal S9x32x16x64 .f32) (g : Fin 32) (c : Fin 16) (t : Fin 8) (d : Fin 16) :
    resp x5 x6 a b (ix2 ⟨16 * g.val + c.val, by omega⟩ ⟨16 * t.val + d.val, by omega⟩)
      = (∑ p : Fin 64, x5 (ix3 g d p) * a (ix4 ⟨t.val, by omega⟩ g c p))
        - ∑ p : Fin 64, x6 (ix3 g d p) * b (ix4 ⟨t.val, by omega⟩ g c p) := by
  unfold resp
  rw [shapeCast_apply _ _ _ (ix4 g c t d) (by
    rw [Shape.rowMajor_val_four, Shape.rowMajor_val_two]
    simp
    omega)]
  pointwise

theorem h0_resp : StableHlo.after hostOps0 W main_v131 = resp (W main_arg5) (W main_arg6)
    (StableHlo.after hostOps0 W main_v111) (StableHlo.after hostOps0 W main_v122) := by
  unfold resp
  after_reads_simp
  rfl

theorem h0_v131 (h : Holds q (W main_arg0) (W main_arg1) (W main_arg2) (W main_arg3) (W main_arg4) (W main_arg5)
      (W main_arg6) (W main_arg7)) (g : Fin 32) (c : Fin 16) (t : Fin 8) (d : Fin 16) :
    (StableHlo.after hostOps0 W main_v131 : (⟨S512x128, .bf16⟩ : BufTy).Contents (Elt Ideal))
        (ix2 ⟨16 * g.val + c.val, by omega⟩ ⟨16 * t.val + d.val, by omega⟩)
      = ((q.K g c t.val d : ℝ) : EReal) := by
  rw [h0_resp, resp_at]
  simp only [h.cr, h.ci, h0_v111 h, h0_v122 h, ← EReal.coe_mul, sum_real, ← EReal.coe_sub]
  rw [Par.K, Complex.re_sum, ← Finset.sum_sub_distrib]
  congr 1
  refine Finset.sum_congr rfl fun p _ => ?_
  rw [Complex.mul_re (q.C g d p)]
  rfl

/-- The tokens, a quarter of the channels at a time. -/
def quarters (x : FVec Ideal S2x8192x512 .f32) : FVec Ideal S4x16384x128 .f32 :=
  transpose S4x16384x128 [1, 0, 2] (shapeCast S16384x4x128 x shapeCasts_S2x8192x512_S16384x4x128) transposes_S16384x4x128_S4x16384x128_1_0_2

theorem quarters_at (x : FVec Ideal S2x8192x512 .f32) (b : Fin 2) (n : Fin 8192) (k : Fin 4) (l : Fin 128) :
    quarters x (ix3 k ⟨8192 * b.val + n.val, by omega⟩ l) = x (ix3 b n ⟨k.val * 128 + l.val, by omega⟩) := by
  unfold quarters
  pointwise

theorem h0_v1 : StableHlo.after hostOps0 W main_v1 = quarters (W main_arg0) := by
  unfold quarters
  after_reads_simp
  rfl

end Cert.S5
-- ==== Proof.S5.Pre.lean ====
/- What the precondition says of the S5 arguments: they are real numbers, and no state's coefficient is zero. -/
module

public import proofs.«01_k».proof.Pre_well_posed
public import proofs.«01_k».proof.Proof.S5.Host0
public import Idealize.ShloMosaic.Lib.ReduceAll

@[expose] public section

set_option maxRecDepth 16384

noncomputable section

namespace Cert.S5

open Idealize.ShloMosaic Cert.Pre_well_posed

instance pre_facts : Cert.Pre_well_posed.Facts where
  bcast_S_S2x8192x512 := by decide
  reducesTo_S2x8192x512_S_d0_1_2 := by decide
  h_S_ := by decide
  bcast_S_S32x64 := by decide
  reducesTo_S32x64_S_d0_1 := by decide
  bcast_S_S32x64x16 := by decide
  reducesTo_S32x64x16_S_d0_1_2 := by decide
  bcast_S_S32x16x64 := by decide
  reducesTo_S32x16x64_S_d0_1_2 := by decide
  bcast_S_S32 := by decide
  reducesTo_S32_S_d0 := by decide

theorem and_at (a b : IVec S_ 1) (j : S_.Idx) : andi a b j = 1#1 ↔ a j = 1#1 ∧ b j = 1#1 := IntOp.andi_eq_one

theorem of_true {p : Prop} [Decidable p] (h : BitVec.ofBool (decide p) = 1#1) : p := by
  by_contra hn
  rw [decide_eq_false hn] at h
  exact absurd h (by decide)

/-- An array below infinity in absolute value holds real numbers. -/
theorem real_of_fin {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : x i = (((x i : EReal).toReal : ℝ) : EReal) := by
  have c : Ideal.cmp .olt (max (x i : EReal) (-(x i : EReal))) (Ideal.ofBits .f32 0x7F800000#32) = 1#1 := Host.reduce_andi_all _ _ _ _ j e i
  have top : Ideal.ofBits .f32 0x7F800000#32 = ⊤ := by simp [Ideal.ofBits, Ideal.ieee]
  rw [top] at c
  have l : max (x i : EReal) (-(x i : EReal)) < ⊤ := of_true c
  rw [max_lt_iff] at l
  refine (EReal.coe_toReal l.1.ne fun hx => ?_).symm
  have l2 := l.2
  rw [hx] at l2
  exact absurd l2 (by simp)

theorem pos_at {s : Shape} {axes : List (Fin s.rank)} (x y : FVec Ideal s .f32) (hb : S_.BroadcastsInDim s (![] : Fin 0 → Fin s.rank))
    (hr : s.ReducesTo axes S_) (hu : 0 < S_.numel) (j : S_.Idx)
    (e : Host.reduce IntOp.andi (cmpf .ogt (addf (mulf x x) (mulf y y)) (broadcastInDim s ![] hb (constant S_ .f32 0x00000000#32))) (constantI S_ 1 1#1) hr hu j = 1#1)
    (i : s.Idx) : (0 : EReal) < (x i : EReal) * (x i : EReal) + (y i : EReal) * (y i : EReal) := by
  have c : Ideal.cmp .ogt ((x i : EReal) * (x i : EReal) + (y i : EReal) * (y i : EReal)) (Ideal.ofBits .f32 0x00000000#32) = 1#1 :=
    Host.reduce_andi_all _ _ _ _ j e i
  rw [Ideal.ofBits_zero_f32] at c
  exact of_true c

theorem pre_holds [Cert.Pre_well_posed.Facts] {x0 : FVec Ideal S2x8192x512 .f32} {x1 x2 : FVec Ideal S32x64 .f32} {x3 x4 : FVec Ideal S32x64x16 .f32}
    {x5 x6 : FVec Ideal S32x16x64 .f32} {x7 : FVec Ideal S32 .f32} (h : fn (F := Ideal) x0 x1 x2 x3 x4 x5 x6 x7 = fun _ => 1#1) :
    ∃ q : Par, Holds q x0 x1 x2 x3 x4 x5 x6 x7 := by
  have e := congrFun h (Shape.Idx.first Facts.h_S_)
  simp only [fn, fn_part1, fn_part2, and_at] at e
  obtain ⟨⟨⟨⟨⟨⟨⟨⟨e0, e1⟩, e2⟩, e3⟩, e4⟩, e5⟩, e6⟩, e7⟩, e8⟩ := e
  have f1 := real_of_fin x1 _ _ _ _ e1
  have f2 := real_of_fin x2 _ _ _ _ e2
  refine ⟨⟨fun b n l => EReal.toReal (x0 (ix3 b n l)), fun g p => EReal.toReal (x1 (ix2 g p)), fun g p => EReal.toReal (x2 (ix2 g p)),
    fun g p c => EReal.toReal (x3 (ix3 g p c)), fun g p c => EReal.toReal (x4 (ix3 g p c)), fun g d p => EReal.toReal (x5 (ix3 g d p)),
    fun g d p => EReal.toReal (x6 (ix3 g d p)), fun g => EReal.toReal (x7 (ix1 g)), fun g p => ?_⟩, ⟨fun b n l => real_of_fin x0 _ _ _ _ e0 _,
    fun g p => f1 _, fun g p => f2 _, fun g p c => real_of_fin x3 _ _ _ _ e3 _, fun g p c => real_of_fin x4 _ _ _ _ e4 _,
    fun g d p => real_of_fin x5 _ _ _ _ e5 _, fun g d p => real_of_fin x6 _ _ _ _ e6 _, fun g => real_of_fin x7 _ _ _ _ e7 _⟩⟩
  have w := pos_at x1 x2 _ _ _ _ e8 (ix2 g p)
  rw [f1, f2, ← EReal.coe_mul, ← EReal.coe_mul, ← EReal.coe_add] at w
  exact (EReal.coe_pos.mp w).ne'

end Cert.S5
-- ==== Proof.S5.Ref0.lean ====
/- The host operations of the S5 reference before its loop, read at an index over real arguments. -/
module

public import proofs.«01_k».proof.Proof.S5.Host0
public import proofs.«01_k».proof.Proof.Gen.ReferenceIdeal.Run

@[expose] public section

set_option maxRecDepth 16384

noncomputable section

namespace Cert.S5

open Idealize.ShloMosaic Idealize.ShloMosaic.TcCoe Idealize.SL.Sem Cert.ReferenceIdeal Cert.ReferenceIdeal.Gen

variable {q : Par} {W : Valuation τ sig (Elt Ideal)}

theorem r0_lr (h : Holds q (W main_arg0) (W main_arg1) (W main_arg2) (W main_arg3) (W main_arg4) (W main_arg5)
      (W main_arg6) (W main_arg7)) (g : Fin 32) (p : Fin 64) :
    (StableHlo.after hostOps0 W main_v50_2 : (⟨S32x64, .f32⟩ : BufTy).Contents (Elt Ideal)) (ix2 g p)
      = (((q.lam g p).re : ℝ) : EReal) := by
  after_reads_simp
  simp only [id_eq]
  pointwise
  simp only [h.ar, h.ai, h.ld, exp_real, cos_real, sin_real, ← EReal.coe_mul]
  rw [q.lam_re]; rfl

theorem r0_li (h : Holds q (W main_arg0) (W main_arg1) (W main_arg2) (W main_arg3) (W main_arg4) (W main_arg5)
      (W main_arg6) (W main_arg7)) (g : Fin 32) (p : Fin 64) :
    (StableHlo.after hostOps0 W main_v50_3 : (⟨S32x64, .f32⟩ : BufTy).Contents (Elt Ideal)) (ix2 g p)
      = (((q.lam g p).im : ℝ) : EReal) := by
  after_reads_simp
  simp only [id_eq]
  pointwise
  simp only [h.ar, h.ai, h.ld, exp_real, cos_real, sin_real, ← EReal.coe_mul]
  rw [q.lam_im]; rfl

theorem Par.inp_re (n : Fin 8192) (b : Fin 2) (g : Fin 32) (p : Fin 64) :
    (q.inp b n.val g p).re = ∑ c : Fin 16, (q.B g p c).re * q.u b n (Par.ch g c) := by
  rw [Par.inp, Complex.re_sum]
  simp only [Complex.re_mul_ofReal, Par.tok, n.isLt, dite_true]

theorem Par.inp_im (n : Fin 8192) (b : Fin 2) (g : Fin 32) (p : Fin 64) :
    (q.inp b n.val g p).im = ∑ c : Fin 16, (q.B g p c).im * q.u b n (Par.ch g c) := by
  rw [Par.inp, Complex.im_sum]
  simp only [Complex.im_mul_ofReal, Par.tok, n.isLt, dite_true]

theorem r0_xr (h : Holds q (W main_arg0) (W main_arg1) (W main_arg2) (W main_arg3) (W main_arg4) (W main_arg5)
      (W main_arg6) (W main_arg7)) (n : Fin 8192) (b : Fin 2) (g : Fin 32) (p : Fin 64) :
    (StableHlo.after hostOps0 W main_v50_0 : (⟨S8192x2x32x64, .f32⟩ : BufTy).Contents (Elt Ideal)) (ix4 n b g p)
      = (((q.inp b n.val g p).re : ℝ) : EReal) := by
  after_reads_simp
  simp only [id_eq]
  pointwise
  simp only [h.u, h.ar, h.ai, h.ld, h.br, h.bi, exp_real, cos_real, sin_real, ← EReal.coe_mul,
    ← EReal.coe_add, ← EReal.coe_sub, ← EReal.coe_one, div_real _ _ (q.den g p), sum_real]
  rw [q.inp_re]
  refine congrArg _ (Finset.sum_congr rfl fun c _ => ?_)
  simp only [Par.B, Par.fr, Par.fi, Par.lam_re, Par.lam_im, Par.lr, Par.li, Par.ch, mul_comm g.val 16]

theorem r0_xi (h : Holds q (W main_arg0) (W main_arg1) (W main_arg2) (W main_arg3) (W main_arg4) (W main_arg5)
      (W main_arg6) (W main_arg7)) (n : Fin 8192) (b : Fin 2) (g : Fin 32) (p : Fin 64) :
    (StableHlo.after hostOps0 W main_v50_1 : (⟨S8192x2x32x64, .f32⟩ : BufTy).Contents (Elt Ideal)) (ix4 n b g p)
      = (((q.inp b n.val g p).im : ℝ) : EReal) := by
  after_reads_simp
  simp only [id_eq]
  pointwise
  simp only [h.u, h.ar, h.ai, h.ld, h.br, h.bi, exp_real, cos_real, sin_real, ← EReal.coe_mul,
    ← EReal.coe_add, ← EReal.coe_sub, ← EReal.coe_one, div_real _ _ (q.den g p), sum_real]
  rw [q.inp_im]
  refine congrArg _ (Finset.sum_congr rfl fun c _ => ?_)
  simp only [Par.B, Par.fr, Par.fi, Par.lam_re, Par.lam_im, Par.lr, Par.li, Par.ch, mul_comm g.val 16]

theorem r0_sr (b : Fin 2) (g : Fin 32) (p : Fin 64) :
    (StableHlo.after hostOps0 W main_v50_5 : (⟨S2x32x64, .f32⟩ : BufTy).Contents (Elt Ideal)) (ix3 b g p)
      = (0 : EReal) := by
  after_reads_simp
  simp only [id_eq]
  pointwise

theorem r0_si (b : Fin 2) (g : Fin 32) (p : Fin 64) :
    (StableHlo.after hostOps0 W main_v50_6 : (⟨S2x32x64, .f32⟩ : BufTy).Contents (Elt Ideal)) (ix3 b g p)
      = (0 : EReal) := by
  after_reads_simp
  simp only [id_eq]
  pointwise

end Cert.S5
-- ==== Proof.S5.Ref1.lean ====
/- One trip of the S5 reference's loop: what it reads of the inputs, what it writes of the states. -/
module

public import proofs.«01_k».proof.Proof.S5.Ref0
public import Idealize.ShloMosaic.Lib.WordCmp

@[expose] public section

set_option maxRecDepth 16384

noncomputable section

namespace Cert.S5.Loop

open Idealize.ShloMosaic Idealize.ShloMosaic.TcCoe Idealize.SL.Sem Cert.ReferenceIdeal Cert.ReferenceIdeal.Gen Cert.ReferenceIdeal.Value

/-- Where a trip's row starts. -/
def starts (i : S_.Idx → BitVec 32) : Fin 4 → Int := fun k =>
  ((![i, constantI S_ 32 0#32, constantI S_ 32 0#32, constantI S_ 32 0#32] : Fin 4 → S_.Idx → BitVec 32) k (Shape.Idx.first h_S_)).toInt

theorem starts_eq (k : ℕ) (hk : k < 8192) (a : Fin 4) :
    starts (fun _ => BitVec.ofNat 32 k) a = ((![k, 0, 0, 0] : Fin 4 → ℕ) a : Int) := by
  have e : (BitVec.ofNat 32 k).toInt = (k : Int) := by
    rw [BitVec.toInt_eq_toNat_of_lt (by simp; omega)]
    simp
    omega
  fin_cases a
  · exact e
  · rfl
  · rfl
  · rfl

theorem row_fits (k : ℕ) (hk : k < 8192) : S8192x2x32x64.Slices (![k, 0, 0, 0] : Fin 4 → ℕ) S1x2x32x64 := by
  refine ⟨rfl, fun a => ?_⟩
  fin_cases a
  · show k + 1 ≤ 8192
    omega
  · show 0 + 2 ≤ 2
    omega
  · show 0 + 32 ≤ 32
    omega
  · show 0 + 64 ≤ 64
    omega

/-- The row a trip reads. -/
def row (x : FVec Ideal S8192x2x32x64 .f32) (i : S_.Idx → BitVec 32) : FVec Ideal S2x32x64 .f32 :=
  shapeCast S2x32x64 (Host.dynamicSlice S1x2x32x64 x (starts i) sliceFits_S8192x2x32x64_S1x2x32x64) shapeCasts_S1x2x32x64_S2x32x64

theorem row_at (x : FVec Ideal S8192x2x32x64 .f32) (k : Fin 8192) (b : Fin 2) (g : Fin 32) (p : Fin 64) :
    row x (fun _ => BitVec.ofNat 32 k.val) (ix3 b g p) = x (ix4 k b g p) := by
  unfold row
  rw [WordCmp.dynamicSlice_eq_extract S1x2x32x64 x _ _ _ (row_fits k.val k.isLt) (starts_eq k.val k.isLt)]
  rw [shapeCast_apply _ _ _ (ix4 0 b g p) (by
    rw [Shape.rowMajor_val_four, Shape.rowMajor_val_three]
    simp)]
  refine congrArg x ?_
  funext a
  fin_cases a <;> exact Fin.ext (by simp)

/-- The states with a trip's row written. -/
def put (x : FVec Ideal S8192x2x32x64 .f32) (w : FVec Ideal S2x32x64 .f32) (i : S_.Idx → BitVec 32) : FVec Ideal S8192x2x32x64 .f32 :=
  Host.dynamicUpdateSlice x (broadcastInDim S1x2x32x64 ![1, 2, 3] bcast_S2x32x64_S1x2x32x64_1_2_3 w) (starts i)
    updateFits_S8192x2x32x64_S1x2x32x64

theorem put_at (x : FVec Ideal S8192x2x32x64 .f32) (w : FVec Ideal S2x32x64 .f32) (k n : Fin 8192) (b : Fin 2) (g : Fin 32) (p : Fin 64) :
    put x w (fun _ => BitVec.ofNat 32 k.val) (ix4 n b g p) = if n = k then w (ix3 b g p) else x (ix4 n b g p) := by
  unfold put
  rw [WordCmp.dynamicUpdateSlice_eq_update x _ _ _ _ (row_fits k.val k.isLt) (starts_eq k.val k.isLt)]
  pointwise
  by_cases e : n = k
  · rw [dif_pos (by subst e; omega), if_pos e]
  · rw [dif_neg (fun h => e (Fin.ext (by omega))), if_neg e]

/-- A state's real coordinate a token on, off arrays. -/
def nextRe (lr li : FVec Ideal S32x64 .f32) (sr si : FVec Ideal S2x32x64 .f32) (r : FVec Ideal S2x32x64 .f32) : FVec Ideal S2x32x64 .f32 :=
  addf (subf
    (mulf (broadcastInDim S2x32x64 ![0, 1, 2] bcast_S1x32x64_S2x32x64_0_1_2 (broadcastInDim S1x32x64 ![1, 2] bcast_S32x64_S1x32x64_1_2 lr)) sr)
    (mulf (broadcastInDim S2x32x64 ![0, 1, 2] bcast_S1x32x64_S2x32x64_0_1_2 (broadcastInDim S1x32x64 ![1, 2] bcast_S32x64_S1x32x64_1_2 li)) si)) r

/-- A state's imaginary coordinate a token on, off arrays. -/
def nextIm (lr li : FVec Ideal S32x64 .f32) (sr si : FVec Ideal S2x32x64 .f32) (r : FVec Ideal S2x32x64 .f32) : FVec Ideal S2x32x64 .f32 :=
  addf (addf
    (mulf (broadcastInDim S2x32x64 ![0, 1, 2] bcast_S1x32x64_S2x32x64_0_1_2 (broadcastInDim S1x32x64 ![1, 2] bcast_S32x64_S1x32x64_1_2 lr)) si)
    (mulf (broadcastInDim S2x32x64 ![0, 1, 2] bcast_S1x32x64_S2x32x64_0_1_2 (broadcastInDim S1x32x64 ![1, 2] bcast_S32x64_S1x32x64_1_2 li)) sr)) r

theorem nextRe_at (lr li : FVec Ideal S32x64 .f32) (sr si r : FVec Ideal S2x32x64 .f32) (b : Fin 2) (g : Fin 32) (p : Fin 64) :
    nextRe lr li sr si r (ix3 b g p) = lr (ix2 g p) * sr (ix3 b g p) - li (ix2 g p) * si (ix3 b g p) + r (ix3 b g p) := by
  unfold nextRe
  pointwise

theorem nextIm_at (lr li : FVec Ideal S32x64 .f32) (sr si r : FVec Ideal S2x32x64 .f32) (b : Fin 2) (g : Fin 32) (p : Fin 64) :
    nextIm lr li sr si r (ix3 b g p) = lr (ix2 g p) * si (ix3 b g p) + li (ix2 g p) * sr (ix3 b g p) + r (ix3 b g p) := by
  unfold nextIm
  pointwise

section

variable (V : Valuation τ sig (Elt Ideal))

abbrev vxr : FVec Ideal S8192x2x32x64 .f32 := V (Proc.devRef .tc main_v50_0)
abbrev vxi : FVec Ideal S8192x2x32x64 .f32 := V (Proc.devRef .tc main_v50_1)
abbrev vlr : FVec Ideal S32x64 .f32 := V (Proc.devRef .tc main_v50_2)
abbrev vli : FVec Ideal S32x64 .f32 := V (Proc.devRef .tc main_v50_3)
abbrev vk : S_.Idx → BitVec 32 := V (Proc.devRef .tc main_v50_4)
abbrev vsr : FVec Ideal S2x32x64 .f32 := V (Proc.devRef .tc main_v50_5)
abbrev vsi : FVec Ideal S2x32x64 .f32 := V (Proc.devRef .tc main_v50_6)
abbrev vzr : FVec Ideal S8192x2x32x64 .f32 := V (Proc.devRef .tc main_v50_7)
abbrev vzi : FVec Ideal S8192x2x32x64 .f32 := V (Proc.devRef .tc main_v50_8)

theorem step_k : vk (STEP V) = addi (vk V) (constantI S_ 32 1#32) := STEP_main_v50_4 V
theorem step_sr : vsr (STEP V) = nextRe (vlr V) (vli V) (vsr V) (vsi V) (row (vxr V) (vk V)) := STEP_main_v50_5 V
theorem step_si : vsi (STEP V) = nextIm (vlr V) (vli V) (vsr V) (vsi V) (row (vxi V) (vk V)) := STEP_main_v50_6 V
theorem step_zr : vzr (STEP V) = put (vzr V) (nextRe (vlr V) (vli V) (vsr V) (vsi V) (row (vxr V) (vk V))) (vk V) := STEP_main_v50_7 V
theorem step_zi : vzi (STEP V) = put (vzi V) (nextIm (vlr V) (vli V) (vsr V) (vsi V) (row (vxi V) (vk V))) (vk V) := STEP_main_v50_8 V

/-- The loop's buffers before trip `k`. -/
structure At (q : Par) (k : ℕ) : Prop where
  ctr : vk V = fun _ => BitVec.ofNat 32 k
  lr : ∀ g p, vlr V (ix2 g p) = (((q.lam g p).re : ℝ) : EReal)
  li : ∀ g p, vli V (ix2 g p) = (((q.lam g p).im : ℝ) : EReal)
  xr : ∀ (n : Fin 8192) b g p, vxr V (ix4 n b g p) = (((q.inp b n.val g p).re : ℝ) : EReal)
  xi : ∀ (n : Fin 8192) b g p, vxi V (ix4 n b g p) = (((q.inp b n.val g p).im : ℝ) : EReal)
  sr : ∀ b g p, vsr V (ix3 b g p) = (((q.X b k g p).re : ℝ) : EReal)
  si : ∀ b g p, vsi V (ix3 b g p) = (((q.X b k g p).im : ℝ) : EReal)
  zr : ∀ (n : Fin 8192) b g p, n.val < k → vzr V (ix4 n b g p) = (((q.X b (n.val + 1) g p).re : ℝ) : EReal)
  zi : ∀ (n : Fin 8192) b g p, n.val < k → vzi V (ix4 n b g p) = (((q.X b (n.val + 1) g p).im : ℝ) : EReal)

variable {V} {q : Par} {k : ℕ}

theorem At.nextRe (h : At V q k) (hk : k < 8192) (b : Fin 2) (g : Fin 32) (p : Fin 64) :
    Cert.S5.Loop.nextRe (vlr V) (vli V) (vsr V) (vsi V) (row (vxr V) (vk V)) (ix3 b g p) = (((q.X b (k + 1) g p).re : ℝ) : EReal) := by
  rw [nextRe_at, h.ctr, row_at _ ⟨k, hk⟩, h.lr, h.li, h.sr, h.si, h.xr, ← EReal.coe_mul, ← EReal.coe_mul, ← EReal.coe_sub, ← EReal.coe_add,
    Par.X, Complex.add_re, Complex.mul_re]

theorem At.nextIm (h : At V q k) (hk : k < 8192) (b : Fin 2) (g : Fin 32) (p : Fin 64) :
    Cert.S5.Loop.nextIm (vlr V) (vli V) (vsr V) (vsi V) (row (vxi V) (vk V)) (ix3 b g p) = (((q.X b (k + 1) g p).im : ℝ) : EReal) := by
  rw [nextIm_at, h.ctr, row_at _ ⟨k, hk⟩, h.lr, h.li, h.sr, h.si, h.xi, ← EReal.coe_mul, ← EReal.coe_mul, ← EReal.coe_add, ← EReal.coe_add,
    Par.X, Complex.add_im, Complex.mul_im]

theorem At.step (h : At V q k) (hk : k < 8192) : At (STEP V) q (k + 1) where
  ctr := by
    rw [step_k, h.ctr]
    funext i
    show BitVec.ofNat 32 k + 1#32 = BitVec.ofNat 32 (k + 1)
    rw [BitVec.ofNat_add]
  lr g p := Eq.trans (congrFun (STEP_main_v50_2 V) _) (h.lr g p)
  li g p := Eq.trans (congrFun (STEP_main_v50_3 V) _) (h.li g p)
  xr n b g p := Eq.trans (congrFun (STEP_main_v50_0 V) _) (h.xr n b g p)
  xi n b g p := Eq.trans (congrFun (STEP_main_v50_1 V) _) (h.xi n b g p)
  sr b g p := by rw [step_sr, h.nextRe hk]
  si b g p := by rw [step_si, h.nextIm hk]
  zr n b g p hn := by
    have e := h.ctr
    have w := h.nextRe hk b g p
    rw [step_zr]
    generalize Cert.S5.Loop.nextRe (vlr V) (vli V) (vsr V) (vsi V) (row (vxr V) (vk V)) = z at w ⊢
    rw [e, put_at _ _ ⟨k, hk⟩]
    by_cases c : n = ⟨k, hk⟩
    · subst c
      rw [if_pos rfl, w]
    · rw [if_neg c]
      exact h.zr n b g p (by
        have : n.val ≠ k := fun e => c (Fin.ext e)
        omega)
  zi n b g p hn := by
    have e := h.ctr
    have w := h.nextIm hk b g p
    rw [step_zi]
    generalize Cert.S5.Loop.nextIm (vlr V) (vli V) (vsr V) (vsi V) (row (vxi V) (vk V)) = z at w ⊢
    rw [e, put_at _ _ ⟨k, hk⟩]
    by_cases c : n = ⟨k, hk⟩
    · subst c
      rw [if_pos rfl, w]
    · rw [if_neg c]
      exact h.zi n b g p (by
        have : n.val ≠ k := fun e => c (Fin.ext e)
        omega)

theorem At.iter (h : At V q 0) : ∀ k, k ≤ 8192 → At (STEP^[k] V) q k
  | 0, _ => h
  | k + 1, hk => by
    rw [Function.iterate_succ_apply']
    exact (At.iter h k (by omega)).step (by omega)

end

end Cert.S5.Loop
-- ==== Proof.S5.Host1.lean ====
module
public import proofs.«01_k».proof.Proof.S5.Host0
public import Idealize.ShloMosaic.Lib.KernelVsHost
@[expose] public section
set_option maxRecDepth 16384
noncomputable section
namespace Cert.S5
open Idealize.ShloMosaic Idealize.ShloMosaic.TcCoe Idealize.SL.Sem Cert.KernelIdeal Cert.KernelIdeal.Gen
def midOps : List (HloOp τ sig (Elt Ideal)) :=
  hostOps0_1 ++ (hostOps0_2 ++ (hostOps0_3 ++ (hostOps0_4 ++ (hostOps0_5 ++ (hostOps0_6 ++ (hostOps0_7 ++ (hostOps0_8
    ++ (hostOps0_9 ++ (hostOps0_10 ++ (hostOps0_11 ++ (hostOps0_12 ++ (hostOps0_13 ++ (hostOps0_14 ++ (hostOps0_15 ++ hostOps0_16))))))))))))))
variable {W : Valuation τ sig (Elt Ideal)}
def shifted (y : FVec Ideal S512x128 .bf16) (n : ℕ) (r : Fin 512) (e : Fin 128) : EReal :=
  if h : n ≤ e.val then y (ix2 r ⟨e.val - n, by omega⟩) else 0
theorem pad_at {n w : ℕ} (y : FVec Ideal S512x128 .bf16) (v : FVec Ideal S_ .bf16)
    (hp : S512x128.Pads (![0, n] : Fin 2 → Nat) ![0, 0] ![0, 0] ⟨2, ![512, w]⟩) (hu : 0 < S_.numel) (r : Fin 512) (e : Fin 128) (he : e.val < w)
    (hv : n = 0 ∨ v (Shape.Idx.first hu) = 0) :
    pad ⟨2, ![512, w]⟩ ![0, n] ![0, 0] ![0, 0] y v hp hu (ix2 r ⟨e.val, he⟩) = shifted y n r e := by
  unfold shifted
  split
  · refine pad_apply_of_inside _ _ _ _ _ _ _ _ _ fun a => ?_
    fin_cases a
    · simp [ix2]
    · simp [ix2]; omega
  · rename_i h
    refine (pad_apply_of_not_inside _ _ _ _ _ _ _ _ 1 fun q => h ?_).trans (hv.resolve_left (by omega))
    simpa [ix2] using q.1

theorem toep_at (k : Fin 4) (j : Fin 8) (r : Fin 128) (t : Fin 8) (γ : Fin 8) (d : Fin 16) :
    (StableHlo.after midOps W main_v204 : (⟨S4x1024x1024, .bf16⟩ : BufTy).Contents (Elt Ideal)) (ix3 k ⟨j.val * 128 + r.val, by omega⟩ ⟨t.val * 128 + (γ.val * 16 + d.val), by omega⟩)
      = shifted (W main_v131) (16 * j.val) ⟨k.val * 128 + r.val, by omega⟩ ⟨t.val * 16 + d.val, by omega⟩ := by
  after_reads_simp
  pointwise
  fin_cases j
  all_goals
    simp only [Nat.reduceLT, Nat.reduceSub, Nat.lt_irrefl, dite_true, dite_false]
    after_reads_simp
    pointwise
    refine pad_at (W main_v131) _ ?_ ?_ _ ⟨t.val * 16 + d.val, _⟩ ?_ ?_
    · decide
    · first | exact Or.inl rfl | (right; show (((0#32).toInt : ℝ) : EReal) = 0; simp)

abbrev pick := gather_S9x32x16x64_S8x1_S8x32x16x64_123_0_n_n_0_1_1321664

theorem pick_at (x : FVec Ideal S9x32x16x64 .f32) (idx : IVec S8x1 32) (j : Fin 8) (g : Fin 32) (c : Fin 16) (p : Fin 64) :
    Host.gather pick x idx (ix4 j g c p) = x (ix4 ⟨min (idx (ix2 j 0)).toInt.toNat 8, by omega⟩ g c p) := by
  unfold Host.gather
  congr 1
  funext a
  refine Fin.ext ?_
  show pick.start _ idx a + pick.batchCoord _ a + pick.offCoord _ a = _
  rw [GatherDims.batchCoord_eq_zero _ _ _ (fun h => by simp [pick, gather_S9x32x16x64_S8x1_S8x32x16x64_123_0_n_n_0_1_1321664] at h)]
  have ha : a = 0 ∨ a = 1 ∨ a = 2 ∨ a = 3 := by fin_cases a <;> simp
  rcases ha with rfl | ha
  · rw [GatherDims.offCoord_eq_zero _ _ _ (fun h => ((GatherDims.mem_sKept _ _).mp h).1 (List.mem_singleton.mpr rfl))]
    unfold GatherDims.start
    rw [dif_pos (show (0 : Fin 4) ∈ pick.startIndexMap from List.mem_singleton.mpr rfl)]
    rw [show pick.siIdx (ix4 j g c p) ⟨List.idxOf (0 : Fin 4) pick.startIndexMap, List.idxOf_lt_length_iff.2 (List.mem_singleton.mpr rfl)⟩ = ix2 j 0 from by
      funext b
      fin_cases b <;> rfl]
    rfl
  · rcases ha with rfl | rfl | rfl
    all_goals
      unfold GatherDims.start
      rw [dif_neg (by simp [pick, gather_S9x32x16x64_S8x1_S8x32x16x64_123_0_n_n_0_1_1321664])]
      simp only [Nat.zero_add]
      rfl

theorem pick_val (hc : (W main_c : (⟨S8, .i32⟩ : BufTy).Contents (Elt Ideal)) = fun i => lit0 (S8.rowMajor i))
    (x : FVec Ideal S9x32x16x64 .f32) (b : IVec S8 1) (hb : b = constantI S8 1 0#1) (j : Fin 8) (g : Fin 32) (c : Fin 16) (p : Fin 64) :
    Host.gather pick x (broadcastInDim S8x1 ![0] bcast_S8_S8x1_0
        (select b (addi (W main_c) (broadcastInDim S8 ![] bcast_S_S8 (constantI S_ 32 9#32))) (W main_c))) (ix4 j g c p)
      = x (ix4 ⟨7 - j.val, by omega⟩ g c p) := by
  rw [pick_at]
  congr 2
  refine Fin.ext ?_
  rw [hb, hc]
  show min (lit0 (S8.rowMajor (ix1 j))).toInt.toNat 8 = 7 - j.val
  fin_cases j <;> rfl

theorem wlo_at (hc : (W main_c : (⟨S8, .i32⟩ : BufTy).Contents (Elt Ideal)) = fun i => lit0 (S8.rowMajor i))
    (h0 : (W main_c_0 : (⟨S8, .i1⟩ : BufTy).Contents (Elt Ideal)) = constantI S8 1 0#1)
    (k : Fin 4) (j γ : Fin 8) (c : Fin 16) (p : Fin 64) :
    (StableHlo.after midOps W main_v173 : (⟨S4x1024x128, .bf16⟩ : BufTy).Contents (Elt Ideal)) (ix3 k ⟨j.val * 128 + (γ.val * 16 + c.val), by omega⟩ ⟨p.val, by omega⟩)
      = (W main_v111 : FVec Ideal S9x32x16x64 .f32) (ix4 ⟨7 - j.val, by omega⟩ ⟨k.val * 8 + γ.val, by omega⟩ c p) := by
  after_reads_simp
  pointwise
  after_reads_simp
  exact pick_val hc _ _ h0 ..

theorem whi_at (hc : (W main_c : (⟨S8, .i32⟩ : BufTy).Contents (Elt Ideal)) = fun i => lit0 (S8.rowMajor i))
    (h0 : (W main_c_1 : (⟨S8, .i1⟩ : BufTy).Contents (Elt Ideal)) = constantI S8 1 0#1)
    (k : Fin 4) (j γ : Fin 8) (c : Fin 16) (p : Fin 64) :
    (StableHlo.after midOps W main_v173 : (⟨S4x1024x128, .bf16⟩ : BufTy).Contents (Elt Ideal)) (ix3 k ⟨j.val * 128 + (γ.val * 16 + c.val), by omega⟩ ⟨64 + p.val, by omega⟩)
      = (W main_v122 : FVec Ideal S9x32x16x64 .f32) (ix4 ⟨7 - j.val, by omega⟩ ⟨k.val * 8 + γ.val, by omega⟩ c p) := by
  after_reads_simp
  pointwise
  after_reads_simp
  exact pick_val hc _ _ h0 ..

theorem v190_at {y5 y6 : S32x16x64.Idx → EReal} {y87 y100 : S32x64x9.Idx → EReal} (h5 : W main_arg5 = y5) (h6 : W main_arg6 = y6) (h87 : W main_v87 = y87) (h100 : W main_v100 = y100)
    (k : Fin 4) (γ : Fin 8) (p : Fin 64) (t : Fin 8) (d : Fin 16) :
    (StableHlo.upto midOps W 86 main_v190 : (⟨S4x512x128, .bf16⟩ : BufTy).Contents (Elt Ideal)) (ix3 k ⟨γ.val * 64 + p.val, by omega⟩ ⟨t.val * 16 + d.val, by omega⟩)
      = y5 (ix3 ⟨k.val * 8 + γ.val, by omega⟩ d p) * y87 (ix3 ⟨k.val * 8 + γ.val, by omega⟩ p ⟨1 + t.val, by omega⟩)
        - y6 (ix3 ⟨k.val * 8 + γ.val, by omega⟩ d p) * y100 (ix3 ⟨k.val * 8 + γ.val, by omega⟩ p ⟨1 + t.val, by omega⟩) := by
  have hg : (⟨k.val * 8 + (γ.val * 64 + p.val) / 64, by omega⟩ : Fin 32) = ⟨k.val * 8 + γ.val, by omega⟩ := Fin.ext (by simp only; omega)
  after_reads_simp
  pointwise
  rw [hg, h5, h6, h87, h100]

theorem v200_at {y5 y6 : S32x16x64.Idx → EReal} {y87 y100 : S32x64x9.Idx → EReal} (h5 : W main_arg5 = y5) (h6 : W main_arg6 = y6) (h87 : W main_v87 = y87) (h100 : W main_v100 = y100)
    (k : Fin 4) (γ : Fin 8) (p : Fin 64) (t : Fin 8) (d : Fin 16) :
    (StableHlo.upto midOps W 86 main_v200 : (⟨S4x512x128, .bf16⟩ : BufTy).Contents (Elt Ideal)) (ix3 k ⟨γ.val * 64 + p.val, by omega⟩ ⟨t.val * 16 + d.val, by omega⟩)
      = -(y5 (ix3 ⟨k.val * 8 + γ.val, by omega⟩ d p) * y100 (ix3 ⟨k.val * 8 + γ.val, by omega⟩ p ⟨1 + t.val, by omega⟩)
        + y6 (ix3 ⟨k.val * 8 + γ.val, by omega⟩ d p) * y87 (ix3 ⟨k.val * 8 + γ.val, by omega⟩ p ⟨1 + t.val, by omega⟩)) := by
  have hg : (⟨k.val * 8 + (γ.val * 64 + p.val) / 64, by omega⟩ : Fin 32) = ⟨k.val * 8 + γ.val, by omega⟩ := Fin.ext (by simp only; omega)
  after_reads_simp
  pointwise
  rw [hg, h5, h6, h87, h100]

theorem v201_eq : (StableHlo.after midOps W main_v201 : (⟨S4x1024x128, .bf16⟩ : BufTy).Contents (Elt Ideal))
    = concatenate S4x1024x128 1 [⟨S4x512x128, StableHlo.upto midOps W 86 main_v190⟩, ⟨S4x512x128, StableHlo.upto midOps W 86 main_v200⟩] concatenates_S4x512x128_S4x512x128_S4x1024x128_d1 := by
  after_reads_simp

theorem vlo_at {y5 y6 : S32x16x64.Idx → EReal} {y87 y100 : S32x64x9.Idx → EReal} (h5 : W main_arg5 = y5) (h6 : W main_arg6 = y6) (h87 : W main_v87 = y87) (h100 : W main_v100 = y100)
    (k : Fin 4) (γ : Fin 8) (p : Fin 64) (t : Fin 8) (d : Fin 16) :
    (StableHlo.after midOps W main_v201 : (⟨S4x1024x128, .bf16⟩ : BufTy).Contents (Elt Ideal)) (ix3 k ⟨γ.val * 64 + p.val, by omega⟩ ⟨t.val * 16 + d.val, by omega⟩)
      = y5 (ix3 ⟨k.val * 8 + γ.val, by omega⟩ d p) * y87 (ix3 ⟨k.val * 8 + γ.val, by omega⟩ p ⟨1 + t.val, by omega⟩)
        - y6 (ix3 ⟨k.val * 8 + γ.val, by omega⟩ d p) * y100 (ix3 ⟨k.val * 8 + γ.val, by omega⟩ p ⟨1 + t.val, by omega⟩) := by
  rw [v201_eq, ← v190_at h5 h6 h87 h100]
  generalize StableHlo.upto midOps W 86 main_v190 = A
  generalize StableHlo.upto midOps W 86 main_v200 = B
  pointwise
  exact dif_pos (show γ.val * 64 + p.val < 512 by omega)

theorem vhi_at {y5 y6 : S32x16x64.Idx → EReal} {y87 y100 : S32x64x9.Idx → EReal} (h5 : W main_arg5 = y5) (h6 : W main_arg6 = y6) (h87 : W main_v87 = y87) (h100 : W main_v100 = y100)
    (k : Fin 4) (γ : Fin 8) (p : Fin 64) (t : Fin 8) (d : Fin 16) :
    (StableHlo.after midOps W main_v201 : (⟨S4x1024x128, .bf16⟩ : BufTy).Contents (Elt Ideal)) (ix3 k ⟨512 + (γ.val * 64 + p.val), by omega⟩ ⟨t.val * 16 + d.val, by omega⟩)
      = -(y5 (ix3 ⟨k.val * 8 + γ.val, by omega⟩ d p) * y100 (ix3 ⟨k.val * 8 + γ.val, by omega⟩ p ⟨1 + t.val, by omega⟩)
        + y6 (ix3 ⟨k.val * 8 + γ.val, by omega⟩ d p) * y87 (ix3 ⟨k.val * 8 + γ.val, by omega⟩ p ⟨1 + t.val, by omega⟩)) := by
  rw [v201_eq, ← v200_at h5 h6 h87 h100]
  generalize StableHlo.upto midOps W 86 main_v190 = A
  generalize StableHlo.upto midOps W 86 main_v200 = B
  pointwise

end Cert.S5
-- ==== Proof.S5.Host2.lean ====
module
public import proofs.«01_k».proof.Proof.S5.Host1
@[expose] public section
set_option maxRecDepth 16384
noncomputable section
namespace Cert.S5
open Idealize.ShloMosaic Idealize.ShloMosaic.TcCoe Idealize.SL.Sem Cert.KernelIdeal Cert.KernelIdeal.Gen
variable {W : Valuation τ sig (Elt Ideal)}

abbrev spreadI (c : IVec S_ 32) : IVec S1024x1024 32 := broadcastInDim S1024x1024 ![] bcast_S_S1024x1024 c

/-- The floor division the host writes out. -/
def floorI (x : IVec S1024x1024 32) (c : IVec S_ 32) : IVec S1024x1024 32 :=
  select (andi (cmpi .ne (signi x) (spreadI (signi c))) (cmpi .ne (Host.remsi x (spreadI c)) (spreadI (constantI S_ 32 0#32))))
    (subi (Host.divsi x (spreadI c)) (spreadI (constantI S_ 32 1#32))) (Host.divsi x (spreadI c))

/-- The divisor the host's remainder uses. -/
def nonzeroI (c : IVec S_ 32) : IVec S_ 32 := select (cmpi .eq c (constantI S_ 32 0#32)) (constantI S_ 32 1#32) c

/-- The remainder the host writes out. -/
def modI (x : IVec S1024x1024 32) (c : IVec S_ 32) : IVec S1024x1024 32 :=
  select (andi (cmpi .ne (cmpi .slt (Host.remsi x (spreadI (nonzeroI c))) (spreadI (constantI S_ 32 0#32)))
        (broadcastInDim S1024x1024 ![] bcast_S_S1024x1024 (cmpi .slt (nonzeroI c) (constantI S_ 32 0#32))))
      (cmpi .ne (Host.remsi x (spreadI (nonzeroI c))) (spreadI (constantI S_ 32 0#32))))
    (addi (Host.remsi x (spreadI (nonzeroI c))) (spreadI (nonzeroI c))) (Host.remsi x (spreadI (nonzeroI c)))

/-- A matrix kept where the two index arrays agree. -/
def maskI (a b : IVec S1024x1024 32) (y : FVec Ideal S4x1024x1024 .bf16) : FVec Ideal S4x1024x1024 .bf16 :=
  select (broadcastInDim S4x1024x1024 ![1, 2] bcast_S1024x1024_S4x1024x1024_1_2 (cmpi .eq a b)) y
    (broadcastInDim S4x1024x1024 ![] bcast_S_S4x1024x1024 (constant S_ .bf16 0x0000#16))

theorem floorI_at (x : IVec S1024x1024 32) (c : IVec S_ 32) (q w : Fin 1024) (n m : ℕ) (hn : n < 1024) (hm : m = 16 ∨ m = 64)
    (hx : x (ix2 q w) = BitVec.ofNat 32 n) (hc : c = constantI S_ 32 (BitVec.ofNat 32 m)) :
    floorI x c (ix2 q w) = BitVec.ofNat 32 (n / m) := by
  subst hc
  unfold floorI
  pointwise
  rw [hx]
  clear hx
  rcases hm with rfl | rfl <;> revert n <;> decide +kernel

theorem modI_at (x : IVec S1024x1024 32) (c : IVec S_ 32) (q w : Fin 1024) (n m : ℕ) (hn : n < 1024) (hm : m = 8 ∨ m = 512)
    (hx : x (ix2 q w) = BitVec.ofNat 32 n) (hc : c = constantI S_ 32 (BitVec.ofNat 32 m)) :
    modI x c (ix2 q w) = BitVec.ofNat 32 (n % m) := by
  subst hc
  unfold modI nonzeroI
  pointwise
  rw [hx]
  clear hx
  rcases hm with rfl | rfl <;> revert n <;> decide +kernel

theorem maskI_at (a b : IVec S1024x1024 32) (y : FVec Ideal S4x1024x1024 .bf16) (k : Fin 4) (q w : Fin 1024) (n m : ℕ) (hn : n < 1024) (hm : m < 1024)
    (ha : a (ix2 q w) = BitVec.ofNat 32 n) (hb : b (ix2 q w) = BitVec.ofNat 32 m) :
    maskI a b y (ix3 k q w) = if n = m then y (ix3 k q w) else 0 := by
  unfold maskI
  pointwise
  rw [ha, hb]
  have e : (BitVec.ofNat 32 n = BitVec.ofNat 32 m) ↔ n = m := by
    constructor
    · intro h
      have := congrArg BitVec.toNat h
      simp at this
      omega
    · rintro rfl; rfl
  by_cases h : n = m
  · subst h
    simp [IntOp.cmpi, Scalar.select]
  · have h' : (BitVec.ofNat 32 n == BitVec.ofNat 32 m) = false := beq_eq_false_iff_ne.2 (mt e.1 h)
    simp [IntOp.cmpi, Scalar.select, h, h']

theorem div_mod (x : IVec S1024x1024 32) (c : IVec S_ 32) (hc : c = constantI S_ 32 16#32) (q w n : Fin 1024) (m : ℕ)
    (hx : x (ix2 q w) = BitVec.ofNat 32 n.val) (hm : n.val / 16 % 8 = m) :
    modI (floorI x c) (constantI S_ 32 8#32) (ix2 q w) = BitVec.ofNat 32 m := by
  rw [modI_at _ _ q w (n.val / 16) 8 (by omega) (by omega) (floorI_at x c q w n.val 16 n.isLt (by omega) hx hc) rfl, hm]

theorem mod_div (x : IVec S1024x1024 32) (q w n : Fin 1024) (m : ℕ)
    (hx : x (ix2 q w) = BitVec.ofNat 32 n.val) (hm : n.val % 512 / 64 = m) :
    floorI (modI x (constantI S_ 32 512#32)) (constantI S_ 32 64#32) (ix2 q w) = BitVec.ofNat 32 m := by
  rw [floorI_at _ _ q w (n.val % 512) 64 (by omega) (by omega) (modI_at x _ q w n.val 512 n.isLt (by omega) hx rfl) rfl, hm]

def lateOps : List (HloOp τ sig (Elt Ideal)) :=
  hostOps0_17 ++ (hostOps0_18 ++ (hostOps0_19 ++ (hostOps0_20 ++ (hostOps0_21 ++ (hostOps0_22 ++ (hostOps0_23 ++ (hostOps0_24 ++ (hostOps0_25
    ++ (hostOps0_26 ++ (hostOps0_27 ++ (hostOps0_28 ++ (hostOps0_29 ++ (hostOps0_30 ++ (hostOps0_31 ++ (hostOps0_32 ++ (hostOps0_33 ++ (hostOps0_34
    ++ (hostOps0_35 ++ (hostOps0_36 ++ (hostOps0_37 ++ (hostOps0_38 ++ (hostOps0_39 ++ (hostOps0_40 ++ (hostOps0_41 ++ (hostOps0_42 ++ (hostOps0_43
    ++ (hostOps0_44 ++ (hostOps0_45 ++ hostOps0_46))))))))))))))))))))))))))))

theorem v247_eq : (StableHlo.after lateOps W main_v247 : (⟨S1x4x1024x1024, .bf16⟩ : BufTy).Contents (Elt Ideal))
    = broadcastInDim S1x4x1024x1024 ![1, 2, 3] bcast_S4x1024x1024_S1x4x1024x1024_1_2_3
        (maskI (modI (floorI (W main_v205) (W main_c_12)) (constantI S_ 32 8#32))
          (modI (floorI (iotaInDim S1024x1024 32 1) (constantI S_ 32 16#32)) (constantI S_ 32 8#32)) (W main_v204)) := by
  unfold maskI modI floorI nonzeroI
  after_reads_simp
  simp only [StableHlo.TRef.ofBuf_toBuf]
  rfl

theorem v248_eq : (StableHlo.after lateOps W main_v248 : (⟨S1x4x1024x1024, .bf16⟩ : BufTy).Contents (Elt Ideal))
    = broadcastInDim S1x4x1024x1024 ![1, 2, 3] bcast_S4x1024x1024_S1x4x1024x1024_1_2_3
        (maskI (modI (floorI (iotaInDim S1024x1024 32 0) (constantI S_ 32 16#32)) (constantI S_ 32 8#32))
          (floorI (modI (iotaInDim S1024x1024 32 1) (constantI S_ 32 512#32)) (constantI S_ 32 64#32))
          (shapeCast S4x1024x1024 (broadcastInDim S4x1024x2x8x64 ![0, 1, 2, 3, 4] bcast_S4x1024x2x1x64_S4x1024x2x8x64_0_1_2_3_4
            (shapeCast S4x1024x2x1x64 (W main_v173) shapeCasts_S4x1024x128_S4x1024x2x1x64)) shapeCasts_S4x1024x2x8x64_S4x1024x1024)) := by
  unfold maskI modI floorI nonzeroI
  after_reads_simp
  simp only [StableHlo.TRef.ofBuf_toBuf]
  rfl

theorem v249_eq : (StableHlo.after lateOps W main_v249 : (⟨S1x4x1024x1024, .bf16⟩ : BufTy).Contents (Elt Ideal))
    = broadcastInDim S1x4x1024x1024 ![1, 2, 3] bcast_S4x1024x1024_S1x4x1024x1024_1_2_3
        (maskI (floorI (modI (iotaInDim S1024x1024 32 0) (constantI S_ 32 512#32)) (constantI S_ 32 64#32))
          (modI (floorI (iotaInDim S1024x1024 32 1) (constantI S_ 32 16#32)) (constantI S_ 32 8#32))
          (shapeCast S4x1024x1024 (broadcastInDim S4x1024x8x8x16 ![0, 1, 2, 3, 4] bcast_S4x1024x8x1x16_S4x1024x8x8x16_0_1_2_3_4
            (shapeCast S4x1024x8x1x16 (W main_v201) shapeCasts_S4x1024x128_S4x1024x8x1x16)) shapeCasts_S4x1024x8x8x16_S4x1024x1024)) := by
  unfold maskI modI floorI nonzeroI
  after_reads_simp
  simp only [StableHlo.TRef.ofBuf_toBuf]
  rfl

theorem toepE {y : S4x1024x1024.Idx → EReal} (hy : W main_v204 = y)
    (h205 : (W main_v205 : IVec S1024x1024 32) = iotaInDim S1024x1024 32 0) (h12 : (W main_c_12 : IVec S_ 32) = constantI S_ 32 16#32)
    (k : Fin 4) (j γ : Fin 8) (c : Fin 16) (t γ' : Fin 8) (d : Fin 16) :
    (StableHlo.after lateOps W main_v247 : (⟨S1x4x1024x1024, .bf16⟩ : BufTy).Contents (Elt Ideal))
        (ix4 0 k ⟨j.val * 128 + (γ.val * 16 + c.val), by omega⟩ ⟨t.val * 128 + (γ'.val * 16 + d.val), by omega⟩)
      = if γ.val = γ'.val then y (ix3 k ⟨j.val * 128 + (γ.val * 16 + c.val), by omega⟩ ⟨t.val * 128 + (γ'.val * 16 + d.val), by omega⟩) else 0 := by
  rw [v247_eq, hy]
  refine Eq.trans ?_ (maskI_at (modI (floorI (W main_v205) (W main_c_12)) (constantI S_ 32 8#32))
    (modI (floorI (iotaInDim S1024x1024 32 1) (constantI S_ 32 16#32)) (constantI S_ 32 8#32)) y k _ _ γ.val γ'.val (by omega) (by omega) ?_ ?_)
  · pointwise
  · exact div_mod _ _ h12 _ _ ⟨j.val * 128 + (γ.val * 16 + c.val), by omega⟩ _ (by rw [h205]; rfl) (by simp only; omega)
  · exact div_mod _ _ rfl _ _ ⟨t.val * 128 + (γ'.val * 16 + d.val), by omega⟩ _ rfl (by simp only; omega)

theorem wzE {y : S4x1024x128.Idx → EReal} (hy : W main_v173 = y)
    (k : Fin 4) (j γ : Fin 8) (c : Fin 16) (h : Fin 2) (γ' : Fin 8) (p : Fin 64) :
    (StableHlo.after lateOps W main_v248 : (⟨S1x4x1024x1024, .bf16⟩ : BufTy).Contents (Elt Ideal))
        (ix4 0 k ⟨j.val * 128 + (γ.val * 16 + c.val), by omega⟩ ⟨h.val * 512 + (γ'.val * 64 + p.val), by omega⟩)
      = if γ.val = γ'.val then y (ix3 k ⟨j.val * 128 + (γ.val * 16 + c.val), by omega⟩ ⟨h.val * 64 + p.val, by omega⟩) else 0 := by
  rw [v248_eq, hy]
  refine Eq.trans ?_ ((maskI_at (modI (floorI (iotaInDim S1024x1024 32 0) (constantI S_ 32 16#32)) (constantI S_ 32 8#32))
          (floorI (modI (iotaInDim S1024x1024 32 1) (constantI S_ 32 512#32)) (constantI S_ 32 64#32))
          (shapeCast S4x1024x1024 (broadcastInDim S4x1024x2x8x64 ![0, 1, 2, 3, 4] bcast_S4x1024x2x1x64_S4x1024x2x8x64_0_1_2_3_4
            (shapeCast S4x1024x2x1x64 y shapeCasts_S4x1024x128_S4x1024x2x1x64)) shapeCasts_S4x1024x2x8x64_S4x1024x1024)
     k ⟨j.val * 128 + (γ.val * 16 + c.val), by omega⟩ ⟨h.val * 512 + (γ'.val * 64 + p.val), by omega⟩ γ.val γ'.val (by omega) (by omega) ?_ ?_).trans ?_)
  · pointwise
  · exact div_mod _ _ rfl _ _ ⟨j.val * 128 + (γ.val * 16 + c.val), by omega⟩ _ rfl (by simp only; omega)
  · exact mod_div _ _ _ ⟨h.val * 512 + (γ'.val * 64 + p.val), by omega⟩ _ rfl (by simp only; omega)
  · congr 1
    pointwise

theorem vvE {y : S4x1024x128.Idx → EReal} (hy : W main_v201 = y)
    (k : Fin 4) (h : Fin 2) (γ : Fin 8) (p : Fin 64) (t γ' : Fin 8) (d : Fin 16) :
    (StableHlo.after lateOps W main_v249 : (⟨S1x4x1024x1024, .bf16⟩ : BufTy).Contents (Elt Ideal))
        (ix4 0 k ⟨h.val * 512 + (γ.val * 64 + p.val), by omega⟩ ⟨t.val * 128 + (γ'.val * 16 + d.val), by omega⟩)
      = if γ.val = γ'.val then y (ix3 k ⟨h.val * 512 + (γ.val * 64 + p.val), by omega⟩ ⟨t.val * 16 + d.val, by omega⟩) else 0 := by
  rw [v249_eq, hy]
  refine Eq.trans ?_ ((maskI_at (floorI (modI (iotaInDim S1024x1024 32 0) (constantI S_ 32 512#32)) (constantI S_ 32 64#32))
          (modI (floorI (iotaInDim S1024x1024 32 1) (constantI S_ 32 16#32)) (constantI S_ 32 8#32))
          (shapeCast S4x1024x1024 (broadcastInDim S4x1024x8x8x16 ![0, 1, 2, 3, 4] bcast_S4x1024x8x1x16_S4x1024x8x8x16_0_1_2_3_4
            (shapeCast S4x1024x8x1x16 y shapeCasts_S4x1024x128_S4x1024x8x1x16)) shapeCasts_S4x1024x8x8x16_S4x1024x1024)
     k ⟨h.val * 512 + (γ.val * 64 + p.val), by omega⟩ ⟨t.val * 128 + (γ'.val * 16 + d.val), by omega⟩ γ.val γ'.val (by omega) (by omega) ?_ ?_).trans ?_)
  · pointwise
  · exact mod_div _ _ _ ⟨h.val * 512 + (γ.val * 64 + p.val), by omega⟩ _ rfl (by simp only; omega)
  · exact div_mod _ _ rfl _ _ ⟨t.val * 128 + (γ'.val * 16 + d.val), by omega⟩ _ rfl (by simp only; omega)
  · congr 1
    pointwise

theorem atRe_E {y : S9x32x64.Idx → EReal} (hy : W main_v61 = y) (k : Fin 4) (γ : Fin 8) (p : Fin 64) :
    (StableHlo.after lateOps W main_v250 : (⟨S1x4x2x512, .f32⟩ : BufTy).Contents (Elt Ideal)) (ix4 0 k 0 ⟨γ.val * 64 + p.val, by omega⟩)
      = y (ix3 8 ⟨k.val * 8 + γ.val, by omega⟩ p) := by
  have hg : (⟨k.val * 8 + (γ.val * 64 + p.val) / 64, by omega⟩ : Fin 32) = ⟨k.val * 8 + γ.val, by omega⟩ := Fin.ext (by simp only; omega)
  after_reads_simp
  pointwise
  after_reads_simp
  pointwise
  rw [hg, hy]

theorem atIm_E {y : S9x32x64.Idx → EReal} (hy : W main_v74 = y) (k : Fin 4) (γ : Fin 8) (p : Fin 64) :
    (StableHlo.after lateOps W main_v250 : (⟨S1x4x2x512, .f32⟩ : BufTy).Contents (Elt Ideal)) (ix4 0 k 1 ⟨γ.val * 64 + p.val, by omega⟩)
      = y (ix3 8 ⟨k.val * 8 + γ.val, by omega⟩ p) := by
  have hg : (⟨k.val * 8 + (γ.val * 64 + p.val) / 64, by omega⟩ : Fin 32) = ⟨k.val * 8 + γ.val, by omega⟩ := Fin.ext (by simp only; omega)
  after_reads_simp
  pointwise
  after_reads_simp
  pointwise
  rw [hg, hy]

end Cert.S5
-- ==== Proof.S5.Host3.lean ====
/- The arrays the kernel's windows read, as real numbers. -/
module
public import proofs.«01_k».proof.Proof.S5.Host2
public import proofs.«01_k».proof.Proof.Gen.KernelIdeal.Frame
@[expose] public section
set_option maxRecDepth 16384
noncomputable section
namespace Cert.S5
open Idealize.ShloMosaic Idealize.ShloMosaic.TcCoe Idealize.SL.Sem Cert.KernelIdeal Cert.KernelIdeal.Gen

/-- Group `γ` of quarter `k`. -/
def grp (k : Fin 4) (γ : Fin 8) : Fin 32 := ⟨k.val * 8 + γ.val, by omega⟩

variable {q : Par} (m : (ℓ : Loc nD τ sig) → Buf (Elt Ideal) ℓ) (c : Dev nD)

/-- What the host's memory holds when the call starts. -/
abbrev W0 : Valuation τ sig (Elt Ideal) := fun b => m (c, b)

theorem V_split (b : Ref sig .tc) : V m c b = StableHlo.after lateOps (StableHlo.after midOps (StableHlo.after hostOps0 (W0 m c))) b := by
  rw [← StableHlo.after_append, ← StableHlo.after_append]
  unfold V
  congr 1

variable {m c} (h : Holds q (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)))
include h

theorem u_at (k : Fin 4) (b : Fin 2) (n : Fin 8192) (l : Fin 128) :
    (V m c main_v1 : (⟨S4x16384x128, .f32⟩ : BufTy).Contents (Elt Ideal)) (ix3 k ⟨8192 * b.val + n.val, by omega⟩ l)
      = ((q.u b n ⟨k.val * 128 + l.val, by omega⟩ : ℝ) : EReal) := by
  rw [V_split]
  have e : StableHlo.after lateOps (StableHlo.after midOps (StableHlo.after hostOps0 (W0 m c))) main_v1 = StableHlo.after hostOps0 (W0 m c) main_v1 := by
    after_reads_simp
  rw [e, h0_v1, quarters_at]
  exact h.u ..

theorem toep_real (k : Fin 4) (j γ : Fin 8) (e : Fin 16) (t γ' : Fin 8) (d : Fin 16) :
    (V m c main_v247 : (⟨S1x4x1024x1024, .bf16⟩ : BufTy).Contents (Elt Ideal)) (ix4 0 k ⟨j.val * 128 + (γ.val * 16 + e.val), by omega⟩ ⟨t.val * 128 + (γ'.val * 16 + d.val), by omega⟩)
      = ((if γ.val = γ'.val then (if j.val ≤ t.val then q.K (grp k γ') e (t.val - j.val) d else 0) else 0 : ℝ) : EReal) := by
  rw [V_split, toepE rfl (by after_reads_simp) (by after_reads_simp)]
  by_cases hγ : γ.val = γ'.val
  · rw [if_pos hγ, if_pos hγ]
    refine (toep_at k j ⟨γ.val * 16 + e.val, by omega⟩ t γ' d).trans ?_
    unfold shifted
    by_cases hjt : j.val ≤ t.val
    · rw [dif_pos (show 16 * j.val ≤ t.val * 16 + d.val by omega), if_pos hjt]
      refine Eq.trans (congrArg _ ?_) (h0_v131 (W := W0 m c) h (grp k γ') e ⟨t.val - j.val, by omega⟩ d)
      have := d.isLt
      congr 1
      · exact Fin.ext (by simp only [grp]; omega)
      · exact Fin.ext (by simp only; omega)
    · rw [dif_neg (show ¬ 16 * j.val ≤ t.val * 16 + d.val by omega), if_neg hjt]; rfl
  · rw [if_neg hγ, if_neg hγ]; rfl

theorem wzRe_real (k : Fin 4) (j γ : Fin 8) (e : Fin 16) (γ' : Fin 8) (p : Fin 64) :
    (V m c main_v248 : (⟨S1x4x1024x1024, .bf16⟩ : BufTy).Contents (Elt Ideal)) (ix4 0 k ⟨j.val * 128 + (γ.val * 16 + e.val), by omega⟩ ⟨0 + (γ'.val * 64 + p.val), by omega⟩)
      = ((if γ.val = γ'.val then (q.lam (grp k γ') p ^ (7 - j.val) * q.B (grp k γ') p e).re else 0 : ℝ) : EReal) := by
  rw [V_split]
  refine Eq.trans (congrArg _ ?_) ((wzE rfl k j γ e 0 γ' p).trans ?_)
  · congr 1
  by_cases hγ : γ.val = γ'.val
  · obtain rfl := Fin.ext hγ
    rw [if_pos rfl, if_pos rfl]
    refine Eq.trans (congrArg _ ?_) ((wlo_at (W := StableHlo.after hostOps0 (W0 m c)) (by after_reads_simp; rfl) (by after_reads_simp) k j γ e p).trans
      (h0_v111 (W := W0 m c) h ⟨7 - j.val, by omega⟩ (grp k γ) e p))
    congr 1
    exact Fin.ext (by simp)
  · rw [if_neg hγ, if_neg hγ]; rfl

theorem wzIm_real (k : Fin 4) (j γ : Fin 8) (e : Fin 16) (γ' : Fin 8) (p : Fin 64) :
    (V m c main_v248 : (⟨S1x4x1024x1024, .bf16⟩ : BufTy).Contents (Elt Ideal)) (ix4 0 k ⟨j.val * 128 + (γ.val * 16 + e.val), by omega⟩ ⟨512 + (γ'.val * 64 + p.val), by omega⟩)
      = ((if γ.val = γ'.val then (q.lam (grp k γ') p ^ (7 - j.val) * q.B (grp k γ') p e).im else 0 : ℝ) : EReal) := by
  rw [V_split]
  refine Eq.trans (congrArg _ ?_) ((wzE rfl k j γ e 1 γ' p).trans ?_)
  · congr 1
  by_cases hγ : γ.val = γ'.val
  · obtain rfl := Fin.ext hγ
    rw [if_pos rfl, if_pos rfl]
    refine Eq.trans (congrArg _ ?_) ((whi_at (W := StableHlo.after hostOps0 (W0 m c)) (by after_reads_simp; rfl) (by after_reads_simp) k j γ e p).trans
      (h0_v122 (W := W0 m c) h ⟨7 - j.val, by omega⟩ (grp k γ) e p))
    congr 1
  · rw [if_neg hγ, if_neg hγ]; rfl

theorem vvRe_real (k : Fin 4) (γ : Fin 8) (p : Fin 64) (t γ' : Fin 8) (d : Fin 16) :
    (V m c main_v249 : (⟨S1x4x1024x1024, .bf16⟩ : BufTy).Contents (Elt Ideal)) (ix4 0 k ⟨0 + (γ.val * 64 + p.val), by omega⟩ ⟨t.val * 128 + (γ'.val * 16 + d.val), by omega⟩)
      = ((if γ.val = γ'.val then (q.C (grp k γ') d p * q.lam (grp k γ') p ^ (t.val + 1)).re else 0 : ℝ) : EReal) := by
  rw [V_split]
  refine Eq.trans (congrArg _ ?_) ((vvE rfl k 0 γ p t γ' d).trans ?_)
  · congr 1
  by_cases hγ : γ.val = γ'.val
  · obtain rfl := Fin.ext hγ
    rw [if_pos rfl, if_pos rfl]
    refine Eq.trans (congrArg _ ?_) ((vlo_at (W := StableHlo.after hostOps0 (W0 m c)) (y5 := m ((c : Thread nD τ).loc main_arg5)) (y6 := m ((c : Thread nD τ).loc main_arg6))
      (by after_reads_simp) (by after_reads_simp) rfl rfl k γ p t d).trans ?_)
    · congr 1
      exact Fin.ext (by simp)
    · rw [h.cr, h.ci, h0_v87 (W := W0 m c) h, h0_v100 (W := W0 m c) h, ← EReal.coe_mul, ← EReal.coe_mul, ← EReal.coe_sub]
      congr 1
      rw [Complex.mul_re, Nat.add_comm t.val 1]; rfl
  · rw [if_neg hγ, if_neg hγ]; rfl

theorem vvIm_real (k : Fin 4) (γ : Fin 8) (p : Fin 64) (t γ' : Fin 8) (d : Fin 16) :
    (V m c main_v249 : (⟨S1x4x1024x1024, .bf16⟩ : BufTy).Contents (Elt Ideal)) (ix4 0 k ⟨512 + (γ.val * 64 + p.val), by omega⟩ ⟨t.val * 128 + (γ'.val * 16 + d.val), by omega⟩)
      = ((if γ.val = γ'.val then -(q.C (grp k γ') d p * q.lam (grp k γ') p ^ (t.val + 1)).im else 0 : ℝ) : EReal) := by
  rw [V_split]
  refine Eq.trans (congrArg _ ?_) ((vvE rfl k 1 γ p t γ' d).trans ?_)
  · congr 1
  by_cases hγ : γ.val = γ'.val
  · obtain rfl := Fin.ext hγ
    rw [if_pos rfl, if_pos rfl]
    refine Eq.trans (congrArg _ ?_) ((vhi_at (W := StableHlo.after hostOps0 (W0 m c)) (y5 := m ((c : Thread nD τ).loc main_arg5)) (y6 := m ((c : Thread nD τ).loc main_arg6))
      (by after_reads_simp) (by after_reads_simp) rfl rfl k γ p t d).trans ?_)
    · congr 1
    · rw [h.cr, h.ci, h0_v87 (W := W0 m c) h, h0_v100 (W := W0 m c) h, ← EReal.coe_mul, ← EReal.coe_mul, ← EReal.coe_add, ← EReal.coe_neg]
      congr 2
      rw [Complex.mul_im, Nat.add_comm t.val 1]; rfl
  · rw [if_neg hγ, if_neg hγ]; rfl

theorem atRe_real (k : Fin 4) (γ : Fin 8) (p : Fin 64) :
    (V m c main_v250 : (⟨S1x4x2x512, .f32⟩ : BufTy).Contents (Elt Ideal)) (ix4 0 k 0 ⟨γ.val * 64 + p.val, by omega⟩)
      = (((q.lam (grp k γ) p ^ 8).re : ℝ) : EReal) := by
  rw [V_split, atRe_E (y := StableHlo.after hostOps0 (W0 m c) main_v61) (by after_reads_simp)]
  exact h0_v61 (W := W0 m c) h 8 (grp k γ) p

theorem atIm_real (k : Fin 4) (γ : Fin 8) (p : Fin 64) :
    (V m c main_v250 : (⟨S1x4x2x512, .f32⟩ : BufTy).Contents (Elt Ideal)) (ix4 0 k 1 ⟨γ.val * 64 + p.val, by omega⟩)
      = (((q.lam (grp k γ) p ^ 8).im : ℝ) : EReal) := by
  rw [V_split, atIm_E (y := StableHlo.after hostOps0 (W0 m c) main_v74) (by after_reads_simp)]
  exact h0_v74 (W := W0 m c) h 8 (grp k γ) p

end Cert.S5
-- ==== Proof.S5.Pay.lean ====
/- What one grid point of the S5 call computes, entry by entry. -/
module
public import proofs.«01_k».proof.Proof.S5.Host3
public import proofs.«01_k».proof.Proof.S5.Step
public import Idealize.ShloMosaic.Lib.Pipeline.ValueKit
@[expose] public section
set_option maxRecDepth 16384
noncomputable section
namespace Cert.S5
open Idealize.ShloMosaic Idealize.ShloMosaic.TcCoe Idealize.SL.Sem Cert.KernelIdeal Cert.KernelIdeal.Gen

theorem rows_at (x0 : Vec Ideal S1x4096x128 .f32) (j : ℕ) (hj : j < 8) (hh) (r : Fin 512) (l : Fin 128) :
    rd x0 (rows j hh) (ix3 (n0 := 1) (n1 := 512) (n2 := 128) 0 r l) = x0 (ix3 0 ⟨8 * r.val + j, by omega⟩ l) := by
  refine congrArg x0 (funext fun a => Fin.ext ?_)
  match a with
  | ⟨0, _⟩ => rfl
  | ⟨1, _⟩ => show j + 8 * r.val = 8 * r.val + j; omega
  | ⟨2, _⟩ => show 0 + 1 * l.val = l.val; omega

theorem pay4_at (v : Fin 8 → Vec Ideal S1x512x128 .f32) (r : Fin 512) (j : Fin 8) (l : Fin 128) :
    k0_pay4 (v 0) (v 1) (v 2) (v 3) (v 4) (v 5) (v 6) (v 7) (ix2 r ⟨j.val * 128 + l.val, by omega⟩) = v j (ix3 0 r l) := by
  have hl := l.isLt
  have hj := j.isLt
  have key : ∀ (i : Fin 8) (a : ℕ) (ha : a < 128), i.val = j.val → a = l.val → v i (ix3 0 r ⟨a, ha⟩) = v j (ix3 0 r l) := by
    intro i a ha h1 h2
    obtain rfl : i = j := Fin.ext h1
    subst h2
    rfl
  unfold k0_pay4
  pointwise
  (repeat' split) <;> refine key _ _ _ ?_ ?_ <;> first | omega | (simp only [Fin.isValue, Fin.val_zero, Fin.val_one, Fin.val_ofNat]; omega)

theorem ub_at (x0 : Vec Ideal S1x4096x128 .f32) (r : Fin 512) (j : Fin 8) (l : Fin 128) :
    ub x0 (ix2 r ⟨j.val * 128 + l.val, by omega⟩) = x0 (ix3 0 ⟨8 * r.val + j.val, by omega⟩ l) := by
  have hb : ∀ (j : Fin 8) a, S1x512x128.size a = 0 ∨ (![0, j.val, 0] : Fin 3 → ℕ) a + (![1, 8, 1] : Fin 3 → ℕ) a * (S1x512x128.size a - 1) < S1x4096x128.size a := by decide
  rw [← rows_at x0 j.val j.isLt (hb j)]
  exact pay4_at (fun j => rd x0 (rows j.val (hb j))) r j l

theorem whole_at (x : Vec Ideal S1x1x1024x1024 .bf16) (i w : Fin 1024) :
    rd x whole4 (ix4 (n0 := 1) (n1 := 1) (n2 := 1024) (n3 := 1024) 0 0 i w) = x (ix4 0 0 i w) := by
  refine congrArg x (funext fun a => Fin.ext ?_)
  match a with
  | ⟨0, _⟩ => rfl
  | ⟨1, _⟩ => rfl
  | ⟨2, _⟩ => show 0 + 1 * i.val = i.val; omega
  | ⟨3, _⟩ => show 0 + 1 * w.val = w.val; omega

theorem tLo_at (x : Vec Ideal S1x1x1024x1024 .bf16) (i w : Fin 512) :
    rd x tLo (ix4 (n0 := 1) (n1 := 1) (n2 := 512) (n3 := 512) 0 0 i w) = x (ix4 0 0 ⟨i.val, by omega⟩ ⟨w.val, by omega⟩) := by
  refine congrArg x (funext fun a => Fin.ext ?_)
  match a with
  | ⟨0, _⟩ => rfl
  | ⟨1, _⟩ => rfl
  | ⟨2, _⟩ => show 0 + 1 * i.val = i.val; omega
  | ⟨3, _⟩ => show 0 + 1 * w.val = w.val; omega

theorem tHi_at (x : Vec Ideal S1x1x1024x1024 .bf16) (i : Fin 1024) (w : Fin 512) :
    rd x tHi (ix4 (n0 := 1) (n1 := 1) (n2 := 1024) (n3 := 512) 0 0 i w) = x (ix4 0 0 i ⟨512 + w.val, by omega⟩) := by
  refine congrArg x (funext fun a => Fin.ext ?_)
  match a with
  | ⟨0, _⟩ => rfl
  | ⟨1, _⟩ => rfl
  | ⟨2, _⟩ => show 0 + 1 * i.val = i.val; omega
  | ⟨3, _⟩ => show 512 + 1 * w.val = 512 + w.val; omega

theorem atRe_at (x : Vec Ideal S1x1x2x512 .f32) (w : Fin 512) :
    rd x atRe (ix4 (n0 := 1) (n1 := 1) (n2 := 1) (n3 := 512) 0 0 0 w) = x (ix4 0 0 0 w) := by
  refine congrArg x (funext fun a => Fin.ext ?_)
  match a with
  | ⟨0, _⟩ => rfl
  | ⟨1, _⟩ => rfl
  | ⟨2, _⟩ => rfl
  | ⟨3, _⟩ => show 0 + 1 * w.val = w.val; omega

theorem atIm_at (x : Vec Ideal S1x1x2x512 .f32) (w : Fin 512) :
    rd x atIm (ix4 (n0 := 1) (n1 := 1) (n2 := 1) (n3 := 512) 0 0 0 w) = x (ix4 0 0 1 w) := by
  refine congrArg x (funext fun a => Fin.ext ?_)
  match a with
  | ⟨0, _⟩ => rfl
  | ⟨1, _⟩ => rfl
  | ⟨2, _⟩ => rfl
  | ⟨3, _⟩ => show 0 + 1 * w.val = w.val; omega

theorem st0_re (s : Vec Ideal S8x1024 .f32) (w : Fin 512) :
    (st0 s).1 (ix2 (n0 := 1) (n1 := 512) 0 w) = s (ix2 0 ⟨0 + w.val, by omega⟩) := by
  refine congrArg s (funext fun a => Fin.ext ?_)
  match a with
  | ⟨0, _⟩ => rfl
  | ⟨1, _⟩ => show 0 + 1 * w.val = 0 + w.val; omega

theorem st0_im (s : Vec Ideal S8x1024 .f32) (w : Fin 512) :
    (st0 s).2 (ix2 (n0 := 1) (n1 := 512) 0 w) = s (ix2 0 ⟨512 + w.val, by omega⟩) := by
  refine congrArg s (funext fun a => Fin.ext ?_)
  match a with
  | ⟨0, _⟩ => rfl
  | ⟨1, _⟩ => show 512 + 1 * w.val = 512 + w.val; omega

theorem zz_at (x0 : Vec Ideal S1x4096x128 .f32) (x2 : Vec Ideal S1x1x1024x1024 .bf16) (r : Fin 512) (w : Fin 1024) :
    zz x0 x2 (ix2 r w) = ∑ i : Fin 1024, (ub x0 (ix2 r i) : EReal) * (x2 (ix4 0 0 i w) : EReal) := by
  simp only [← whole_at x2]
  unfold zz k0_pay5
  pointwise
  rfl

theorem pay11_at (a b : Vec Ideal S1x1x1x512 .f32) (s1 s2 z : Vec Ideal S1x512 .f32) (w : Fin 512) :
    k0_pay11 a b s1 s2 z (ix2 0 w)
      = ((s1 (ix2 0 w) : EReal) * (a (ix4 0 0 0 w) : EReal) - (s2 (ix2 0 w) : EReal) * (b (ix4 0 0 0 w) : EReal)) + (z (ix2 0 w) : EReal) := by
  unfold k0_pay11 k0_pay7 k0_pay8
  pointwise

theorem pay12_at (a b : Vec Ideal S1x1x1x512 .f32) (s1 s2 z : Vec Ideal S1x512 .f32) (w : Fin 512) :
    k0_pay12 a b s1 s2 z (ix2 0 w)
      = ((s1 (ix2 0 w) : EReal) * (b (ix4 0 0 0 w) : EReal) + (s2 (ix2 0 w) : EReal) * (a (ix4 0 0 0 w) : EReal)) + (z (ix2 0 w) : EReal) := by
  unfold k0_pay12 k0_pay7 k0_pay8
  pointwise

theorem pay15_lo (v : FVec Ideal S512x1024 .bf16) (v42 : Vec Ideal S1x1x512x512 .bf16) (v45 : Vec Ideal S1x1x1024x512 .bf16) (r w : Fin 512) :
    k0_pay15 v v42 v45 (ix2 r ⟨w.val, by omega⟩)
      = ∑ i : Fin 512, (v (ix2 r ⟨i.val, by omega⟩) : EReal) * (v42 (ix4 0 0 i w) : EReal) := by
  unfold k0_pay15
  pointwise

theorem pay15_hi (v : FVec Ideal S512x1024 .bf16) (v42 : Vec Ideal S1x1x512x512 .bf16) (v45 : Vec Ideal S1x1x1024x512 .bf16) (r w : Fin 512) :
    k0_pay15 v v42 v45 (ix2 r ⟨512 + w.val, by omega⟩)
      = ∑ i : Fin 1024, (v (ix2 r i) : EReal) * (v45 (ix4 0 0 i w) : EReal) := by
  unfold k0_pay15
  pointwise

theorem pay16_at (v48 : FVec Ideal S512x1024 .f32) (v49 : Vec Ideal S512x1024 .f32) (v51 : Vec Ideal S1x1x1024x1024 .bf16) (r : Fin 512) (w : Fin 1024) :
    k0_pay16 v48 v49 v51 (ix2 r w)
      = (v48 (ix2 r w) : EReal) + ∑ i : Fin 1024, (v49 (ix2 r i) : EReal) * (v51 (ix4 0 0 i w) : EReal) := by
  unfold k0_pay16
  pointwise

/-! ### Sums over the lanes -/

theorem sum_split {M : Type} [AddCommMonoid M] (a b n : ℕ) (h : a * b = n) (f : Fin n → M) :
    ∑ i, f i = ∑ x : Fin a, ∑ y : Fin b, f ⟨x.val * b + y.val, by
      have h1 : (x.val + 1) * b ≤ a * b := Nat.mul_le_mul_right b x.isLt
      have h2 := y.isLt
      rw [Nat.add_mul, Nat.one_mul] at h1
      omega⟩ := by
  subst h
  rw [← finProdFinEquiv.sum_comp f, Fintype.sum_prod_type]
  refine Finset.sum_congr rfl fun x _ => Finset.sum_congr rfl fun y _ => congrArg f (Fin.ext ?_)
  show y.val + b * x.val = x.val * b + y.val
  rw [Nat.mul_comm, Nat.add_comm]

theorem sum_blk (a n : ℕ) (hn : a * 128 = n) (f : Fin n → EReal) (g : Fin a → Fin 16 → ℝ) (γ' : Fin 8)
    (h : ∀ (j : Fin a) (γ : Fin 8) (e : Fin 16), f ⟨j.val * 128 + (γ.val * 16 + e.val), by omega⟩ = ((if γ.val = γ'.val then g j e else 0 : ℝ) : EReal)) :
    ∑ i, f i = ((∑ j, ∑ e, g j e : ℝ) : EReal) := by
  rw [sum_split a 128 n hn, ← sum_real]
  refine Finset.sum_congr rfl fun j _ => ?_
  rw [sum_split 8 16 128 rfl]
  have e1 : ∀ γ : Fin 8, (∑ e : Fin 16, f ⟨j.val * 128 + (γ.val * 16 + e.val), by omega⟩) = ((∑ e : Fin 16, if γ.val = γ'.val then g j e else 0 : ℝ) : EReal) := by
    intro γ
    rw [← sum_real]
    exact Finset.sum_congr rfl fun e _ => h j γ e
  refine (Finset.sum_congr rfl fun γ _ => e1 γ).trans ?_
  rw [sum_real]
  congr 1
  rw [Finset.sum_eq_single γ']
  · simp
  · intro γ _ hγ
    have : ¬ γ.val = γ'.val := fun e => hγ (Fin.ext e)
    simp [this]
  · simp

theorem sum_st (f : Fin 1024 → EReal) (g1 g2 : Fin 64 → ℝ) (γ' : Fin 8)
    (h1 : ∀ (γ : Fin 8) (p : Fin 64), f ⟨0 + (γ.val * 64 + p.val), by omega⟩ = ((if γ.val = γ'.val then g1 p else 0 : ℝ) : EReal))
    (h2 : ∀ (γ : Fin 8) (p : Fin 64), f ⟨512 + (γ.val * 64 + p.val), by omega⟩ = ((if γ.val = γ'.val then g2 p else 0 : ℝ) : EReal)) :
    ∑ i, f i = (((∑ p, g1 p) + ∑ p, g2 p : ℝ) : EReal) := by
  have key : ∀ (f' : Fin 512 → EReal) (g : Fin 64 → ℝ), (∀ (γ : Fin 8) (p : Fin 64), f' ⟨γ.val * 64 + p.val, by omega⟩ = ((if γ.val = γ'.val then g p else 0 : ℝ) : EReal)) →
      ∑ i, f' i = ((∑ p, g p : ℝ) : EReal) := by
    intro f' g hf
    rw [sum_split 8 64 512 rfl]
    have e1 : ∀ γ : Fin 8, (∑ p : Fin 64, f' ⟨γ.val * 64 + p.val, by omega⟩) = ((∑ p : Fin 64, if γ.val = γ'.val then g p else 0 : ℝ) : EReal) := by
      intro γ
      rw [← sum_real]
      exact Finset.sum_congr rfl fun p _ => hf γ p
    refine (Finset.sum_congr rfl fun γ _ => e1 γ).trans ?_
    rw [sum_real]
    congr 1
    rw [Finset.sum_eq_single γ']
    · simp
    · intro γ _ hγ
      have : ¬ γ.val = γ'.val := fun e => hγ (Fin.ext e)
      simp [this]
    · simp
  rw [sum_split 2 512 1024 rfl, Fin.sum_univ_two, EReal.coe_add,
    key (fun y => f ⟨(0 : Fin 2).val * 512 + y.val, by have := y.isLt; simp only [Fin.val_zero]; omega⟩) g1 fun γ p => ?_,
    key (fun y => f ⟨(1 : Fin 2).val * 512 + y.val, by have := y.isLt; simp only [Fin.val_one]; omega⟩) g2 fun γ p => ?_]
  · rw [← h2]; exact congrArg f (Fin.ext (by simp))
  · rw [← h1]; exact congrArg f (Fin.ext (by simp))

end Cert.S5
-- ==== Proof.S5.Block.lean ====
/- One grid point of the S5 call on real numbers. -/
module
public import proofs.«01_k».proof.Proof.S5.Pay
@[expose] public section
set_option maxRecDepth 16384
noncomputable section
namespace Cert.S5
open Idealize.ShloMosaic Idealize.ShloMosaic.TcCoe Idealize.SL.Sem Cert.KernelIdeal Cert.KernelIdeal.Gen

/-- The blocks of a point: quarter `k` of the channels, sequence `b`, tokens from `n0` on. -/
structure Blk (q : Par) (k : Fin 4) (b : Fin 2) (n0 : ℕ) (x0 : Vec Ideal S1x4096x128 .f32) (x1 x2 x3 : Vec Ideal S1x1x1024x1024 .bf16)
    (x4 : Vec Ideal S1x1x2x512 .f32) : Prop where
  u : ∀ (r : Fin 512) (j γ : Fin 8) (e : Fin 16),
    x0 (ix3 0 ⟨8 * r.val + j.val, by omega⟩ ⟨γ.val * 16 + e.val, by omega⟩) = ((q.tok b (n0 + 8 * r.val + j.val) (grp k γ) e : ℝ) : EReal)
  toep : ∀ (j γ : Fin 8) (e : Fin 16) (t γ' : Fin 8) (d : Fin 16),
    x1 (ix4 0 0 ⟨j.val * 128 + (γ.val * 16 + e.val), by omega⟩ ⟨t.val * 128 + (γ'.val * 16 + d.val), by omega⟩)
      = ((if γ.val = γ'.val then (if j.val ≤ t.val then q.K (grp k γ') e (t.val - j.val) d else 0) else 0 : ℝ) : EReal)
  wre : ∀ (j γ : Fin 8) (e : Fin 16) (γ' : Fin 8) (p : Fin 64),
    x2 (ix4 0 0 ⟨j.val * 128 + (γ.val * 16 + e.val), by omega⟩ ⟨0 + (γ'.val * 64 + p.val), by omega⟩)
      = ((if γ.val = γ'.val then (q.lam (grp k γ') p ^ (7 - j.val) * q.B (grp k γ') p e).re else 0 : ℝ) : EReal)
  wim : ∀ (j γ : Fin 8) (e : Fin 16) (γ' : Fin 8) (p : Fin 64),
    x2 (ix4 0 0 ⟨j.val * 128 + (γ.val * 16 + e.val), by omega⟩ ⟨512 + (γ'.val * 64 + p.val), by omega⟩)
      = ((if γ.val = γ'.val then (q.lam (grp k γ') p ^ (7 - j.val) * q.B (grp k γ') p e).im else 0 : ℝ) : EReal)
  vre : ∀ (γ : Fin 8) (p : Fin 64) (t γ' : Fin 8) (d : Fin 16),
    x3 (ix4 0 0 ⟨0 + (γ.val * 64 + p.val), by omega⟩ ⟨t.val * 128 + (γ'.val * 16 + d.val), by omega⟩)
      = ((if γ.val = γ'.val then (q.C (grp k γ') d p * q.lam (grp k γ') p ^ (t.val + 1)).re else 0 : ℝ) : EReal)
  vim : ∀ (γ : Fin 8) (p : Fin 64) (t γ' : Fin 8) (d : Fin 16),
    x3 (ix4 0 0 ⟨512 + (γ.val * 64 + p.val), by omega⟩ ⟨t.val * 128 + (γ'.val * 16 + d.val), by omega⟩)
      = ((if γ.val = γ'.val then -(q.C (grp k γ') d p * q.lam (grp k γ') p ^ (t.val + 1)).im else 0 : ℝ) : EReal)
  are : ∀ (γ : Fin 8) (p : Fin 64), x4 (ix4 0 0 0 ⟨γ.val * 64 + p.val, by omega⟩) = (((q.lam (grp k γ) p ^ 8).re : ℝ) : EReal)
  aim : ∀ (γ : Fin 8) (p : Fin 64), x4 (ix4 0 0 1 ⟨γ.val * 64 + p.val, by omega⟩) = (((q.lam (grp k γ) p ^ 8).im : ℝ) : EReal)

/-- The carried state is the state before token `n`. -/
def Sta (q : Par) (k : Fin 4) (b : Fin 2) (n : ℕ) (s : Vec Ideal S8x1024 .f32) : Prop :=
  ∀ (γ : Fin 8) (p : Fin 64), s (ix2 0 ⟨0 + (γ.val * 64 + p.val), by omega⟩) = (((q.X b n (grp k γ) p).re : ℝ) : EReal)
    ∧ s (ix2 0 ⟨512 + (γ.val * 64 + p.val), by omega⟩) = (((q.X b n (grp k γ) p).im : ℝ) : EReal)

variable {q : Par} {k : Fin 4} {b : Fin 2} {n0 : ℕ} {x0 : Vec Ideal S1x4096x128 .f32} {x1 x2 x3 : Vec Ideal S1x1x1024x1024 .bf16}
  {x4 : Vec Ideal S1x1x2x512 .f32} {s : Vec Ideal S8x1024 .f32} (h : Blk q k b n0 x0 x1 x2 x3 x4)
include h

theorem ub_real (r : Fin 512) (j γ : Fin 8) (e : Fin 16) :
    ub x0 (ix2 r ⟨j.val * 128 + (γ.val * 16 + e.val), by omega⟩) = ((q.tok b (n0 + 8 * r.val + j.val) (grp k γ) e : ℝ) : EReal) :=
  (ub_at x0 r j ⟨γ.val * 16 + e.val, by omega⟩).trans (h.u r j γ e)

theorem mask_mul (f g : Fin 8 → ℝ) (γ γ' : Fin 8) :
    ((f γ : ℝ) : EReal) * ((if γ.val = γ'.val then g γ' else 0 : ℝ) : EReal) = ((if γ.val = γ'.val then f γ' * g γ' else 0 : ℝ) : EReal) := by
  rw [← EReal.coe_mul]
  congr 1
  split
  · rename_i e
    obtain rfl : γ = γ' := Fin.ext e
    rfl
  · simp

theorem zz_re (r : Fin 512) (γ' : Fin 8) (p : Fin 64) :
    zz x0 x2 (ix2 r ⟨0 + (γ'.val * 64 + p.val), by omega⟩)
      = ((∑ j : Fin 8, ∑ e : Fin 16, q.tok b (n0 + 8 * r.val + j.val) (grp k γ') e * (q.lam (grp k γ') p ^ (7 - j.val) * q.B (grp k γ') p e).re : ℝ) : EReal) := by
  rw [zz_at]
  refine sum_blk 8 1024 rfl _ (fun j e => q.tok b (n0 + 8 * r.val + j.val) (grp k γ') e * (q.lam (grp k γ') p ^ (7 - j.val) * q.B (grp k γ') p e).re) γ' fun j γ e => ?_
  rw [ub_real h, h.wre]
  exact mask_mul h (fun γ => q.tok b (n0 + 8 * r.val + j.val) (grp k γ) e) (fun γ => (q.lam (grp k γ) p ^ (7 - j.val) * q.B (grp k γ) p e).re) γ γ'

theorem zz_im (r : Fin 512) (γ' : Fin 8) (p : Fin 64) :
    zz x0 x2 (ix2 r ⟨512 + (γ'.val * 64 + p.val), by omega⟩)
      = ((∑ j : Fin 8, ∑ e : Fin 16, q.tok b (n0 + 8 * r.val + j.val) (grp k γ') e * (q.lam (grp k γ') p ^ (7 - j.val) * q.B (grp k γ') p e).im : ℝ) : EReal) := by
  rw [zz_at]
  refine sum_blk 8 1024 rfl _ (fun j e => q.tok b (n0 + 8 * r.val + j.val) (grp k γ') e * (q.lam (grp k γ') p ^ (7 - j.val) * q.B (grp k γ') p e).im) γ' fun j γ e => ?_
  rw [ub_real h, h.wim]
  exact mask_mul h (fun γ => q.tok b (n0 + 8 * r.val + j.val) (grp k γ) e) (fun γ => (q.lam (grp k γ) p ^ (7 - j.val) * q.B (grp k γ) p e).im) γ γ'

theorem stt_real (hs : Sta q k b n0 s) : ∀ (n : ℕ), n ≤ 512 → ∀ (γ : Fin 8) (p : Fin 64),
    (stt (zz x0 x2) (rd x4 atRe) (rd x4 atIm) (st0 s) n).1 (ix2 (n0 := 1) (n1 := 512) 0 ⟨γ.val * 64 + p.val, by omega⟩) = (((q.X b (n0 + 8 * n) (grp k γ) p).re : ℝ) : EReal)
    ∧ (stt (zz x0 x2) (rd x4 atRe) (rd x4 atIm) (st0 s) n).2 (ix2 (n0 := 1) (n1 := 512) 0 ⟨γ.val * 64 + p.val, by omega⟩) = (((q.X b (n0 + 8 * n) (grp k γ) p).im : ℝ) : EReal)
  | 0, _, γ, p => by
    rw [stt]
    exact ⟨(st0_re s _).trans (hs γ p).1, (st0_im s _).trans (hs γ p).2⟩
  | n + 1, hn, γ, p => by
    have ht : n < k0_t1_loop.trips := by rw [trips_eq]; omega
    have ih := stt_real hs n (by omega) γ p
    rw [stt, dif_pos ht]
    have r1 : rd (F := Ideal) (s := S512x1024) (e := .f32) (k0_pay6 (zz x0 x2)) (Rect.unit (s := S512x1024) (k0_off1 ⟨n, ht⟩) S1x512.size (k0_off1_inb ⟨n, ht⟩)).toLoadRect (ix2 (n0 := 1) (n1 := 512) 0 ⟨γ.val * 64 + p.val, by omega⟩)
        = zz x0 x2 (ix2 ⟨n, by omega⟩ ⟨0 + (γ.val * 64 + p.val), by omega⟩) := by
      rw [pay6_eq]
      have e10 : (k0_off1 ⟨n, ht⟩) 0 = n := by rw [Gen.k0_off1_eq]; rfl
      have e11 : (k0_off1 ⟨n, ht⟩) 1 = 0 := by rw [Gen.k0_off1_eq]; rfl
      refine congrArg (zz x0 x2) (funext fun a => Fin.ext ?_)
      match a with
      | ⟨0, _⟩ => show (k0_off1 ⟨n, ht⟩) 0 + 1 * 0 = n; omega
      | ⟨1, _⟩ => show (k0_off1 ⟨n, ht⟩) 1 + 1 * (γ.val * 64 + p.val) = 0 + (γ.val * 64 + p.val); omega
    have r2 : rd (F := Ideal) (s := S512x1024) (e := .f32) (k0_pay6 (zz x0 x2)) (Rect.unit (s := S512x1024) (k0_off2 ⟨n, ht⟩) S1x512.size (k0_off2_inb ⟨n, ht⟩)).toLoadRect (ix2 (n0 := 1) (n1 := 512) 0 ⟨γ.val * 64 + p.val, by omega⟩)
        = zz x0 x2 (ix2 ⟨n, by omega⟩ ⟨512 + (γ.val * 64 + p.val), by omega⟩) := by
      rw [pay6_eq]
      have e10 : (k0_off2 ⟨n, ht⟩) 0 = n := by rw [Gen.k0_off2_eq]; rfl
      have e11 : (k0_off2 ⟨n, ht⟩) 1 = 512 := by rw [Gen.k0_off2_eq]; rfl
      refine congrArg (zz x0 x2) (funext fun a => Fin.ext ?_)
      match a with
      | ⟨0, _⟩ => show (k0_off2 ⟨n, ht⟩) 0 + 1 * 0 = n; omega
      | ⟨1, _⟩ => show (k0_off2 ⟨n, ht⟩) 1 + 1 * (γ.val * 64 + p.val) = 512 + (γ.val * 64 + p.val); omega
    rw [show n0 + 8 * (n + 1) = n0 + 8 * n + 8 by omega, Par.X_eight_re, Par.X_eight_im]
    dsimp only
    rw [pay11_at, pay12_at, r1, r2, atRe_at, atIm_at, h.are, h.aim, ih.1, ih.2, zz_re h, zz_im h]
    constructor
    · rw [← EReal.coe_mul, ← EReal.coe_mul, ← EReal.coe_sub, ← EReal.coe_add]
      congr 2
      ring
    · rw [← EReal.coe_mul, ← EReal.coe_mul, ← EReal.coe_add, ← EReal.coe_add]
      congr 2
      ring

theorem xp_re (hs : Sta q k b n0 s) (r : Fin 512) (γ : Fin 8) (p : Fin 64) :
    xp (zz x0 x2) (rd x4 atRe) (rd x4 atIm) (st0 s) (ix2 r ⟨0 + (γ.val * 64 + p.val), by omega⟩) = (((q.X b (n0 + 8 * r.val) (grp k γ) p).re : ℝ) : EReal) :=
  (xp_lo _ _ _ _ _ r.val (ix2 (n0 := 1) (n1 := 512) 0 ⟨γ.val * 64 + p.val, by omega⟩) rfl (Nat.zero_add _)).trans (stt_real h hs r.val r.isLt.le γ p).1

theorem xp_im (hs : Sta q k b n0 s) (r : Fin 512) (γ : Fin 8) (p : Fin 64) :
    xp (zz x0 x2) (rd x4 atRe) (rd x4 atIm) (st0 s) (ix2 r ⟨512 + (γ.val * 64 + p.val), by omega⟩) = (((q.X b (n0 + 8 * r.val) (grp k γ) p).im : ℝ) : EReal) :=
  (xp_hi _ _ _ _ _ r.val (ix2 (n0 := 1) (n1 := 512) 0 ⟨γ.val * 64 + p.val, by omega⟩) rfl rfl).trans (stt_real h hs r.val r.isLt.le γ p).2

theorem within (r : Fin 512) (t γ' : Fin 8) (d : Fin 16) :
    k0_pay15 (ub x0) (rd x1 tLo) (rd x1 tHi) (ix2 r ⟨t.val * 128 + (γ'.val * 16 + d.val), by omega⟩)
      = ((∑ j : Fin 8, ∑ e : Fin 16, q.tok b (n0 + 8 * r.val + j.val) (grp k γ') e * (if j.val ≤ t.val then q.K (grp k γ') e (t.val - j.val) d else 0) : ℝ) : EReal) := by
  rcases lt_or_ge t.val 4 with ht | ht
  · refine (pay15_lo _ _ _ r ⟨t.val * 128 + (γ'.val * 16 + d.val), by omega⟩).trans ?_
    refine (sum_blk 4 512 rfl _ (fun j e => q.tok b (n0 + 8 * r.val + j.val) (grp k γ') e * (if j.val ≤ t.val then q.K (grp k γ') e (t.val - j.val) d else 0)) γ' fun j γ e => ?_).trans ?_
    · rw [tLo_at]
      refine (congrArg₂ (fun a b : EReal => a * b) (ub_real h r ⟨j.val, by omega⟩ γ e) (h.toep ⟨j.val, by omega⟩ γ e t γ' d)).trans ?_
      exact mask_mul h (fun γ => q.tok b (n0 + 8 * r.val + j.val) (grp k γ) e) (fun γ => (if j.val ≤ t.val then q.K (grp k γ) e (t.val - j.val) d else 0)) γ γ'
    · congr 1
      rw [Fin.sum_univ_eight, Fin.sum_univ_four]
      have z : ∀ j : ℕ, 4 ≤ j → (∑ e : Fin 16, q.tok b (n0 + 8 * r.val + j) (grp k γ') e * (if j ≤ t.val then q.K (grp k γ') e (t.val - j) d else 0)) = 0 := by
        intro j hj
        refine Finset.sum_eq_zero fun e _ => ?_
        rw [if_neg (by omega), mul_zero]
      have z4 := z 4 (by omega); have z5 := z 5 (by omega); have z6 := z 6 (by omega); have z7 := z 7 (by omega)
      change _ = _ + _ + _ + _ + (∑ e : Fin 16, q.tok b (n0 + 8 * r.val + 4) (grp k γ') e * (if 4 ≤ t.val then q.K (grp k γ') e (t.val - 4) d else 0))
        + (∑ e : Fin 16, q.tok b (n0 + 8 * r.val + 5) (grp k γ') e * (if 5 ≤ t.val then q.K (grp k γ') e (t.val - 5) d else 0))
        + (∑ e : Fin 16, q.tok b (n0 + 8 * r.val + 6) (grp k γ') e * (if 6 ≤ t.val then q.K (grp k γ') e (t.val - 6) d else 0))
        + (∑ e : Fin 16, q.tok b (n0 + 8 * r.val + 7) (grp k γ') e * (if 7 ≤ t.val then q.K (grp k γ') e (t.val - 7) d else 0))
      rw [z4, z5, z6, z7, add_zero, add_zero, add_zero, add_zero]
      rfl
  · refine (congrArg (k0_pay15 (ub x0) (rd x1 tLo) (rd x1 tHi)) (congrArg (ix2 r) (Fin.ext (by simp only; omega)))).trans
      ((pay15_hi _ _ _ r ⟨(t.val * 128 + (γ'.val * 16 + d.val)) - 512, by omega⟩).trans ?_)
    refine sum_blk 8 1024 rfl _ (fun j e => q.tok b (n0 + 8 * r.val + j.val) (grp k γ') e * (if j.val ≤ t.val then q.K (grp k γ') e (t.val - j.val) d else 0)) γ' fun j γ e => ?_
    rw [tHi_at]
    refine (congrArg₂ (fun a b : EReal => a * b) (ub_real h r j γ e) ((congrArg x1 (congrArg (ix4 0 0 _) (Fin.ext (by simp only; omega)))).trans (h.toep j γ e t γ' d))).trans ?_
    exact mask_mul h (fun γ => q.tok b (n0 + 8 * r.val + j.val) (grp k γ) e) (fun γ => (if j.val ≤ t.val then q.K (grp k γ) e (t.val - j.val) d else 0)) γ γ'

theorem core_real (hs : Sta q k b n0 s) (r : Fin 512) (t γ' : Fin 8) (d : Fin 16) :
    core x0 x1 x2 x3 x4 s (ix2 r ⟨t.val * 128 + (γ'.val * 16 + d.val), by omega⟩) = ((q.y b (n0 + 8 * r.val + t.val) (grp k γ') d : ℝ) : EReal) := by
  unfold core
  rw [pay16_at, within h, Par.y_add, EReal.coe_add]
  congr 1
  refine sum_st _ (fun p => (q.X b (n0 + 8 * r.val) (grp k γ') p).re * (q.C (grp k γ') d p * q.lam (grp k γ') p ^ (t.val + 1)).re)
    (fun p => (q.X b (n0 + 8 * r.val) (grp k γ') p).im * -(q.C (grp k γ') d p * q.lam (grp k γ') p ^ (t.val + 1)).im) γ' (fun γ p => ?_) (fun γ p => ?_)
  · rw [whole_at, xp_re h hs, h.vre]
    exact mask_mul h (fun γ => (q.X b (n0 + 8 * r.val) (grp k γ) p).re) (fun γ => (q.C (grp k γ) d p * q.lam (grp k γ) p ^ (t.val + 1)).re) γ γ'
  · rw [whole_at, xp_im h hs, h.vim]
    exact mask_mul h (fun γ => (q.X b (n0 + 8 * r.val) (grp k γ) p).im) (fun γ => -(q.C (grp k γ) d p * q.lam (grp k γ) p ^ (t.val + 1)).im) γ γ'

theorem nxt_real (hs : Sta q k b n0 s) : Sta q k b (n0 + 4096) (nxt x0 x2 x4 s) := by
  intro γ p
  have hst := stt_real h hs 512 le_rfl γ p
  have ht := trips_eq
  constructor
  · rw [← (show n0 + 8 * 512 = n0 + 4096 by omega), ← hst.1]
    unfold nxt
    rw [if_pos (show ((ix2 (n0 := 8) (n1 := 1024) 0 ⟨0 + (γ.val * 64 + p.val), by omega⟩) 0).val = 0 from rfl),
      dif_pos (show ((ix2 (n0 := 8) (n1 := 1024) 0 ⟨0 + (γ.val * 64 + p.val), by omega⟩) 1).val < 512 by show 0 + (γ.val * 64 + p.val) < 512; omega), ht]
    exact congrArg _ (congrArg (ix2 (n0 := 1) (n1 := 512) 0) (Fin.ext (Nat.zero_add _)))
  · rw [← (show n0 + 8 * 512 = n0 + 4096 by omega), ← hst.2]
    unfold nxt
    rw [if_pos (show ((ix2 (n0 := 8) (n1 := 1024) 0 ⟨512 + (γ.val * 64 + p.val), by omega⟩) 0).val = 0 from rfl),
      dif_neg (show ¬((ix2 (n0 := 8) (n1 := 1024) 0 ⟨512 + (γ.val * 64 + p.val), by omega⟩) 1).val < 512 by show ¬(512 + (γ.val * 64 + p.val) < 512); omega), ht]
    exact congrArg _ (congrArg (ix2 (n0 := 1) (n1 := 512) 0) (Fin.ext (Nat.add_sub_cancel_left _ _)))

/-- The block a point leaves. -/
theorem out_real (hs : Sta q k b n0 s) (n : Fin 4096) (γ : Fin 8) (d : Fin 16) :
    out x0 x1 x2 x3 x4 s (ix3 0 n ⟨γ.val * 16 + d.val, by omega⟩) = ((q.y b (n0 + n.val) (grp k γ) d : ℝ) : EReal) := by
  have e := core_real h hs ⟨n.val / 8, by omega⟩ ⟨n.val % 8, by omega⟩ γ d
  rw [show n0 + 8 * (n.val / 8) + n.val % 8 = n0 + n.val by omega] at e
  exact e

omit h in
theorem zero_real : Sta q k b 0 (k0_pay3 (F := Ideal)) := by
  intro γ p
  have e : ∀ w : Fin 1024, (k0_pay3 (F := Ideal)) (ix2 0 w) = ((0 : ℝ) : EReal) := by
    intro w
    unfold k0_pay3
    pointwise
    rfl
  rw [e, e]
  simp [Par.X]

end Cert.S5
-- ==== Proof.S5.Arr.lean ====
/- The array the S5 call leaves. -/
module
public import proofs.«01_k».proof.Proof.S5.Block
public import proofs.«01_k».proof.Proof.S5.Frame
@[expose] public section
set_option maxRecDepth 16384
noncomputable section
namespace Cert.S5
open Idealize.ShloMosaic Idealize.ShloMosaic.TcCoe Idealize.SL.Sem Cert.KernelIdeal Cert.KernelIdeal.Gen

/-- The block each window stages at each point. -/
theorem idx : ∀ t : Fin cfg0.N, (win0_0.index t 0 = t.val / 4 ∧ win0_0.index t 1 = t.val % 4 ∧ win0_0.index t 2 = 0)
    ∧ (win0_1.index t 0 = 0 ∧ win0_1.index t 1 = t.val / 4 ∧ win0_1.index t 2 = 0 ∧ win0_1.index t 3 = 0)
    ∧ (win0_2.index t 0 = 0 ∧ win0_2.index t 1 = t.val / 4 ∧ win0_2.index t 2 = 0 ∧ win0_2.index t 3 = 0)
    ∧ (win0_3.index t 0 = 0 ∧ win0_3.index t 1 = t.val / 4 ∧ win0_3.index t 2 = 0 ∧ win0_3.index t 3 = 0)
    ∧ (win0_4.index t 0 = 0 ∧ win0_4.index t 1 = t.val / 4 ∧ win0_4.index t 2 = 0 ∧ win0_4.index t 3 = 0)
    ∧ (win0_5.index t 0 = t.val / 4 ∧ win0_5.index t 1 = t.val % 4 ∧ win0_5.index t 2 = 0) :=
  (by decide +kernel : ∀ t : Fin grid0.N, _)

/-- The quarter of a point. -/
def kq (t : Fin cfg0.N) : Fin 4 := ⟨t.val / 4, by have h : t.val < 16 := t.isLt; omega⟩

/-- The token row of row `n` of a point. -/
def tk (t : Fin cfg0.N) (n : Fin 4096) : Fin 16384 := ⟨t.val % 4 * 4096 + n.val, by omega⟩

theorem in0 (f : (⟨S4x16384x128, .f32⟩ : BufTy).Contents (Elt Ideal)) (t : Fin cfg0.N) (n : Fin 4096) (l : Fin 128) :
    ((cfg0.win 0).blk t).view.read (Elt Ideal) f (ix3 0 n l) = f (ix3 (kq t) (tk t n) l) := by
  unfold kq tk
  blk_point [idx t]

theorem in1 (f : (⟨S1x4x1024x1024, .bf16⟩ : BufTy).Contents (Elt Ideal)) (t : Fin cfg0.N) (i w : Fin 1024) :
    ((cfg0.win 1).blk t).view.read (Elt Ideal) f (ix4 0 0 i w) = f (ix4 0 (kq t) i w) := by
  unfold kq
  blk_point [idx t]

theorem in2 (f : (⟨S1x4x1024x1024, .bf16⟩ : BufTy).Contents (Elt Ideal)) (t : Fin cfg0.N) (i w : Fin 1024) :
    ((cfg0.win 2).blk t).view.read (Elt Ideal) f (ix4 0 0 i w) = f (ix4 0 (kq t) i w) := by
  unfold kq
  blk_point [idx t]

theorem in3 (f : (⟨S1x4x1024x1024, .bf16⟩ : BufTy).Contents (Elt Ideal)) (t : Fin cfg0.N) (i w : Fin 1024) :
    ((cfg0.win 3).blk t).view.read (Elt Ideal) f (ix4 0 0 i w) = f (ix4 0 (kq t) i w) := by
  unfold kq
  blk_point [idx t]

theorem in4 (f : (⟨S1x4x2x512, .f32⟩ : BufTy).Contents (Elt Ideal)) (t : Fin cfg0.N) (i : Fin 2) (w : Fin 512) :
    ((cfg0.win 4).blk t).view.read (Elt Ideal) f (ix4 0 0 i w) = f (ix4 0 (kq t) i w) := by
  unfold kq
  blk_point [idx t]

theorem emb5 (f : S4x16384x128.Idx → EReal) (t : Fin cfg0.N) (n : Fin 4096) (l : Fin 128) :
    f (((View.whole main_v251).slice (win0_5.rect t)).emb (ix3 0 n l)) = f (ix3 (kq t) (tk t n) l) := by
  unfold kq tk
  blk_point [idx t]

/-- The sequence of a point. -/
def sq (t : Fin cfg0.N) : Fin 2 := ⟨t.val / 2 % 2, by omega⟩

/-- The first token of a point. -/
def tok0 (t : Fin cfg0.N) : ℕ := t.val % 2 * 4096

variable {q : Par} {m : (ℓ : Loc nD τ sig) → Buf (Elt Ideal) ℓ} {c : Dev nD}
  (h : Holds q (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)))
include h

theorem blk_real (t : Fin cfg0.N) : Blk q (kq t) (sq t) (tok0 t) (iblk m c 0 t) (iblk m c 1 t) (iblk m c 2 t) (iblk m c 3 t) (iblk m c 4 t) where
  u r j γ e := by
    have hn : tok0 t + 8 * r.val + j.val < 8192 := by unfold tok0; omega
    refine (in0 (V m c main_v1) t ⟨8 * r.val + j.val, by omega⟩ ⟨γ.val * 16 + e.val, by omega⟩).trans ?_
    have e1 := u_at h (kq t) (sq t) ⟨tok0 t + 8 * r.val + j.val, hn⟩ ⟨γ.val * 16 + e.val, by omega⟩
    refine Eq.trans (congrArg _ ?_) (e1.trans ?_)
    · refine congrArg (fun z => ix3 (n0 := 4) (n1 := 16384) (n2 := 128) (kq t) z ⟨γ.val * 16 + e.val, by omega⟩) (Fin.ext ?_)
      show t.val % 4 * 4096 + (8 * r.val + j.val) = 8192 * (t.val / 2 % 2) + (t.val % 2 * 4096 + 8 * r.val + j.val)
      omega
    · unfold Par.tok
      rw [dif_pos hn]
      refine congrArg (fun z => ((q.u (sq t) ⟨tok0 t + 8 * r.val + j.val, hn⟩ z : ℝ) : EReal)) (Fin.ext ?_)
      show (kq t).val * 128 + (γ.val * 16 + e.val) = 16 * ((kq t).val * 8 + γ.val) + e.val
      omega
  toep j γ e t' γ' d := (in1 (V m c main_v247) t _ _).trans (toep_real h (kq t) j γ e t' γ' d)
  wre j γ e γ' p := (in2 (V m c main_v248) t _ _).trans (wzRe_real h (kq t) j γ e γ' p)
  wim j γ e γ' p := (in2 (V m c main_v248) t _ _).trans (wzIm_real h (kq t) j γ e γ' p)
  vre γ p t' γ' d := (in3 (V m c main_v249) t _ _).trans (vvRe_real h (kq t) γ p t' γ' d)
  vim γ p t' γ' d := (in3 (V m c main_v249) t _ _).trans (vvIm_real h (kq t) γ p t' γ' d)
  are γ p := (in4 (V m c main_v250) t _ _).trans (atRe_real h (kq t) γ p)
  aim γ p := (in4 (V m c main_v250) t _ _).trans (atIm_real h (kq t) γ p)

theorem car_real (t : Fin cfg0.N) : Sta q (kq t) (sq t) (tok0 t) (car m c t) := by
  unfold car
  split
  · rename_i e
    have e0 : tok0 t = 0 := by unfold tok0; omega
    rw [e0]
    exact zero_real
  · rename_i e
    have z := nxt_real (blk_real h (prev t)) (s := k0_pay3 (F := Ideal)) (by
      have e0 : tok0 (prev t) = 0 := by unfold tok0 prev; simp only; omega
      rw [e0]
      exact zero_real)
    have hk : kq (prev t) = kq t := Fin.ext (by show (t.val - 1) / 4 = t.val / 4; omega)
    have hs : sq (prev t) = sq t := Fin.ext (by show (t.val - 1) / 2 % 2 = t.val / 2 % 2; omega)
    have ht : tok0 (prev t) + 4096 = tok0 t := by show (t.val - 1) % 2 * 4096 + 4096 = t.val % 2 * 4096; omega
    rw [hk, hs, ht] at z
    exact z

omit h in
/-- The S5 outputs as one array. -/
def G (q : Par) : S4x16384x128.Idx → EReal := fun i =>
  ((q.y ⟨(i 1).val / 8192, by have h : (i 1).val < 16384 := (i 1).isLt; omega⟩ ((i 1).val % 8192)
    ⟨(i 0).val * 8 + (i 2).val / 16, by have h : (i 0).val < 4 := (i 0).isLt; have h' : (i 2).val < 128 := (i 2).isLt; omega⟩
    ⟨(i 2).val % 16, by omega⟩ : ℝ) : EReal)

theorem outAt_real (t : Fin cfg0.N) (n : Fin 4096) (l : Fin 128) : outAt m c t (ix3 0 n l) = G q (ix3 (kq t) (tk t n) l) := by
  have e := out_real (blk_real h t) (car_real h t) n ⟨l.val / 16, by omega⟩ ⟨l.val % 16, by omega⟩
  refine Eq.trans (congrArg (outAt m c t) (congrArg (ix3 0 n) (Fin.ext (by simp only; omega)))) (e.trans ?_)
  unfold G
  have h1 : sq t = ⟨(tk t n).val / 8192, by omega⟩ := Fin.ext (by show t.val / 2 % 2 = (t.val % 4 * 4096 + n.val) / 8192; omega)
  have h2 : tok0 t + n.val = (tk t n).val % 8192 := by show t.val % 2 * 4096 + n.val = (t.val % 4 * 4096 + n.val) % 8192; omega
  rw [h1, h2]
  rfl

theorem arr : (dats m 0 c).arrAt 5 cfg0.N = G q := by
  refine (dats m 0 c).arrAt_eq_of_covers 5 _ (by decide +kernel) fun t hf y => ?_
  blk_simp
  rw [aft5]
  obtain ⟨a, n, l, rfl⟩ : ∃ a n l, y = ix3 (n0 := 1) (n1 := 4096) (n2 := 128) a n l := ⟨_, _, _, eq_ix3 y⟩
  obtain rfl : a = 0 := Subsingleton.elim _ _
  rw [outAt_real h, emb5 (G q)]

omit h in
theorem run_out (ρ : Dev nD → PrngReg) : θ_run defs (onTc (τ := τ) (main (F := Ideal))) ⟨m, fun _ => 0, ρ⟩ (fun r => ∀ c : Dev nD,
    r.2.mem ((c : Thread nD τ).loc main_v251) = (dats m 0 c).arrAt 5 cfg0.N) :=
  (θ_run defs _ _).mono (fun r h c => (h c).1 5) (run_main m ρ)

end Cert.S5
-- ==== Proof.S5.Ref2.lean ====
/- The array the S5 reference leaves. -/
module

public import proofs.«01_k».proof.Proof.S5.Ref1
public import proofs.«01_k».proof.Proof.S5.Arr

@[expose] public section

set_option maxRecDepth 16384

noncomputable section

namespace Cert.S5.Loop

open Idealize.ShloMosaic Idealize.ShloMosaic.TcCoe Idealize.SL.Sem Cert.ReferenceIdeal Cert.ReferenceIdeal.Gen Cert.ReferenceIdeal.Value

/-- The outputs off the states, before the channels are set apart by quarters. -/
def flat (x5 x6 : FVec Ideal S32x16x64 .f32) (zr zi : FVec Ideal S8192x2x32x64 .f32) : FVec Ideal S16384x4x128 .f32 :=
  shapeCast S16384x4x128 (subf
    (transpose S2x8192x32x16 [3, 2, 0, 1] (Host.dotGeneral dot_S32x16x64_S8192x2x32x64_S32x16x8192x2_2_3_1_01_0_2 none x5 zr) transposes_S32x16x8192x2_S2x8192x32x16_3_2_0_1)
    (transpose S2x8192x32x16 [3, 2, 0, 1] (Host.dotGeneral dot_S32x16x64_S8192x2x32x64_S32x16x8192x2_2_3_1_01_0_2 none x6 zi) transposes_S32x16x8192x2_S2x8192x32x16_3_2_0_1))
    shapeCasts_S2x8192x32x16_S16384x4x128

theorem flat_at (x5 x6 : FVec Ideal S32x16x64 .f32) (zr zi : FVec Ideal S8192x2x32x64 .f32) (b : Fin 2) (n : Fin 8192) (k : Fin 4)
    (γ : Fin 8) (d : Fin 16) :
    flat x5 x6 zr zi (ix3 ⟨8192 * b.val + n.val, by omega⟩ k ⟨16 * γ.val + d.val, by omega⟩)
      = (∑ p : Fin 64, x5 (ix3 (grp k γ) d p) * zr (ix4 n b (grp k γ) p)) - ∑ p : Fin 64, x6 (ix3 (grp k γ) d p) * zi (ix4 n b (grp k γ) p) := by
  unfold flat
  rw [shapeCast_apply _ _ _ (ix4 b n (grp k γ) d) (by
    rw [Shape.rowMajor_val_four, Shape.rowMajor_val_three]
    simp [grp]
    omega)]
  pointwise

/-- The outputs off the states. -/
def outs (x5 x6 : FVec Ideal S32x16x64 .f32) (zr zi : FVec Ideal S8192x2x32x64 .f32) : FVec Ideal S4x16384x128 .f32 :=
  transpose S4x16384x128 [1, 0, 2] (flat x5 x6 zr zi) transposes_S16384x4x128_S4x16384x128_1_0_2

theorem outs_at (x5 x6 : FVec Ideal S32x16x64 .f32) (zr zi : FVec Ideal S8192x2x32x64 .f32) (k : Fin 4) (r : Fin 16384) (l : Fin 128) :
    outs x5 x6 zr zi (ix3 k r l) = flat x5 x6 zr zi (ix3 r k l) := by
  unfold outs
  pointwise

theorem out_eq (V : Valuation τ sig (Elt Ideal)) :
    out_main_v57 V = outs (V (Proc.devRef .tc main_arg5)) (V (Proc.devRef .tc main_arg6)) (vzr V) (vzi V) := rfl

theorem outs_real {q : Par} {x5 x6 : FVec Ideal S32x16x64 .f32} {V : Valuation τ sig (Elt Ideal)} (h : At V q 8192)
    (h5 : ∀ g d p, x5 (ix3 g d p) = ((q.cr g d p : ℝ) : EReal)) (h6 : ∀ g d p, x6 (ix3 g d p) = ((q.ci g d p : ℝ) : EReal)) :
    outs x5 x6 (vzr V) (vzi V) = G q := by
  funext i
  obtain ⟨k, r, l, rfl⟩ : ∃ k r l, i = ix3 (n0 := 4) (n1 := 16384) (n2 := 128) k r l := ⟨_, _, _, eq_ix3 i⟩
  rw [outs_at]
  have e := flat_at x5 x6 (vzr V) (vzi V) ⟨r.val / 8192, by omega⟩ ⟨r.val % 8192, by omega⟩ k ⟨l.val / 16, by omega⟩ ⟨l.val % 16, by omega⟩
  have er : (⟨8192 * (r.val / 8192) + r.val % 8192, by omega⟩ : Fin 16384) = r := Fin.ext (by simp only; omega)
  have el : (⟨16 * (l.val / 16) + l.val % 16, by omega⟩ : Fin 128) = l := Fin.ext (by simp only; omega)
  simp only [er, el] at e
  rw [e]
  simp only [h5, h6, h.zr ⟨r.val % 8192, by omega⟩ _ _ _ (Nat.mod_lt _ (by omega)), h.zi ⟨r.val % 8192, by omega⟩ _ _ _ (Nat.mod_lt _ (by omega)),
    ← EReal.coe_mul, sum_real, ← EReal.coe_sub]
  show _ = ((q.y ⟨r.val / 8192, by omega⟩ (r.val % 8192) (grp k ⟨l.val / 16, by omega⟩) ⟨l.val % 16, by omega⟩ : ℝ) : EReal)
  rw [Par.y, Complex.re_sum, ← Finset.sum_sub_distrib]
  refine congrArg _ (Finset.sum_congr rfl fun p _ => ?_)
  rw [Complex.mul_re]
  rfl

variable {m : (ℓ : Loc nD τ sig) → Buf (Elt Ideal) ℓ} {c : Dev nD} {q : Par}

theorem entry (h : Holds q (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))) :
    At (StableHlo.entryContents preI m c) q 0 where
  ctr := ctr_entry m c
  lr g p := r0_lr h g p
  li g p := r0_li h g p
  xr n b g p := r0_xr h n b g p
  xi n b g p := r0_xi h n b g p
  sr b g p := (r0_sr b g p).trans (by simp [Par.X])
  si b g p := (r0_si b g p).trans (by simp [Par.X])
  zr n b g p hn := absurd hn (Nat.not_lt_zero _)
  zi n b g p hn := absurd hn (Nat.not_lt_zero _)

theorem ref_arr (h : Holds q (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))) :
    out_main_v57 (STEP^[8192] (StableHlo.entryContents preI m c)) = G q := by
  have e := At.iter (entry h) 8192 (le_refl _)
  rw [out_eq, iter_main_arg5, iter_main_arg6]
  exact outs_real e h.cr h.ci

end Cert.S5.Loop
-- ==== Proof.S5.Claim.lean ====
/- The S5 call and its reference leave the same array, from arguments that are well posed. -/
module

public import proofs.«01_k».proof.Defs
public import proofs.«01_k».proof.Proof.S5.Pre
public import proofs.«01_k».proof.Proof.S5.Ref2

@[expose] public section

noncomputable section

namespace Cert.S5

open Idealize.ShloMosaic Idealize.ShloMosaic.TcCoe Idealize.SL.Sem

theorem value : Cert.algebraic_KernelIdeal_ReferenceIdeal_pre_well_posed (hKernelIdeal := Cert.KernelIdeal.Gen.facts)
    (hReferenceIdeal := Cert.ReferenceIdeal.Gen.facts) (hPre_well_posed := pre_facts) := by
  intro m g m' g' hp hm
  have hq := fun c => pre_holds (hp c)
  choose q hq using hq
  refine ⟨fun c => G (q c), ?_, ?_⟩
  · refine (θ_run _ _ _).mono (fun r h c => ?_) (θ_run_and (run_out (m := m) g) (frame (F := Ideal) m g))
    exact ⟨(h.1 c).trans (arr (hq c)), h.2.1 c⟩
  · refine (θ_run _ _ _).mono (fun r h c => ?_) (Cert.ReferenceIdeal.Value.run m' g')
    obtain ⟨e, k⟩ := h c
    obtain ⟨h0, h1, h2, h3, h4, h5, h6, h7⟩ := hm c
    refine ⟨e.trans (Loop.ref_arr ?_), k⟩
    rw [h0, h1, h2, h3, h4, h5, h6, h7]
    exact hq c

end Cert.S5
-- ==== Proof.Ffn.Row.lean ====
/- A row of the feed-forward block over the extended reals. -/
module

public import Idealize.ShloMosaic.Lib.Pipeline.ValueKit

@[expose] public section

noncomputable section

namespace Cert.Ffn

open Idealize.ShloMosaic

/-- The root-mean-square norm of a row, times a gain. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The gated activations of a normed row. -/
def act (n : Fin 1024 → EReal) (wg wu : Fin 1024 → Fin 2816 → EReal) (k : Fin 2816) : EReal :=
  (∑ l, n l * wg l k) * Ideal.logistic (∑ l, n l * wg l k) * ∑ l, n l * wu l k

/-- The activations times the down projection. -/
def down (a : Fin 2816 → EReal) (wd : Fin 2816 → Fin 1024 → EReal) (j : Fin 1024) : EReal := ∑ k, a k * wd k j

/-- The feed-forward block of a row: the row plus half of the normed product. -/
def ffn (x gpre : Fin 1024 → EReal) (wg wu : Fin 1024 → Fin 2816 → EReal) (wd : Fin 2816 → Fin 1024 → EReal)
    (gpost : Fin 1024 → EReal) (j : Fin 1024) : EReal :=
  x j + Ideal.ofBits .f32 0x3F000000#32 * rms (down (act (rms x gpre) wg wu) wd) gpost j

end Cert.Ffn

end
-- ==== Proof.Ffn.Pay.lean ====
/- What the feed-forward body computes of its blocks, row by row. -/
module

public import proofs.«01_k».proof.Proof.Ffn.Row
public import proofs.«01_k».proof.Proof.Gen.Kernel2Ideal.Frame

@[expose] public section

set_option maxRecDepth 16384

noncomputable section

namespace Cert.Ffn

open Idealize.ShloMosaic Cert.Kernel2Ideal Cert.Kernel2Ideal.Gen

theorem pay4_apply (v0 : Vec Ideal S512x1024 .f32) (r : Fin 256) (l : Fin 1024) :
    k0_pay4 v0 (ix2 r l) = v0 (ix2 ⟨r, by omega⟩ l) := by
  unfold k0_pay4
  pointwise

theorem pay5_apply (v0 : Vec Ideal S512x1024 .f32) (v1 : Vec Ideal S1x1x1024 .f32) (v19 v24 : Vec Ideal S1x1x1024x2816 .bf16)
    (v29 : Vec Ideal S1x1x2816x1024 .bf16) (r : Fin 256) (j : Fin 1024) :
    k0_pay5 v0 v1 v19 v24 v29 (ix2 r j) = down (act (rms (fun l => k0_pay4 v0 (ix2 r l)) fun l => v1 (ix3 0 0 l))
      (fun l k => v19 (ix4 0 0 l k)) fun l k => v24 (ix4 0 0 l k)) (fun k j => v29 (ix4 0 0 k j)) j := by
  unfold k0_pay5 k0_pay2
  pointwise
  rfl

theorem pay7_apply (v4 : FVec Ideal S1x1024 .f32) (v5 v31 v32 : FVec Ideal S256x1024 .f32) (h : v32 = mulf v31 v31)
    (r : Fin 256) (j : Fin 1024) :
    k0_pay7 v4 v5 v31 v32 (ix2 r j) = v5 (ix2 r j)
      + Ideal.ofBits .f32 0x3F000000#32 * rms (fun l => v31 (ix2 r l)) (fun l => v4 (ix2 0 l)) j := by
  subst h
  unfold k0_pay7
  pointwise
  rfl

theorem pay8_apply (v0 : Vec Ideal S512x1024 .f32) (r : Fin 256) (l : Fin 1024) :
    k0_pay8 v0 (ix2 r l) = v0 (ix2 ⟨256 + r, by omega⟩ l) := by
  unfold k0_pay8
  pointwise

theorem pay9_apply (v0 : Vec Ideal S512x1024 .f32) (v2 : FVec Ideal S1x1024 .f32) (v61 v66 : Vec Ideal S1x1x1024x2816 .bf16)
    (r : Fin 256) (k : Fin 2816) :
    k0_pay9 v0 v2 v61 v66 (ix2 r k) = act (rms (fun l => k0_pay8 v0 (ix2 r l)) fun l => v2 (ix2 0 l))
      (fun l k => v61 (ix4 0 0 l k)) (fun l k => v66 (ix4 0 0 l k)) k := by
  unfold k0_pay9
  pointwise
  rfl

/-- The second half of the rows before the two halves are put together. -/
def second (v4 : FVec Ideal S1x1024 .f32) (v47 : FVec Ideal S256x1024 .f32) (v70 : FVec Ideal S256x2816 .bf16)
    (v71 : Vec Ideal S1x1x2816x1024 .bf16) (r : Fin 256) (j : Fin 1024) : EReal :=
  v47 (ix2 r j) + Ideal.ofBits .f32 0x3F000000#32
    * rms (down (fun k => v70 (ix2 r k)) fun k j => v71 (ix4 0 0 k j)) (fun l => v4 (ix2 0 l)) j

theorem pay1_lo (v4 : FVec Ideal S1x1024 .f32) (v46 v47 : FVec Ideal S256x1024 .f32) (v70 : FVec Ideal S256x2816 .bf16)
    (v71 : Vec Ideal S1x1x2816x1024 .bf16) (r : Fin 512) (h : r.val < 256) (j : Fin 1024) :
    k0_pay1 v4 v46 v47 v70 v71 (ix2 r j) = v46 (ix2 ⟨r, h⟩ j) := by
  unfold k0_pay1
  pointwise [h]

theorem pay1_hi (v4 : FVec Ideal S1x1024 .f32) (v46 v47 : FVec Ideal S256x1024 .f32) (v70 : FVec Ideal S256x2816 .bf16)
    (v71 : Vec Ideal S1x1x2816x1024 .bf16) (r : Fin 512) (h : ¬ r.val < 256) (j : Fin 1024) :
    k0_pay1 v4 v46 v47 v70 v71 (ix2 r j) = second v4 v47 v70 v71 ⟨r - 256, by omega⟩ j := by
  unfold k0_pay1
  pointwise [h]
  rfl

end Cert.Ffn

end
-- ==== Proof.Ffn.Arr.lean ====
/- The array that the feed-forward call leaves. -/
module

public import proofs.«01_k».proof.Proof.Ffn.Pay
public import proofs.«01_k».proof.Proof.Gen.Kernel2Ideal.Value

@[expose] public section

set_option maxRecDepth 16384

noncomputable section

namespace Cert.Ffn

open Idealize.ShloMosaic Idealize.ShloMosaic.TcCoe Idealize.SL.Sem Cert.Kernel2Ideal Cert.Kernel2Ideal.Gen

variable (m : (ℓ : Loc nD τ sig) → Buf (Elt Ideal) ℓ)

/-- One element of the result. -/
def at2 (x0 : Vec Ideal S512x1024 .f32) (x1 : Vec Ideal S1x1x1024 .f32) (x2 x3 : Vec Ideal S1x1x1024x2816 .bf16)
    (x4 : Vec Ideal S1x1x2816x1024 .bf16) (x5 : Vec Ideal S1x1x1024 .f32) (r : Fin 512) (j : Fin 1024) : EReal :=
  ffn (fun l => x0 (ix2 r l)) (fun l => x1 (ix3 0 0 l)) (fun l k => x2 (ix4 0 0 l k)) (fun l k => x3 (ix4 0 0 l k))
    (fun k j => x4 (ix4 0 0 k j)) (fun l => x5 (ix3 0 0 l)) j

theorem pay2_apply (v1 : Vec Ideal S1x1x1024 .f32) (l : Fin 1024) : k0_pay2 v1 (ix2 0 l) = v1 (ix3 0 0 l) := by
  unfold k0_pay2
  pointwise

theorem pay3_apply (v1 : Vec Ideal S1x1x1024 .f32) (l : Fin 1024) : k0_pay3 v1 (ix2 0 l) = v1 (ix3 0 0 l) := by
  unfold k0_pay3
  pointwise

theorem pay_at (x0 : Vec Ideal S512x1024 .f32) (x1 : Vec Ideal S1x1x1024 .f32) (x2 x3 : Vec Ideal S1x1x1024x2816 .bf16)
    (x4 : Vec Ideal S1x1x2816x1024 .bf16) (x5 : Vec Ideal S1x1x1024 .f32) (r : Fin 512) (j : Fin 1024) :
    k0_pay1 (k0_pay3 x5) (k0_pay7 (k0_pay3 x5) (k0_pay4 x0) (k0_pay5 x0 x1 x2 x3 x4) (k0_pay6 x0 x1 x2 x3 x4))
      (k0_pay8 x0) (k0_pay9 x0 (k0_pay2 x1) x2 x3) x4 (ix2 r j) = at2 x0 x1 x2 x3 x4 x5 r j := by
  by_cases h : r.val < 256
  · rw [pay1_lo _ _ _ _ _ _ h, pay7_apply _ _ _ (k0_pay6 x0 x1 x2 x3 x4) (by unfold k0_pay6; rfl)]
    simp only [pay5_apply, pay4_apply, pay3_apply]
    rfl
  · rw [pay1_hi _ _ _ _ _ _ h]
    have e : (⟨256 + (r.val - 256), by omega⟩ : Fin 512) = r := Fin.ext (by show 256 + (r.val - 256) = r.val; omega)
    simp only [second, pay8_apply, pay9_apply, pay3_apply, pay2_apply, e]
    rfl

/-- The result as one function of the arguments. -/
def G (c : Dev nD) : S16384x1024.Idx → EReal := fun i =>
  ffn (fun l => m (c, main_arg0) (ix2 (i 0) l)) (fun l => m (c, main_arg1) (ix2 0 l))
    (fun l k => m (c, main_arg2) (ix3 0 l k)) (fun l k => m (c, main_arg3) (ix3 0 l k))
    (fun k j => m (c, main_arg4) (ix3 0 k j)) (fun l => m (c, main_arg1) (ix2 1 l)) (i 1)

/-- The block each window stages at each point. -/
theorem idx : ∀ t : Fin cfg0.N, (win0_0.index t 0 = t.val ∧ win0_0.index t 1 = 0) ∧ (win0_1.index t 0 = 0 ∧ win0_1.index t 1 = 0 ∧ win0_1.index t 2 = 0)
    ∧ (win0_2.index t 0 = 0 ∧ win0_2.index t 1 = 0 ∧ win0_2.index t 2 = 0 ∧ win0_2.index t 3 = 0)
    ∧ (win0_3.index t 0 = 0 ∧ win0_3.index t 1 = 0 ∧ win0_3.index t 2 = 0 ∧ win0_3.index t 3 = 0)
    ∧ (win0_4.index t 0 = 0 ∧ win0_4.index t 1 = 0 ∧ win0_4.index t 2 = 0 ∧ win0_4.index t 3 = 0)
    ∧ (win0_5.index t 0 = 1 ∧ win0_5.index t 1 = 0 ∧ win0_5.index t 2 = 0) ∧ (win0_6.index t 0 = t.val ∧ win0_6.index t 1 = 0) :=
  (by decide +kernel : ∀ t : Fin grid0.N, _)

theorem arr (c : Dev nD) : (dats m 0 c).arrAt 6 cfg0.N = G m c := by
  refine (dats m 0 c).arrAt_eq_of_covers 6 _ (by decide +kernel) fun t hf y => ?_
  blk_simp
  rw [after0_6]
  unfold_out out0_6
  frame_out
  obtain ⟨r, j, rfl⟩ : ∃ r j, y = ix2 (n0 := 512) (n1 := 1024) r j := ⟨_, _, eq_ix2 y⟩
  rw [pay_at]
  unfold at2 G
  blk_point [iblk, V, idx t]

end Cert.Ffn

end
-- ==== Proof.Ffn.Ref.lean ====
/- What the reference of the feed-forward call computes, row by row. -/
module

public import proofs.«01_k».proof.Proof.Ffn.Row
public import proofs.«01_k».proof.Proof.Gen.Reference2Ideal.Read

@[expose] public section

set_option maxRecDepth 16384

noncomputable section

namespace Cert.Ffn.Ref

open Idealize.ShloMosaic Cert.Reference2Ideal Cert.Reference2Ideal.Read

variable (x0 : (⟨S16384x1024, .f32⟩ : BufTy).Contents (Elt Ideal)) (x1 : (⟨S6x1024, .f32⟩ : BufTy).Contents (Elt Ideal))
  (x2 x3 : (⟨S2x1024x2816, .f32⟩ : BufTy).Contents (Elt Ideal)) (x4 : (⟨S2x2816x1024, .f32⟩ : BufTy).Contents (Elt Ideal))

theorem norm_apply (n : Fin 16384) (l : Fin 1024) :
    val_main_v14 x0 x1 (ix2 n l) = rms (fun l => x0 (ix2 n l)) (fun l => x1 (ix2 0 l)) l := by
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise
  rfl

theorem act_apply (n : Fin 16384) (k : Fin 2816) :
    val_main_v24 x0 x1 x2 x3 (ix2 n k) = act (fun l => val_main_v14 x0 x1 (ix2 n l)) (fun l k => x2 (ix3 0 l k))
      (fun l k => x3 (ix3 0 l k)) k := by
  unfold val_main_v24 val_main_v23 val_main_v22 val_main_call0_v5 val_main_call0_v4 val_main_call0_v3 val_main_call0_v2
    val_main_call0_v1 val_main_call0_v0 val_main_call0_cst val_main_call0_cst_0 val_main_v21 val_main_v18 val_main_v17
    val_main_v16 val_main_v15
  generalize val_main_v14 x0 x1 = y
  pointwise
  rfl

theorem out_apply (n : Fin 16384) (j : Fin 1024) :
    val_main_v43 x0 x1 x2 x3 x4 (ix2 n j) = x0 (ix2 n j) + Ideal.ofBits .f32 0x3F000000#32 *
      rms (down (fun k => val_main_v24 x0 x1 x2 x3 (ix2 n k)) fun k j => x4 (ix3 0 k j)) (fun l => x1 (ix2 1 l)) j := by
  unfold val_main_v43 val_main_v42 val_main_v41 val_main_v40 val_main_v39 val_main_v38 val_main_v37 val_main_v36
    val_main_v35 val_main_v34 val_main_v33 val_main_v32 val_main_v31 val_main_v30 val_main_v29 val_main_v28 val_main_v27
    val_main_v26 val_main_v25 val_main_v20 val_main_v19 val_main_cst_2 val_main_cst_3 val_main_cst_4 val_main_cst_5
  generalize val_main_v24 x0 x1 x2 x3 = y
  pointwise
  rfl

theorem ref_apply (n : Fin 16384) (j : Fin 1024) :
    val_main_v43 x0 x1 x2 x3 x4 (ix2 n j) = ffn (fun l => x0 (ix2 n l)) (fun l => x1 (ix2 0 l)) (fun l k => x2 (ix3 0 l k))
      (fun l k => x3 (ix3 0 l k)) (fun k j => x4 (ix3 0 k j)) (fun l => x1 (ix2 1 l)) j := by
  rw [out_apply]
  simp only [act_apply, norm_apply]
  rfl

end Cert.Ffn.Ref

end
-- ==== Proof.Ffn.Claim.lean ====
/- The claims about the feed-forward call. -/
module

public import proofs.«01_k».proof.Defs
public import proofs.«01_k».proof.Proof.Ffn.Arr
public import proofs.«01_k».proof.Proof.Ffn.Ref
public import proofs.«01_k».proof.Proof.Gen.Kernel2Ideal
public import proofs.«01_k».proof.Proof.Gen.Reference2Ideal

@[expose] public section

set_option maxRecDepth 16384

noncomputable section

namespace Cert.Ffn

open Idealize.ShloMosaic Idealize.ShloMosaic.TcCoe Idealize.SL.Sem

/-- The reference declares no semaphore, so every family of counters is the zero one. -/
theorem no_counter (f : GSem Cert.Reference2Ideal.nD Cert.Reference2Ideal.τ Cert.Reference2Ideal.sig → Int) : f = fun _ => 0 := by
  funext g
  rcases g with ⟨_, s | s⟩
  · exact s.elim0
  · exact s.elim0

theorem ref_frame : Cert.quiescent_Reference2Ideal := fun m ρ _ =>
  (θ_run _ _ _).mono (fun r h => ⟨fun c => (h c).2, no_counter r.2.sem⟩) (Cert.Reference2Ideal.Value.run m ρ)

/-- The two arrays are one function of the arguments. -/
theorem same (m : (ℓ : Loc Cert.Kernel2Ideal.nD Cert.Kernel2Ideal.τ Cert.Kernel2Ideal.sig) → Buf (Elt Ideal) ℓ)
    (c : Dev Cert.Kernel2Ideal.nD) :
    Cert.Reference2Ideal.Read.val_main_v43 (F := Ideal) (m (c, Cert.Kernel2Ideal.main_arg0)) (m (c, Cert.Kernel2Ideal.main_arg1))
      (m (c, Cert.Kernel2Ideal.main_arg2)) (m (c, Cert.Kernel2Ideal.main_arg3)) (m (c, Cert.Kernel2Ideal.main_arg4))
      = G m c := by
  funext i
  obtain ⟨n, j, rfl⟩ : ∃ n j, i = ix2 (n0 := 16384) (n1 := 1024) n j := ⟨_, _, eq_ix2 i⟩
  exact Ref.ref_apply _ _ _ _ _ n j

theorem value : Cert.algebraic_Kernel2Ideal_Reference2Ideal := by
  intro m g m' g' _ hm
  refine ⟨fun c => G m c, ?_, ?_⟩
  · refine (θ_run _ _ _).mono (fun r h c => ?_) (Cert.Kernel2Ideal.Value.run_blocks m g)
    exact ⟨(h c).1.trans (arr m c), (h c).2⟩
  · refine (θ_run _ _ _).mono (fun r h c => ?_) (Cert.Reference2Ideal.Value.run m' g')
    refine ⟨(h c).1.trans ?_, (h c).2⟩
    rw [Cert.Reference2Ideal.Read.val_main_v43_eq, (hm c).1, (hm c).2.1, (hm c).2.2.1, (hm c).2.2.2.1, (hm c).2.2.2.2]
    exact same m c

end Cert.Ffn

end
-- ==== Proof.Out.Row.lean ====
/- A row of the output projection over the extended reals. -/
module

public import proofs.«01_k».proof.Proof.Ffn.Row

@[expose] public section

noncomputable section

namespace Cert.Out

open Idealize.ShloMosaic

/-- The S5 row with its skip term. -/
def skip (y d u : Fin 512 → EReal) (k : Fin 512) : EReal := y k + d k * u k

/-- The Gaussian error linear unit by its tanh form. -/
def gelu (x : EReal) : EReal :=
  x * (Ideal.ofBits .f32 0x3F000000#32 * (1 + Ideal.tanh (Ideal.ofBits .f32 0x3F4C422A#32
    * (x + Ideal.ofBits .f32 0x3D372713#32 * (x * (x * x))))))

/-- The gated linear unit of a row. -/
def glu (y : Fin 512 → EReal) (w : Fin 512 → Fin 512 → EReal) (b : Fin 512 → EReal) (k : Fin 512) : EReal :=
  y k * Ideal.logistic ((∑ l, y l * w l k) + b k)

/-- The three mixers' rows times their parts of the output projection. -/
def mix (a b c : Fin 512 → EReal) (w : Fin 1536 → Fin 1024 → EReal) (j : Fin 1024) : EReal :=
  (∑ k, a k * w ⟨k, by omega⟩ j) + (∑ k, b k * w ⟨512 + k, by omega⟩ j) + ∑ k, c k * w ⟨1024 + k, by omega⟩ j

/-- Four tiles of 128 lanes side by side. -/
def pick (a b c d : Fin 128 → EReal) (k : Fin 512) : EReal :=
  if h : k.val < 128 then a ⟨k, h⟩ else if h : k.val - 128 < 128 then b ⟨k - 128, h⟩
  else if h : k.val - 128 - 128 < 128 then c ⟨k - 128 - 128, h⟩ else d ⟨k - 128 - 128 - 128, by omega⟩

end Cert.Out

end
-- ==== Proof.Out.Pay.lean ====
/- What the body of the output projection computes of its blocks, row by row. -/
module

public import proofs.«01_k».proof.Proof.Out.Row
public import proofs.«01_k».proof.Proof.Gen.Kernel3Ideal.Frame

@[expose] public section

set_option maxRecDepth 16384

noncomputable section

namespace Cert.Out

open Idealize.ShloMosaic Cert.Kernel3Ideal Cert.Kernel3Ideal.Gen Cert.Ffn

/-- A row of a stack of one block of 128 lanes. -/
def lane (x : Vec Ideal S1x512x128 .f32) (r : Fin 512) (l : Fin 128) : EReal := x (ix3 0 r l)

theorem pay2_apply (v0 v2 v4 v6 v9 v11 v13 v15 : Vec Ideal S1x512x128 .f32) (v18 : Vec Ideal S1x1x512 .f32)
    (r k : Fin 512) :
    k0_pay2 v0 v2 v4 v6 v9 v11 v13 v15 v18 (ix2 r k)
      = skip (pick (lane v0 r) (lane v2 r) (lane v4 r) (lane v6 r)) (fun k => v18 (ix3 0 0 k))
          (pick (lane v9 r) (lane v11 r) (lane v13 r) (lane v15 r)) k := by
  unfold k0_pay2 skip pick lane
  pointwise

theorem pay4_apply (v22 v29 : FVec Ideal S512x512 .f32) (v37 : Vec Ideal S1x512x512 .bf16)
    (v40 : Vec Ideal S1x1x512 .f32) (v46 : Vec Ideal S512x512 .bf16) (v47 : Vec Ideal S1x512x1024 .bf16)
    (v50 : Vec Ideal S512x512 .bf16) (v51 v56 : Vec Ideal S1x512x1024 .bf16)
    (h : ∀ r k, gelu (v22 (ix2 r k)) = v22 (ix2 r k) * (Ideal.ofBits .f32 0x3F000000#32 * (1 + Ideal.tanh (v29 (ix2 r k)))))
    (r : Fin 512) (j : Fin 1024) :
    k0_pay4 v22 v29 v37 v40 v46 v47 v50 v51 v56 (ix2 r j)
      = (∑ k, v46 (ix2 r k) * v47 (ix3 0 k j)) + (∑ k, v50 (ix2 r k) * v51 (ix3 0 k j))
        + ∑ k, glu (fun k => gelu (v22 (ix2 r k))) (fun l k => v37 (ix3 0 l k)) (fun k => v40 (ix3 0 0 k)) k
            * v56 (ix3 0 k j) := by
  unfold k0_pay4 glu
  simp only [h]
  pointwise

theorem pay5_apply (v59 : FVec Ideal S512x1024 .f32) (v60 : Vec Ideal S512x1024 .f32) (v61 : Vec Ideal S1x1x1024 .f32)
    (r : Fin 512) (j : Fin 1024) :
    k0_pay5 v59 v60 v61 (ix2 r j) = v60 (ix2 r j) + rms (fun l => v59 (ix2 r l)) (fun l => v61 (ix3 0 0 l)) j := by
  unfold k0_pay5
  pointwise
  rfl

theorem pay6_apply (v : Vec Ideal S1x1x1024 .f32) (l : Fin 1024) : k0_pay6 v (ix2 0 l) = v (ix3 0 0 l) := by
  unfold k0_pay6
  pointwise

theorem pay7_apply (v : Vec Ideal S1x1x1024 .f32) (l : Fin 1024) : k0_pay7 v (ix2 0 l) = v (ix3 0 0 l) := by
  unfold k0_pay7
  pointwise

theorem pay8_apply (v59 : FVec Ideal S512x1024 .f32) (v60 : Vec Ideal S512x1024 .f32) (v61 : Vec Ideal S1x1x1024 .f32)
    (r : Fin 256) (l : Fin 1024) : k0_pay8 v59 v60 v61 (ix2 r l) = k0_pay5 v59 v60 v61 (ix2 ⟨r, by omega⟩ l) := by
  unfold k0_pay8
  pointwise

theorem pay12_apply (v : FVec Ideal S512x1024 .f32) (r : Fin 256) (l : Fin 1024) :
    k0_pay12 v (ix2 r l) = v (ix2 ⟨256 + r, by omega⟩ l) := by
  unfold k0_pay12
  pointwise

theorem pay9_apply (v59 : FVec Ideal S512x1024 .f32) (v60 : Vec Ideal S512x1024 .f32) (v61 v76 : Vec Ideal S1x1x1024 .f32)
    (r : Fin 256) (l : Fin 1024) :
    k0_pay9 v59 v60 v61 v76 (ix2 r l) = rms (fun l => k0_pay8 v59 v60 v61 (ix2 r l)) (fun l => k0_pay6 v76 (ix2 0 l)) l := by
  unfold k0_pay9
  generalize k0_pay8 v59 v60 v61 = y
  pointwise
  rfl

theorem pay13_apply (v75 : FVec Ideal S512x1024 .f32) (v77 : FVec Ideal S1x1024 .f32)
    (r : Fin 256) (l : Fin 1024) :
    k0_pay13 v75 v77 (ix2 r l) = rms (fun l => k0_pay12 v75 (ix2 r l)) (fun l => v77 (ix2 0 l)) l := by
  unfold k0_pay13
  generalize k0_pay12 v75 = y
  pointwise
  rfl

theorem pay10_apply (v59 : FVec Ideal S512x1024 .f32) (v60 : Vec Ideal S512x1024 .f32) (v61 v76 : Vec Ideal S1x1x1024 .f32)
    (v94 : Vec Ideal S1x1x1024x2816 .bf16) (r : Fin 256) (k : Fin 2816) :
    k0_pay10 v59 v60 v61 v76 v94 (ix2 r k) = (∑ l, k0_pay9 v59 v60 v61 v76 (ix2 r l) * v94 (ix4 0 0 l k))
      * Ideal.logistic (∑ l, k0_pay9 v59 v60 v61 v76 (ix2 r l) * v94 (ix4 0 0 l k)) := by
  unfold k0_pay10
  generalize k0_pay9 v59 v60 v61 v76 = y
  pointwise

theorem pay14_apply (v75 : FVec Ideal S512x1024 .f32) (v77 : FVec Ideal S1x1024 .f32)
    (v94 : Vec Ideal S1x1x1024x2816 .bf16) (r : Fin 256) (k : Fin 2816) :
    k0_pay14 v75 v77 v94 (ix2 r k) = (∑ l, k0_pay13 v75 v77 (ix2 r l) * v94 (ix4 0 0 l k))
      * Ideal.logistic (∑ l, k0_pay13 v75 v77 (ix2 r l) * v94 (ix4 0 0 l k)) := by
  unfold k0_pay14
  generalize k0_pay13 v75 v77 = y
  pointwise

/-- The rest of a half of the rows, from the gated products. -/
def rest (x : EReal) (n : Fin 1024 → EReal) (a : Fin 2816 → EReal) (wu : Vec Ideal S1x1x1024x2816 .bf16)
    (wd : Vec Ideal S1x1x2816x1024 .bf16) (g : Fin 1024 → EReal) (j : Fin 1024) : EReal :=
  x + Ideal.ofBits .f32 0x3F000000#32
    * rms (down (fun k => a k * ∑ l, n l * wu (ix4 0 0 l k)) fun k j => wd (ix4 0 0 k j)) g j

theorem pay11_apply (v79 : FVec Ideal S1x1024 .f32) (v80 : FVec Ideal S256x1024 .f32) (v93 : FVec Ideal S256x1024 .bf16)
    (v98 : FVec Ideal S256x2816 .f32) (v99 : Vec Ideal S1x1x1024x2816 .bf16) (v104 : Vec Ideal S1x1x2816x1024 .bf16)
    (r : Fin 256) (j : Fin 1024) :
    k0_pay11 v79 v80 v93 v98 v99 v104 (ix2 r j) = rest (v80 (ix2 r j)) (fun l => v93 (ix2 r l)) (fun k => v98 (ix2 r k))
      v99 v104 (fun l => v79 (ix2 0 l)) j := by
  unfold k0_pay11
  pointwise
  rfl

theorem pay1_lo (v79 : FVec Ideal S1x1024 .f32) (v121 v122 : FVec Ideal S256x1024 .f32) (v135 : FVec Ideal S256x1024 .bf16)
    (v140 : FVec Ideal S256x2816 .f32) (v141 : Vec Ideal S1x1x1024x2816 .bf16) (v146 : Vec Ideal S1x1x2816x1024 .bf16)
    (r : Fin 512) (h : r.val < 256) (j : Fin 1024) :
    k0_pay1 v79 v121 v122 v135 v140 v141 v146 (ix2 r j) = v121 (ix2 ⟨r, h⟩ j) := by
  unfold k0_pay1
  pointwise [h]

theorem pay1_hi (v79 : FVec Ideal S1x1024 .f32) (v121 v122 : FVec Ideal S256x1024 .f32) (v135 : FVec Ideal S256x1024 .bf16)
    (v140 : FVec Ideal S256x2816 .f32) (v141 : Vec Ideal S1x1x1024x2816 .bf16) (v146 : Vec Ideal S1x1x2816x1024 .bf16)
    (r : Fin 512) (h : ¬ r.val < 256) (j : Fin 1024) :
    k0_pay1 v79 v121 v122 v135 v140 v141 v146 (ix2 r j)
      = rest (v122 (ix2 ⟨r - 256, by omega⟩ j)) (fun l => v135 (ix2 ⟨r - 256, by omega⟩ l))
          (fun k => v140 (ix2 ⟨r - 256, by omega⟩ k)) v141 v146 (fun l => v79 (ix2 0 l)) j := by
  unfold k0_pay1
  pointwise [h]
  rfl

end Cert.Out

end
-- ==== Proof.Out.Arr.lean ====
/- The array that the output projection call leaves. -/
module

public import proofs.«01_k».proof.Proof.Out.Pay
public import proofs.«01_k».proof.Proof.Gen.Kernel3Ideal.Value

@[expose] public section

set_option maxRecDepth 16384

noncomputable section

namespace Cert.Out

open Idealize.ShloMosaic Idealize.ShloMosaic.TcCoe Idealize.SL.Sem Cert.Kernel3Ideal Cert.Kernel3Ideal.Gen Cert.Ffn

variable (m : (ℓ : Loc nD τ sig) → Buf (Elt Ideal) ℓ)

theorem gelu_pay (v0 v2 v4 v6 v9 v11 v13 v15 : Vec Ideal S1x512x128 .f32) (v18 : Vec Ideal S1x1x512 .f32) (r k : Fin 512) :
    gelu (k0_pay2 v0 v2 v4 v6 v9 v11 v13 v15 v18 (ix2 r k)) = k0_pay2 v0 v2 v4 v6 v9 v11 v13 v15 v18 (ix2 r k)
      * (Ideal.ofBits .f32 0x3F000000#32 * (1 + Ideal.tanh (k0_pay3 v0 v2 v4 v6 v9 v11 v13 v15 v18 (ix2 r k)))) := by
  unfold k0_pay3 gelu
  generalize k0_pay2 v0 v2 v4 v6 v9 v11 v13 v15 v18 = y
  pointwise

/-- A row after the projection, from what the mixers made of it. -/
def proj (v59 : Fin 1024 → EReal) (h g : Fin 1024 → EReal) (j : Fin 1024) : EReal := h j + rms v59 g j

theorem body_at (v59 v60 : FVec Ideal S512x1024 .f32) (v61 v76 v78 : Vec Ideal S1x1x1024 .f32)
    (wg wu : Vec Ideal S1x1x1024x2816 .bf16) (wd : Vec Ideal S1x1x2816x1024 .bf16) (r : Fin 512) (j : Fin 1024) :
    k0_pay1 (k0_pay7 v78) (k0_pay11 (k0_pay7 v78) (k0_pay8 v59 v60 v61) (k0_pay9 v59 v60 v61 v76)
        (k0_pay10 v59 v60 v61 v76 wg) wu wd) (k0_pay12 (k0_pay5 v59 v60 v61)) (k0_pay13 (k0_pay5 v59 v60 v61) (k0_pay6 v76))
        (k0_pay14 (k0_pay5 v59 v60 v61) (k0_pay6 v76) wg) wu wd (ix2 r j)
      = ffn (proj (fun l => v59 (ix2 r l)) (fun l => v60 (ix2 r l)) fun l => v61 (ix3 0 0 l)) (fun l => v76 (ix3 0 0 l))
          (fun l k => wg (ix4 0 0 l k)) (fun l k => wu (ix4 0 0 l k)) (fun k j => wd (ix4 0 0 k j))
          (fun l => v78 (ix3 0 0 l)) j := by
  by_cases h : r.val < 256
  · rw [pay1_lo _ _ _ _ _ _ _ _ h, pay11_apply]
    simp only [pay10_apply, pay9_apply, pay8_apply, pay7_apply, pay6_apply, pay5_apply]
    rfl
  · rw [pay1_hi _ _ _ _ _ _ _ _ h]
    have e : (⟨256 + (r.val - 256), by omega⟩ : Fin 512) = r := Fin.ext (by show 256 + (r.val - 256) = r.val; omega)
    simp only [pay14_apply, pay13_apply, pay12_apply, pay7_apply, pay6_apply, pay5_apply, e]
    rfl

theorem ld4 (x : Vec Ideal S1x1536x1024 .bf16) (k : Fin 512) (l : Fin 1024) :
    View.ld x r0_4 (ix3 0 k l) = x (ix3 0 ⟨k, by omega⟩ l) := by
  pointwise

theorem ld5 (x : Vec Ideal S1x1536x1024 .bf16) (k : Fin 512) (l : Fin 1024) :
    View.ld x r0_5 (ix3 0 k l) = x (ix3 0 ⟨512 + k, by omega⟩ l) := by
  pointwise

theorem ld6 (x : Vec Ideal S1x1536x1024 .bf16) (k : Fin 512) (l : Fin 1024) :
    View.ld x r0_6 (ix3 0 k l) = x (ix3 0 ⟨1024 + k, by omega⟩ l) := by
  pointwise

theorem pay_at (x1 x2 : Vec Ideal S512x512 .bf16) (x3 x4 x5 x6 x7 x8 x9 x10 : Vec Ideal S1x512x128 .f32)
    (x11 : Vec Ideal S1x1x512 .f32) (x12 : Vec Ideal S1x512x512 .bf16) (x13 : Vec Ideal S1x1x512 .f32)
    (x14 : Vec Ideal S1x1536x1024 .bf16) (r : Fin 512) (j : Fin 1024) :
    k0_pay4 (k0_pay2 x3 x4 x5 x6 x7 x8 x9 x10 x11) (k0_pay3 x3 x4 x5 x6 x7 x8 x9 x10 x11) x12 x13 x1 (View.ld x14 r0_4) x2
        (View.ld x14 r0_5) (View.ld x14 r0_6) (ix2 r j)
      = mix (fun k => x1 (ix2 r k)) (fun k => x2 (ix2 r k))
          (glu (fun k => gelu (skip (pick (lane x3 r) (lane x4 r) (lane x5 r) (lane x6 r)) (fun k => x11 (ix3 0 0 k))
              (pick (lane x7 r) (lane x8 r) (lane x9 r) (lane x10 r)) k))
            (fun l k => x12 (ix3 0 l k)) fun k => x13 (ix3 0 0 k))
          (fun k j => x14 (ix3 0 k j)) j := by
  rw [pay4_apply _ _ _ _ _ _ _ _ _ (gelu_pay _ _ _ _ _ _ _ _ _)]
  simp only [pay2_apply]
  unfold mix
  exact congrArg₂ _ (congrArg₂ _ (Finset.sum_congr rfl fun k _ => congrArg _ (ld4 x14 k j))
    (Finset.sum_congr rfl fun k _ => congrArg _ (ld5 x14 k j))) (Finset.sum_congr rfl fun k _ => congrArg _ (ld6 x14 k j))

/-- The token's S5 row, of the four tiles side by side. -/
def tiles (y : S4x16384x128.Idx → EReal) (n : Fin 16384) : Fin 512 → EReal :=
  pick (fun l => y (ix3 0 n l)) (fun l => y (ix3 1 n l)) (fun l => y (ix3 2 n l)) fun l => y (ix3 3 n l)

/-- The result as one function of the arguments. -/
def G (c : Dev nD) : S16384x1024.Idx → EReal := fun i =>
  ffn (proj (mix (fun k => m (c, main_arg1) (ix2 (i 0) k)) (fun k => m (c, main_arg2) (ix2 (i 0) k))
        (glu (fun k => gelu (skip (tiles (m (c, main_arg3)) (i 0)) (fun k => m (c, main_arg5) (ix1 k)) (tiles (m (c, main_arg4)) (i 0)) k))
          (fun l k => m (c, main_arg6) (ix2 l k)) fun k => m (c, main_arg7) (ix1 k))
        fun k j => m (c, main_arg8) (ix2 k j))
      (fun l => m (c, main_arg0) (ix2 (i 0) l)) fun l => m (c, main_arg9) (ix2 3 l))
    (fun l => m (c, main_arg9) (ix2 4 l))
    (fun l k => m (c, main_arg10) (ix3 1 l k)) (fun l k => m (c, main_arg11) (ix3 1 l k))
    (fun k j => m (c, main_arg12) (ix3 1 k j)) (fun l => m (c, main_arg9) (ix2 5 l)) (i 1)

/-- The block each window stages at each point. -/
theorem idxA : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = t.val ∧ win0_3.index t 2 = 0)
    ∧ (win0_4.index t 0 = 1 ∧ win0_4.index t 1 = t.val ∧ win0_4.index t 2 = 0)
    ∧ (win0_5.index t 0 = 2 ∧ win0_5.index t 1 = t.val ∧ win0_5.index t 2 = 0)
    ∧ (win0_6.index t 0 = 3 ∧ win0_6.index t 1 = t.val ∧ win0_6.index t 2 = 0) :=
  (by decide +kernel : ∀ t : Fin grid0.N, _)

/-- The block each window stages at each point. -/
theorem idxB : ∀ t : Fin cfg0.N, (win0_7.index t 0 = 0 ∧ win0_7.index t 1 = t.val ∧ win0_7.index t 2 = 0)
    ∧ (win0_8.index t 0 = 1 ∧ win0_8.index t 1 = t.val ∧ win0_8.index t 2 = 0)
    ∧ (win0_9.index t 0 = 2 ∧ win0_9.index t 1 = t.val ∧ win0_9.index t 2 = 0)
    ∧ (win0_10.index t 0 = 3 ∧ win0_10.index t 1 = t.val ∧ win0_10.index t 2 = 0)
    ∧ (win0_11.index t 0 = 0 ∧ win0_11.index t 1 = 0 ∧ win0_11.index t 2 = 0)
    ∧ (win0_12.index t 0 = 0 ∧ win0_12.index t 1 = 0 ∧ win0_12.index t 2 = 0)
    ∧ (win0_13.index t 0 = 0 ∧ win0_13.index t 1 = 0 ∧ win0_13.index t 2 = 0) :=
  (by decide +kernel : ∀ t : Fin grid0.N, _)

/-- The block each window stages at each point. -/
theorem idxC : ∀ t : Fin cfg0.N, (win0_14.index t 0 = 0 ∧ win0_14.index t 1 = 0 ∧ win0_14.index t 2 = 0)
    ∧ (win0_15.index t 0 = 3 ∧ win0_15.index t 1 = 0 ∧ win0_15.index t 2 = 0)
    ∧ (win0_16.index t 0 = 4 ∧ win0_16.index t 1 = 0 ∧ win0_16.index t 2 = 0)
    ∧ (win0_17.index t 0 = 0 ∧ win0_17.index t 1 = 1 ∧ win0_17.index t 2 = 0 ∧ win0_17.index t 3 = 0)
    ∧ (win0_18.index t 0 = 0 ∧ win0_18.index t 1 = 1 ∧ win0_18.index t 2 = 0 ∧ win0_18.index t 3 = 0)
    ∧ (win0_19.index t 0 = 0 ∧ win0_19.index t 1 = 1 ∧ win0_19.index t 2 = 0 ∧ win0_19.index t 3 = 0)
    ∧ (win0_20.index t 0 = 5 ∧ win0_20.index t 1 = 0 ∧ win0_20.index t 2 = 0)
    ∧ (win0_21.index t 0 = t.val ∧ win0_21.index t 1 = 0) :=
  (by decide +kernel : ∀ t : Fin grid0.N, _)

/-- The token of row `r` of point `t`. -/
def row (t : Fin cfg0.N) (r : Fin 512) : Fin 16384 := ⟨t.val * 512 + r.val, by have h : t.val < 32 := t.isLt; omega⟩

theorem rd0 (c : Dev nD) (t : Fin cfg0.N) (r : Fin 512) (l : Fin 1024) :
    iblk m c 0 t (ix2 r l) = m (c, main_arg0) (ix2 (row t r) l) := by
  unfold row
  blk_point [iblk, V, idxA t]

theorem rd1 (c : Dev nD) (t : Fin cfg0.N) (r l : Fin 512) :
    iblk m c 1 t (ix2 r l) = m (c, main_arg1) (ix2 (row t r) l) := by
  unfold row
  blk_point [iblk, V, idxA t]

theorem rd2 (c : Dev nD) (t : Fin cfg0.N) (r l : Fin 512) :
    iblk m c 2 t (ix2 r l) = m (c, main_arg2) (ix2 (row t r) l) := by
  unfold row
  blk_point [iblk, V, idxA t]

theorem rd3 (c : Dev nD) (t : Fin cfg0.N) (r : Fin 512) (l : Fin 128) :
    iblk m c 3 t (ix3 0 r l) = m (c, main_arg3) (ix3 0 (row t r) l) := by
  unfold row
  blk_point [iblk, V, idxA t]

theorem rd4 (c : Dev nD) (t : Fin cfg0.N) (r : Fin 512) (l : Fin 128) :
    iblk m c 4 t (ix3 0 r l) = m (c, main_arg3) (ix3 1 (row t r) l) := by
  unfold row
  blk_point [iblk, V, idxA t]

theorem rd5 (c : Dev nD) (t : Fin cfg0.N) (r : Fin 512) (l : Fin 128) :
    iblk m c 5 t (ix3 0 r l) = m (c, main_arg3) (ix3 2 (row t r) l) := by
  unfold row
  blk_point [iblk, V, idxA t]

theorem rd6 (c : Dev nD) (t : Fin cfg0.N) (r : Fin 512) (l : Fin 128) :
    iblk m c 6 t (ix3 0 r l) = m (c, main_arg3) (ix3 3 (row t r) l) := by
  unfold row
  blk_point [iblk, V, idxA t]

theorem rd7 (c : Dev nD) (t : Fin cfg0.N) (r : Fin 512) (l : Fin 128) :
    iblk m c 7 t (ix3 0 r l) = m (c, main_arg4) (ix3 0 (row t r) l) := by
  unfold row
  blk_point [iblk, V, idxB t]

theorem rd8 (c : Dev nD) (t : Fin cfg0.N) (r : Fin 512) (l : Fin 128) :
    iblk m c 8 t (ix3 0 r l) = m (c, main_arg4) (ix3 1 (row t r) l) := by
  unfold row
  blk_point [iblk, V, idxB t]

theorem rd9 (c : Dev nD) (t : Fin cfg0.N) (r : Fin 512) (l : Fin 128) :
    iblk m c 9 t (ix3 0 r l) = m (c, main_arg4) (ix3 2 (row t r) l) := by
  unfold row
  blk_point [iblk, V, idxB t]

theorem rd10 (c : Dev nD) (t : Fin cfg0.N) (r : Fin 512) (l : Fin 128) :
    iblk m c 10 t (ix3 0 r l) = m (c, main_arg4) (ix3 3 (row t r) l) := by
  unfold row
  blk_point [iblk, V, idxB t]

theorem rd11 (c : Dev nD) (t : Fin cfg0.N) (l : Fin 512) :
    iblk m c 11 t (ix3 0 0 l) = m (c, main_arg5) (ix1 l) := by
  blk_point [iblk, V, idxB t]

theorem rd12 (c : Dev nD) (t : Fin cfg0.N) (k l : Fin 512) :
    iblk m c 12 t (ix3 0 k l) = m (c, main_arg6) (ix2 k l) := by
  blk_point [iblk, V, idxB t]

theorem rd13 (c : Dev nD) (t : Fin cfg0.N) (l : Fin 512) :
    iblk m c 13 t (ix3 0 0 l) = m (c, main_arg7) (ix1 l) := by
  blk_point [iblk, V, idxB t]

theorem rd14 (c : Dev nD) (t : Fin cfg0.N) (k : Fin 1536) (l : Fin 1024) :
    iblk m c 14 t (ix3 0 k l) = m (c, main_arg8) (ix2 k l) := by
  blk_point [iblk, V, idxC t]

theorem rd15 (c : Dev nD) (t : Fin cfg0.N) (l : Fin 1024) :
    iblk m c 15 t (ix3 0 0 l) = m (c, main_arg9) (ix2 3 l) := by
  blk_point [iblk, V, idxC t]

theorem rd16 (c : Dev nD) (t : Fin cfg0.N) (l : Fin 1024) :
    iblk m c 16 t (ix3 0 0 l) = m (c, main_arg9) (ix2 4 l) := by
  blk_point [iblk, V, idxC t]

theorem rd20 (c : Dev nD) (t : Fin cfg0.N) (l : Fin 1024) :
    iblk m c 20 t (ix3 0 0 l) = m (c, main_arg9) (ix2 5 l) := by
  blk_point [iblk, V, idxC t]

theorem rd17 (c : Dev nD) (t : Fin cfg0.N) (l : Fin 1024) (k : Fin 2816) :
    iblk m c 17 t (ix4 0 0 l k) = m (c, main_arg10) (ix3 1 l k) := by
  blk_point [iblk, V, idxC t]

theorem rd18 (c : Dev nD) (t : Fin cfg0.N) (l : Fin 1024) (k : Fin 2816) :
    iblk m c 18 t (ix4 0 0 l k) = m (c, main_arg11) (ix3 1 l k) := by
  blk_point [iblk, V, idxC t]

theorem rd19 (c : Dev nD) (t : Fin cfg0.N) (k : Fin 2816) (l : Fin 1024) :
    iblk m c 19 t (ix4 0 0 k l) = m (c, main_arg12) (ix3 1 k l) := by
  blk_point [iblk, V, idxC t]

theorem G_at (c : Dev nD) (n : Fin 16384) (j : Fin 1024) : G m c (ix2 n j) =
  ffn (proj (mix (fun k => m (c, main_arg1) (ix2 n k)) (fun k => m (c, main_arg2) (ix2 n k))
        (glu (fun k => gelu (skip (tiles (m (c, main_arg3)) n) (fun k => m (c, main_arg5) (ix1 k)) (tiles (m (c, main_arg4)) n) k))
          (fun l k => m (c, main_arg6) (ix2 l k)) fun k => m (c, main_arg7) (ix1 k))
        fun k j => m (c, main_arg8) (ix2 k j))
      (fun l => m (c, main_arg0) (ix2 n l)) fun l => m (c, main_arg9) (ix2 3 l))
    (fun l => m (c, main_arg9) (ix2 4 l))
    (fun l k => m (c, main_arg10) (ix3 1 l k)) (fun l k => m (c, main_arg11) (ix3 1 l k))
    (fun k j => m (c, main_arg12) (ix3 1 k j)) (fun l => m (c, main_arg9) (ix2 5 l)) j := rfl

theorem emb_at (f : S16384x1024.Idx → EReal) (t : Fin cfg0.N) (r : Fin 512) (j : Fin 1024) :
    f (((View.whole main_v13).slice (win0_21.rect t)).emb (ix2 r j)) = f (ix2 (row t r) j) := by
  unfold row
  blk_point [idxC t]

theorem arr (c : Dev nD) : (dats m 0 c).arrAt 21 cfg0.N = G m c := by
  refine (dats m 0 c).arrAt_eq_of_covers 21 _ (by decide +kernel) fun t hf y => ?_
  blk_simp
  rw [after0_21]
  unfold_out out0_21
  frame_out
  obtain ⟨r, j, rfl⟩ : ∃ r j, y = ix2 (n0 := 512) (n1 := 1024) r j := ⟨_, _, eq_ix2 y⟩
  rw [body_at]
  simp only [pay_at]
  rw [emb_at (G m c), G_at]
  unfold tiles lane
  simp only [rd0, rd1, rd2, rd3, rd4, rd5, rd6, rd7, rd8, rd9, rd10, rd11, rd12, rd13, rd14, rd15, rd16, rd17, rd18, rd19,
    rd20]

end Cert.Out

end
-- ==== Proof.Out.Ref.lean ====
/- What the reference of the output projection call computes, row by row. -/
module

public import proofs.«01_k».proof.Proof.Out.Row
public import proofs.«01_k».proof.Proof.Gen.Reference3Ideal.Read

@[expose] public section

set_option maxRecDepth 16384

noncomputable section

namespace Cert.Out

open Idealize.ShloMosaic Cert.Ffn

/-- The token's S5 row, of the four tiles side by side, lane by lane. -/
def flat (y : (⟨3, ![4, 16384, 128]⟩ : Shape).Idx → EReal) (n : Fin 16384) (k : Fin 512) : EReal :=
  y (ix3 ⟨k.val / 128, by omega⟩ n ⟨k.val % 128, by omega⟩)

/-- A sum over the three mixers' rows is the three sums. -/
theorem sum_three (f : Fin 1536 → EReal) : (∑ k, f k) = (∑ k : Fin 512, f ⟨k, by omega⟩) + (∑ k : Fin 512, f ⟨512 + k, by omega⟩)
    + ∑ k : Fin 512, f ⟨1024 + k, by omega⟩ := by
  rw [show (∑ k, f k) = ∑ k : Fin (1024 + 512), f (Fin.cast rfl k) from rfl, Fin.sum_univ_add,
    show (∑ i : Fin 1024, f (Fin.cast rfl (Fin.castAdd 512 i))) = ∑ k : Fin (512 + 512), f ⟨k, by omega⟩ from rfl, Fin.sum_univ_add]
  rfl

namespace Ref

open Cert.Reference3Ideal Cert.Reference3Ideal.Read

variable (x0 : (⟨S16384x1024, .f32⟩ : BufTy).Contents (Elt Ideal)) (x1 x2 : (⟨S16384x512, .bf16⟩ : BufTy).Contents (Elt Ideal))
  (x3 x4 : (⟨S4x16384x128, .f32⟩ : BufTy).Contents (Elt Ideal)) (x5 : (⟨S512, .f32⟩ : BufTy).Contents (Elt Ideal))
  (x6 : (⟨S512x512, .f32⟩ : BufTy).Contents (Elt Ideal)) (x7 : (⟨S512, .f32⟩ : BufTy).Contents (Elt Ideal))
  (x8 : (⟨S1536x1024, .f32⟩ : BufTy).Contents (Elt Ideal)) (x9 : (⟨S6x1024, .f32⟩ : BufTy).Contents (Elt Ideal))
  (x10 x11 : (⟨S2x1024x2816, .f32⟩ : BufTy).Contents (Elt Ideal)) (x12 : (⟨S2x2816x1024, .f32⟩ : BufTy).Contents (Elt Ideal))

theorem skip_apply (n : Fin 16384) (k : Fin 512) :
    val_main_v7 x3 x4 x5 (ix2 n k) = skip (flat x3 n) (fun k => x5 (ix1 k)) (flat x4 n) k := by
  unfold val_main_v7 val_main_v6 val_main_v5 val_main_v4 val_main_v3 val_main_v2 val_main_v1 val_main_v0 skip flat
  pointwise

theorem gelu_apply (n : Fin 16384) (k : Fin 512) : val_main_v20 x3 x4 x5 (ix2 n k) = gelu (val_main_v7 x3 x4 x5 (ix2 n k)) := by
  unfold val_main_v20 val_main_v19 val_main_v18 val_main_v17 val_main_v16 val_main_v15 val_main_v14 val_main_v13 val_main_v12
    val_main_v11 val_main_v10 val_main_v9 val_main_v8 val_main_cst val_main_cst_0 val_main_cst_1 val_main_cst_2 gelu
  generalize val_main_v7 x3 x4 x5 = y
  pointwise
  rw [mul_comm (y (ix2 n k) * y (ix2 n k))]

theorem glu_apply (n : Fin 16384) (k : Fin 512) : val_main_v31 x3 x4 x5 x6 x7 (ix2 n k)
    = glu (fun k => val_main_v20 x3 x4 x5 (ix2 n k)) (fun l k => x6 (ix2 l k)) (fun k => x7 (ix1 k)) k := by
  unfold val_main_v31 val_main_v30 val_main_v29 val_main_v28 val_main_v27 val_main_v26 val_main_v25 val_main_v24 val_main_v23
    val_main_v22 val_main_v21 val_main_cst_3 val_main_cst_4
  generalize val_main_v20 x3 x4 x5 = y
  pointwise
  rfl

theorem cat_lo (n : Fin 16384) (k : Fin 512) : val_main_v34 x1 x2 x3 x4 x5 x6 x7 (ix2 n ⟨k, by omega⟩) = x1 (ix2 n k) := by
  unfold val_main_v34 val_main_v32 val_main_v33
  generalize val_main_v31 x3 x4 x5 x6 x7 = y
  pointwise

theorem cat_mid (n : Fin 16384) (k : Fin 512) : val_main_v34 x1 x2 x3 x4 x5 x6 x7 (ix2 n ⟨512 + k, by omega⟩) = x2 (ix2 n k) := by
  unfold val_main_v34 val_main_v32 val_main_v33
  generalize val_main_v31 x3 x4 x5 x6 x7 = y
  pointwise

theorem cat_hi (n : Fin 16384) (k : Fin 512) :
    val_main_v34 x1 x2 x3 x4 x5 x6 x7 (ix2 n ⟨1024 + k, by omega⟩) = val_main_v31 x3 x4 x5 x6 x7 (ix2 n k) := by
  unfold val_main_v34 val_main_v32 val_main_v33
  generalize val_main_v31 x3 x4 x5 x6 x7 = y
  pointwise
  have e : (⟨1024 + k.val - 512 - 512, by omega⟩ : Fin 512) = k := Fin.ext (by show 1024 + k.val - 512 - 512 = k.val; omega)
  rw [dif_neg (by omega), dif_neg (by omega), e]

theorem mix_apply (n : Fin 16384) (j : Fin 1024) : val_main_v35 x1 x2 x3 x4 x5 x6 x7 x8 (ix2 n j)
    = mix (fun k => x1 (ix2 n k)) (fun k => x2 (ix2 n k)) (fun k => val_main_v31 x3 x4 x5 x6 x7 (ix2 n k))
        (fun k j => x8 (ix2 k j)) j := by
  have e : val_main_v35 x1 x2 x3 x4 x5 x6 x7 x8 (ix2 n j)
      = ∑ k : Fin 1536, val_main_v34 x1 x2 x3 x4 x5 x6 x7 (ix2 n k) * x8 (ix2 k j) := by
    unfold val_main_v35
    generalize val_main_v34 x1 x2 x3 x4 x5 x6 x7 = y
    pointwise
  rw [e, sum_three]
  simp only [cat_lo, cat_mid, cat_hi]
  rfl

theorem proj_apply (n : Fin 16384) (j : Fin 1024) : val_main_v51 x0 x1 x2 x3 x4 x5 x6 x7 x8 x9 (ix2 n j)
    = x0 (ix2 n j) + rms (fun l => val_main_v35 x1 x2 x3 x4 x5 x6 x7 x8 (ix2 n l)) (fun l => x9 (ix2 3 l)) j := by
  unfold val_main_v51 val_main_v50 val_main_v49 val_main_v48 val_main_v47 val_main_v46 val_main_v45 val_main_v44 val_main_v43
    val_main_v42 val_main_v41 val_main_v40 val_main_v39 val_main_v38 val_main_v37 val_main_v36 val_main_cst_5 val_main_cst_6
    val_main_cst_7
  generalize val_main_v35 x1 x2 x3 x4 x5 x6 x7 x8 = y
  pointwise
  rfl

theorem norm_apply (n : Fin 16384) (l : Fin 1024) : val_main_v66 x0 x1 x2 x3 x4 x5 x6 x7 x8 x9 (ix2 n l)
    = rms (fun l => val_main_v51 x0 x1 x2 x3 x4 x5 x6 x7 x8 x9 (ix2 n l)) (fun l => x9 (ix2 4 l)) l := by
  unfold val_main_v66 val_main_v65 val_main_v64 val_main_v63 val_main_v62 val_main_v61 val_main_v60 val_main_v59 val_main_v58
    val_main_v57 val_main_v56 val_main_v55 val_main_v54 val_main_v53 val_main_v52 val_main_cst_8 val_main_cst_9 val_main_cst_10
  generalize val_main_v51 x0 x1 x2 x3 x4 x5 x6 x7 x8 x9 = y
  pointwise
  rfl

theorem act_apply (n : Fin 16384) (k : Fin 2816) : val_main_v76 x0 x1 x2 x3 x4 x5 x6 x7 x8 x9 x10 x11 (ix2 n k)
    = act (fun l => val_main_v66 x0 x1 x2 x3 x4 x5 x6 x7 x8 x9 (ix2 n l)) (fun l k => x10 (ix3 1 l k))
        (fun l k => x11 (ix3 1 l k)) k := by
  unfold val_main_v76 val_main_v75 val_main_v74 val_main_call0_v5 val_main_call0_v4 val_main_call0_v3 val_main_call0_v2
    val_main_call0_v1 val_main_call0_v0 val_main_call0_cst val_main_call0_cst_0 val_main_v73 val_main_v70 val_main_v69
    val_main_v68 val_main_v67
  generalize val_main_v66 x0 x1 x2 x3 x4 x5 x6 x7 x8 x9 = y
  pointwise
  rfl

theorem out_apply (n : Fin 16384) (j : Fin 1024) : val_main_v95 x0 x1 x2 x3 x4 x5 x6 x7 x8 x9 x10 x11 x12 (ix2 n j)
    = val_main_v51 x0 x1 x2 x3 x4 x5 x6 x7 x8 x9 (ix2 n j) + Ideal.ofBits .f32 0x3F000000#32
        * rms (down (fun k => val_main_v76 x0 x1 x2 x3 x4 x5 x6 x7 x8 x9 x10 x11 (ix2 n k)) fun k j => x12 (ix3 1 k j))
            (fun l => x9 (ix2 5 l)) j := by
  unfold val_main_v95 val_main_v94 val_main_v93 val_main_v92 val_main_v91 val_main_v90 val_main_v89 val_main_v88 val_main_v87
    val_main_v86 val_main_v85 val_main_v84 val_main_v83 val_main_v82 val_main_v81 val_main_v80 val_main_v79 val_main_v78
    val_main_v77 val_main_v72 val_main_v71 val_main_cst_11 val_main_cst_12 val_main_cst_13 val_main_cst_14
  generalize val_main_v76 x0 x1 x2 x3 x4 x5 x6 x7 x8 x9 x10 x11 = y
  generalize val_main_v51 x0 x1 x2 x3 x4 x5 x6 x7 x8 x9 = z
  pointwise
  rfl

theorem ref_apply (n : Fin 16384) (j : Fin 1024) : val_main_v95 x0 x1 x2 x3 x4 x5 x6 x7 x8 x9 x10 x11 x12 (ix2 n j)
    = ffn (fun l => x0 (ix2 n l) + rms (mix (fun k => x1 (ix2 n k)) (fun k => x2 (ix2 n k))
        (glu (fun k => gelu (skip (flat x3 n) (fun k => x5 (ix1 k)) (flat x4 n) k))
          (fun l k => x6 (ix2 l k)) fun k => x7 (ix1 k))
        fun k j => x8 (ix2 k j)) (fun l => x9 (ix2 3 l)) l)
      (fun l => x9 (ix2 4 l)) (fun l k => x10 (ix3 1 l k)) (fun l k => x11 (ix3 1 l k)) (fun k j => x12 (ix3 1 k j))
      (fun l => x9 (ix2 5 l)) j := by
  rw [out_apply]
  simp only [act_apply, norm_apply, proj_apply, mix_apply, glu_apply, gelu_apply, skip_apply]
  rfl

end Ref

end Cert.Out

end
-- ==== Proof.Out.Claim.lean ====
/- The claims about the output projection call. -/
module

public import proofs.«01_k».proof.Defs
public import proofs.«01_k».proof.Proof.Out.Arr
public import proofs.«01_k».proof.Proof.Out.Ref
public import proofs.«01_k».proof.Proof.Gen.Kernel3Ideal
public import proofs.«01_k».proof.Proof.Gen.Reference3Ideal

@[expose] public section

set_option maxRecDepth 16384

noncomputable section

namespace Cert.Out

open Idealize.ShloMosaic Idealize.ShloMosaic.TcCoe Idealize.SL.Sem

/-- The reference declares no semaphore, so every family of counters is the zero one. -/
theorem no_counter (f : GSem Cert.Reference3Ideal.nD Cert.Reference3Ideal.τ Cert.Reference3Ideal.sig → Int) : f = fun _ => 0 := by
  funext g
  rcases g with ⟨_, s | s⟩
  · exact s.elim0
  · exact s.elim0

theorem ref_frame : Cert.quiescent_Reference3Ideal := fun m ρ _ =>
  (θ_run _ _ _).mono (fun r h => ⟨fun c => (h c).2, no_counter r.2.sem⟩) (Cert.Reference3Ideal.Value.run m ρ)

theorem tiles_eq (y : (⟨3, ![4, 16384, 128]⟩ : Shape).Idx → EReal) (n : Fin 16384) : flat y n = tiles y n := by
  funext k
  unfold flat tiles pick
  split_ifs <;> refine congrArg y ?_ <;> congr 1 <;> refine Fin.ext ?_ <;> simp <;> omega

/-- The two arrays are one function of the arguments. -/
theorem same (m : (ℓ : Loc Cert.Kernel3Ideal.nD Cert.Kernel3Ideal.τ Cert.Kernel3Ideal.sig) → Buf (Elt Ideal) ℓ)
    (c : Dev Cert.Kernel3Ideal.nD) :
    Cert.Reference3Ideal.Read.val_main_v95 (F := Ideal) (m (c, Cert.Kernel3Ideal.main_arg0)) (m (c, Cert.Kernel3Ideal.main_arg1)) (m (c, Cert.Kernel3Ideal.main_arg2)) (m (c, Cert.Kernel3Ideal.main_arg3)) (m (c, Cert.Kernel3Ideal.main_arg4)) (m (c, Cert.Kernel3Ideal.main_arg5)) (m (c, Cert.Kernel3Ideal.main_arg6)) (m (c, Cert.Kernel3Ideal.main_arg7)) (m (c, Cert.Kernel3Ideal.main_arg8)) (m (c, Cert.Kernel3Ideal.main_arg9)) (m (c, Cert.Kernel3Ideal.main_arg10)) (m (c, Cert.Kernel3Ideal.main_arg11)) (m (c, Cert.Kernel3Ideal.main_arg12)) = G m c := by
  funext i
  obtain ⟨n, j, rfl⟩ : ∃ n j, i = ix2 (n0 := 16384) (n1 := 1024) n j := ⟨_, _, eq_ix2 i⟩
  refine (Ref.ref_apply _ _ _ _ _ _ _ _ _ _ _ _ _ n j).trans ?_
  rw [tiles_eq, tiles_eq]
  rfl

theorem value : Cert.algebraic_Kernel3Ideal_Reference3Ideal := by
  intro m g m' g' _ hm
  refine ⟨fun c => G m c, ?_, ?_⟩
  · refine (θ_run _ _ _).mono (fun r h c => ?_) (Cert.Kernel3Ideal.Value.run_blocks m g)
    exact ⟨(h c).1.trans (arr m c), (h c).2⟩
  · refine (θ_run _ _ _).mono (fun r h c => ?_) (Cert.Reference3Ideal.Value.run m' g')
    refine ⟨(h c).1.trans ?_, (h c).2⟩
    clear h
    replace hm := hm c
    obtain ⟨h0, h1, h2, h3, h4, h5, h6, h7, h8, h9, h10, h11, h12⟩ := hm
    rw [Cert.Reference3Ideal.Read.val_main_v95_eq]
    change Cert.Reference3Ideal.Read.val_main_v95 (F := Ideal) (m' (c, Cert.Reference3Ideal.main_arg0)) (m' (c, Cert.Reference3Ideal.main_arg1)) (m' (c, Cert.Reference3Ideal.main_arg2)) (m' (c, Cert.Reference3Ideal.main_arg3)) (m' (c, Cert.Reference3Ideal.main_arg4)) (m' (c, Cert.Reference3Ideal.main_arg5)) (m' (c, Cert.Reference3Ideal.main_arg6)) (m' (c, Cert.Reference3Ideal.main_arg7)) (m' (c, Cert.Reference3Ideal.main_arg8)) (m' (c, Cert.Reference3Ideal.main_arg9)) (m' (c, Cert.Reference3Ideal.main_arg10)) (m' (c, Cert.Reference3Ideal.main_arg11)) (m' (c, Cert.Reference3Ideal.main_arg12)) = _
    rw [h0, h1, h2, h3, h4, h5, h6, h7, h8, h9, h10, h11, h12]
    exact same m c

end Cert.Out

end
-- ==== Proof.Inp.Row.lean ====
/- A row of the input projection over the extended reals. -/
module

public import proofs.«01_k».proof.Proof.Ffn.Row

@[expose] public section

noncomputable section

namespace Cert.Inp

open Idealize.ShloMosaic Cert.Ffn

/-- One element of the projection of the normalised row `x`, by the column `w`. -/
def lin (x g w : Fin 1024 → EReal) : EReal := ∑ l, rms x g l * w l

/-- A column of zeros projects to zero. -/
theorem lin_zero (x g : Fin 1024 → EReal) : lin x g (fun _ => 0) = 0 := by
  unfold lin
  simp

end Cert.Inp

end
-- ==== Proof.Inp.Pay.lean ====
/- What one grid point of the input projection call computes, row by row. -/
module

public import proofs.«01_k».proof.Proof.Inp.Row
public import proofs.«01_k».proof.Proof.Gen.Kernel4Ideal.Frame
public import Idealize.ShloMosaic.Lib.Pipeline.ValueKit

@[expose] public section

set_option maxRecDepth 16384

noncomputable section

namespace Cert.Inp

open Idealize.ShloMosaic Cert.Kernel4Ideal Cert.Kernel4Ideal.Gen Cert.Ffn

theorem pay7_apply (v0 : Vec Ideal S512x1024 .f32) (v1 : Vec Ideal S1x1x1024 .f32) (r : Fin 512) (l : Fin 1024) :
    k0_pay7 v0 v1 (ix2 r l) = rms (fun l => v0 (ix2 r l)) (fun l => v1 (ix3 0 0 l)) l := by
  unfold k0_pay7
  pointwise
  rfl

theorem pay8_apply (v0 : Vec Ideal S512x1024 .f32) (v1 : Vec Ideal S1x1x1024 .f32) (v16 : Vec Ideal S1x1024x2048 .bf16)
    (r : Fin 512) (j : Fin 2048) :
    k0_pay8 v0 v1 v16 (ix2 r j) = lin (fun l => v0 (ix2 r l)) (fun l => v1 (ix3 0 0 l)) fun l => v16 (ix3 0 l j) := by
  unfold k0_pay8 lin
  simp only [← pay7_apply v0 v1]
  generalize k0_pay7 v0 v1 = y
  pointwise

theorem pay9_apply (v0 : Vec Ideal S512x1024 .f32) (v1 : Vec Ideal S1x1x1024 .f32) (v16 : Vec Ideal S1x1024x512 .bf16)
    (r : Fin 512) (j : Fin 512) :
    k0_pay9 v0 v1 v16 (ix2 r j) = lin (fun l => v0 (ix2 r l)) (fun l => v1 (ix3 0 0 l)) fun l => v16 (ix3 0 l j) := by
  unfold k0_pay9 lin
  simp only [← pay7_apply v0 v1]
  generalize k0_pay7 v0 v1 = y
  pointwise

theorem pay10_apply (v0 : Vec Ideal S512x1024 .f32) (v1 : Vec Ideal S1x1x1024 .f32) (v16 : Vec Ideal S1x1024x1024 .bf16)
    (r : Fin 512) (j : Fin 1024) :
    k0_pay10 v0 v1 v16 (ix2 r j) = lin (fun l => v0 (ix2 r l)) (fun l => v1 (ix3 0 0 l)) fun l => v16 (ix3 0 l j) := by
  unfold k0_pay10 lin
  simp only [← pay7_apply v0 v1]
  generalize k0_pay7 v0 v1 = y
  pointwise

theorem pay6_apply (v15 : FVec Ideal S512x1024 .bf16) (v47 : Vec Ideal S1x1024x128 .bf16) (r : Fin 512) (j : Fin 128) :
    k0_pay6 v15 v47 (ix2 r j) = ∑ l, v15 (ix2 r l) * v47 (ix3 0 l j) := by
  unfold k0_pay6
  pointwise

theorem pay1_apply (v15 : FVec Ideal S512x1024 .bf16) (v28 : Vec Ideal S1x1024x512 .bf16) (r j : Fin 512) :
    k0_pay1 v15 v28 (ix2 r j) = ∑ l, v15 (ix2 r l) * v28 (ix3 0 l j) := by
  unfold k0_pay1
  pointwise

theorem pay2_apply (v15 : FVec Ideal S512x1024 .bf16) (v28 : Vec Ideal S1x1024x512 .bf16) (r : Fin 512) (j : Fin 128) :
    k0_pay2 v15 v28 (ix3 0 r j) = k0_pay1 v15 v28 (ix2 r ⟨j, by omega⟩) := by
  unfold k0_pay2
  generalize k0_pay1 v15 v28 = y
  pointwise

theorem pay3_apply (v15 : FVec Ideal S512x1024 .bf16) (v28 : Vec Ideal S1x1024x512 .bf16) (r : Fin 512) (j : Fin 128) :
    k0_pay3 v15 v28 (ix3 0 r j) = k0_pay1 v15 v28 (ix2 r ⟨128 + j, by omega⟩) := by
  unfold k0_pay3
  generalize k0_pay1 v15 v28 = y
  pointwise

theorem pay4_apply (v15 : FVec Ideal S512x1024 .bf16) (v28 : Vec Ideal S1x1024x512 .bf16) (r : Fin 512) (j : Fin 128) :
    k0_pay4 v15 v28 (ix3 0 r j) = k0_pay1 v15 v28 (ix2 r ⟨256 + j, by omega⟩) := by
  unfold k0_pay4
  generalize k0_pay1 v15 v28 = y
  pointwise

theorem pay5_apply (v15 : FVec Ideal S512x1024 .bf16) (v28 : Vec Ideal S1x1024x512 .bf16) (r : Fin 512) (j : Fin 128) :
    k0_pay5 v15 v28 (ix3 0 r j) = k0_pay1 v15 v28 (ix2 r ⟨384 + j, by omega⟩) := by
  unfold k0_pay5
  generalize k0_pay1 v15 v28 = y
  pointwise

end Cert.Inp

end
-- ==== Proof.Inp.Arr.lean ====
/- The arrays that the input projection call leaves. -/
module

public import proofs.«01_k».proof.Proof.Inp.Pay
public import proofs.«01_k».proof.Proof.Gen.Kernel4Ideal.Value
public import Idealize.ShloMosaic.Lib.StableHlo.RunRead

@[expose] public section

set_option maxRecDepth 16384

noncomputable section

namespace Cert.Inp

open Idealize.ShloMosaic Idealize.ShloMosaic.TcCoe Idealize.SL.Sem Cert.Kernel4Ideal Cert.Kernel4Ideal.Gen Cert.Ffn

theorem ld2 (x : Vec Ideal S1x1024x4104 .bf16) (l : Fin 1024) (k : Fin 2048) :
    View.ld x r0_2 (ix3 0 l k) = x (ix3 0 l ⟨k, by omega⟩) := by
  pointwise

theorem ld4 (x : Vec Ideal S1x1024x4104 .bf16) (l : Fin 1024) (k : Fin 512) :
    View.ld x r0_4 (ix3 0 l k) = x (ix3 0 l ⟨2048 + k, by omega⟩) := by
  pointwise

theorem ld6 (x : Vec Ideal S1x1024x4104 .bf16) (l : Fin 1024) (k : Fin 1024) :
    View.ld x r0_6 (ix3 0 l k) = x (ix3 0 l ⟨2560 + k, by omega⟩) := by
  pointwise

theorem ld7 (x : Vec Ideal S1x1024x640 .bf16) (l : Fin 1024) (k : Fin 512) :
    View.ld x r0_7 (ix3 0 l k) = x (ix3 0 l ⟨k, by omega⟩) := by
  pointwise

theorem ld12 (x : Vec Ideal S1x1024x640 .bf16) (l : Fin 1024) (k : Fin 128) :
    View.ld x r0_12 (ix3 0 l k) = x (ix3 0 l ⟨512 + k, by omega⟩) := by
  pointwise

theorem at4 (x0 : Vec Ideal S512x1024 .f32) (x1 : Vec Ideal S1x1x1024 .f32) (x2 : Vec Ideal S1x1024x4104 .bf16)
    (r : Fin 512) (j : Fin 2048) : k0_pay8 x0 x1 (View.ld x2 r0_2) (ix2 r j)
      = lin (fun l => x0 (ix2 r l)) (fun l => x1 (ix3 0 0 l)) fun l => x2 (ix3 0 l ⟨j, by omega⟩) :=
  (pay8_apply _ _ _ r j).trans (congrArg _ (funext fun l => ld2 x2 l j))

theorem at6 (x0 : Vec Ideal S512x1024 .f32) (x1 : Vec Ideal S1x1x1024 .f32) (x2 : Vec Ideal S1x1024x4104 .bf16)
    (r : Fin 512) (j : Fin 512) : k0_pay9 x0 x1 (View.ld x2 r0_4) (ix2 r j)
      = lin (fun l => x0 (ix2 r l)) (fun l => x1 (ix3 0 0 l)) fun l => x2 (ix3 0 l ⟨2048 + j, by omega⟩) :=
  (pay9_apply _ _ _ r j).trans (congrArg _ (funext fun l => ld4 x2 l j))

theorem at5 (x0 : Vec Ideal S512x1024 .f32) (x1 : Vec Ideal S1x1x1024 .f32) (x2 : Vec Ideal S1x1024x4104 .bf16)
    (r : Fin 512) (j : Fin 1024) : k0_pay10 x0 x1 (View.ld x2 r0_6) (ix2 r j)
      = lin (fun l => x0 (ix2 r l)) (fun l => x1 (ix3 0 0 l)) fun l => x2 (ix3 0 l ⟨2560 + j, by omega⟩) :=
  (pay10_apply _ _ _ r j).trans (congrArg _ (funext fun l => ld6 x2 l j))

theorem tile (x0 : Vec Ideal S512x1024 .f32) (x1 : Vec Ideal S1x1x1024 .f32) (x3 : Vec Ideal S1x1024x640 .bf16)
    (r j : Fin 512) : k0_pay1 (k0_pay7 x0 x1) (View.ld x3 r0_7) (ix2 r j)
      = lin (fun l => x0 (ix2 r l)) (fun l => x1 (ix3 0 0 l)) fun l => x3 (ix3 0 l ⟨j, by omega⟩) := by
  rw [pay1_apply]
  simp only [pay7_apply]
  exact Finset.sum_congr rfl fun l _ => congrArg _ (ld7 x3 l j)

theorem at8 (x0 : Vec Ideal S512x1024 .f32) (x1 : Vec Ideal S1x1x1024 .f32) (x3 : Vec Ideal S1x1024x640 .bf16)
    (r : Fin 512) (j : Fin 128) : k0_pay6 (k0_pay7 x0 x1) (View.ld x3 r0_12) (ix2 r j)
      = lin (fun l => x0 (ix2 r l)) (fun l => x1 (ix3 0 0 l)) fun l => x3 (ix3 0 l ⟨512 + j, by omega⟩) := by
  rw [pay6_apply]
  simp only [pay7_apply]
  exact Finset.sum_congr rfl fun l _ => congrArg _ (ld12 x3 l j)

theorem at7 (x0 : Vec Ideal S512x1024 .f32) (x1 : Vec Ideal S1x1x1024 .f32) (x2 : Vec Ideal S1x1024x4104 .bf16)
    (x3 : Vec Ideal S1x1024x640 .bf16) (q : Fin 4) (r : Fin 512) (j : Fin 128) : out0_7 x0 x1 x2 x3 (ix3 q r j)
      = lin (fun l => x0 (ix2 r l)) (fun l => x1 (ix3 0 0 l)) fun l => x3 (ix3 0 l ⟨q.val * 128 + j.val, by omega⟩) := by
  unfold_out out0_7
  frame_out
  canon_tiles x h
  · obtain ⟨a, b, d, rfl⟩ : ∃ a b d, x = ix3 (n0 := 1) (n1 := 512) (n2 := 128) a b d := ⟨_, _, _, eq_ix3 x⟩
    change q.val = 3 + a.val at h0
    change r.val = b.val at h1
    change j.val = d.val at h2
    obtain rfl : r = b := Fin.ext h1
    obtain rfl : j = d := Fin.ext h2
    obtain rfl : a = 0 := Subsingleton.elim _ _
    obtain rfl : q = 3 := Fin.ext h0
    rw [pay5_apply, tile]
    rfl
  · obtain ⟨a, b, d, rfl⟩ : ∃ a b d, x = ix3 (n0 := 1) (n1 := 512) (n2 := 128) a b d := ⟨_, _, _, eq_ix3 x⟩
    change q.val = 2 + a.val at h0
    change r.val = b.val at h1
    change j.val = d.val at h2
    obtain rfl : r = b := Fin.ext h1
    obtain rfl : j = d := Fin.ext h2
    obtain rfl : a = 0 := Subsingleton.elim _ _
    obtain rfl : q = 2 := Fin.ext h0
    rw [pay4_apply, tile]
    rfl
  · obtain ⟨a, b, d, rfl⟩ : ∃ a b d, x = ix3 (n0 := 1) (n1 := 512) (n2 := 128) a b d := ⟨_, _, _, eq_ix3 x⟩
    change q.val = 1 + a.val at h0
    change r.val = b.val at h1
    change j.val = d.val at h2
    obtain rfl : r = b := Fin.ext h1
    obtain rfl : j = d := Fin.ext h2
    obtain rfl : a = 0 := Subsingleton.elim _ _
    obtain rfl : q = 1 := Fin.ext h0
    rw [pay3_apply, tile]
    rfl
  · obtain ⟨a, b, d, rfl⟩ : ∃ a b d, x = ix3 (n0 := 1) (n1 := 512) (n2 := 128) a b d := ⟨_, _, _, eq_ix3 x⟩
    change q.val = a.val at h0
    change r.val = b.val at h1
    change j.val = d.val at h2
    obtain rfl : r = b := Fin.ext h1
    obtain rfl : j = d := Fin.ext h2
    obtain rfl : a = 0 := Subsingleton.elim _ _
    obtain rfl : q = 0 := Fin.ext h0
    rw [pay2_apply, tile]
    simp

variable (m : (ℓ : Loc nD τ sig) → Buf (Elt Ideal) ℓ)

/-- The token of row `r` of point `t`. -/
def row (t : Fin cfg0.N) (r : Fin 512) : Fin 16384 := ⟨t.val * 512 + r.val, by have h : t.val < 32 := t.isLt; omega⟩

/-- One element of a token's projection. -/
def at_ (c : Dev nD) (n : Fin 16384) (k : Fin 4104) : EReal :=
  lin (fun l => m (c, main_arg0) (ix2 n l)) (fun l => m (c, main_arg1) (ix2 2 l)) fun l => m (c, main_arg2) (ix2 l k)

/-- The block each window stages at each point. -/
theorem idx : ∀ t : Fin cfg0.N, (win0_0.index t 0 = t.val ∧ win0_0.index t 1 = 0)
    ∧ (win0_1.index t 0 = 2 ∧ win0_1.index t 1 = 0 ∧ win0_1.index t 2 = 0)
    ∧ (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = t.val ∧ win0_7.index t 2 = 0)
    ∧ (win0_8.index t 0 = t.val ∧ win0_8.index t 1 = 0) :=
  (by decide +kernel : ∀ t : Fin grid0.N, _)

theorem rd0 (c : Dev nD) (t : Fin cfg0.N) (r : Fin 512) (l : Fin 1024) :
    iblk m c 0 t (ix2 r l) = m (c, main_arg0) (ix2 (row t r) l) := by
  unfold row
  blk_point [iblk, V, idx t]

theorem rd1 (c : Dev nD) (t : Fin cfg0.N) (l : Fin 1024) :
    iblk m c 1 t (ix3 0 0 l) = m (c, main_arg1) (ix2 2 l) := by
  blk_point [iblk, V, idx t]

theorem rd2 (c : Dev nD) (t : Fin cfg0.N) (l : Fin 1024) (k : Fin 4104) :
    iblk m c 2 t (ix3 0 l k) = m (c, main_arg2) (ix2 l k) := by
  blk_point [iblk, V, idx t]

/-- The weights' last columns as the host lays them out for the call. -/
def tailOf (w : (⟨S1024x4104, .f32⟩ : BufTy).Contents (Elt Ideal)) : (⟨S1x1024x640, .bf16⟩ : BufTy).Contents (Elt Ideal) :=
  concatenate S1x1024x640 2
    [⟨S1x1024x512, extractStridedSlice S1x1024x512 ![0, 0, 3592] (truncf (F := Ideal) .bf16
        (broadcastInDim S1x1024x4104 ![1, 2] bcast_S1024x4104_S1x1024x4104_1_2 w) bitsLt_bf16_f32) slices_S1x1024x4104_S1x1024x512_0_0_3592⟩,
     ⟨S1x1024x8, extractStridedSlice S1x1024x8 ![0, 0, 3584] (truncf (F := Ideal) .bf16
        (broadcastInDim S1x1024x4104 ![1, 2] bcast_S1024x4104_S1x1024x4104_1_2 w) bitsLt_bf16_f32) slices_S1x1024x4104_S1x1024x8_0_0_3584⟩,
     ⟨S1x1024x120, (broadcastInDim S1x1024x120 ![] bcast_S_S1x1024x120 (constant (F := Ideal) S_ .bf16 0x0000#16 : (⟨S_, .bf16⟩ : BufTy).Contents (Elt Ideal))
        : (⟨S1x1024x120, .bf16⟩ : BufTy).Contents (Elt Ideal))⟩]
    concatenates_S1x1024x512_S1x1024x8_S1x1024x120_S1x1024x640_d2

theorem V_tail (c : Dev nD) : V m c main_v5 = tailOf (m (c, main_arg2)) := by
  unfold tailOf
  after_reads_simp
  rfl

theorem tail_at (f : (⟨S1x1024x640, .bf16⟩ : BufTy).Contents (Elt Ideal)) (t : Fin cfg0.N) (l : Fin 1024) (k : Fin 640) :
    ((cfg0.win 3).blk t).view.read (Elt Ideal) f (ix3 0 l k) = f (ix3 0 l k) := by
  blk_point [idx t]

theorem tail_lo (w : (⟨S1024x4104, .f32⟩ : BufTy).Contents (Elt Ideal)) (l : Fin 1024) (k : Fin 512) :
    tailOf w (ix3 0 l ⟨k, by omega⟩) = w (ix2 l ⟨3592 + k, by omega⟩) := by
  unfold tailOf
  pointwise

theorem tail_mid (w : (⟨S1024x4104, .f32⟩ : BufTy).Contents (Elt Ideal)) (l : Fin 1024) (k : Fin 8) :
    tailOf w (ix3 0 l ⟨512 + k, by omega⟩) = w (ix2 l ⟨3584 + k, by omega⟩) := by
  unfold tailOf
  pointwise

theorem tail_hi (w : (⟨S1024x4104, .f32⟩ : BufTy).Contents (Elt Ideal)) (l : Fin 1024) (k : Fin 120) :
    tailOf w (ix3 0 l ⟨520 + k, by omega⟩) = 0 := by
  unfold tailOf
  pointwise
  rw [dif_neg (by omega), dif_neg (by omega)]

theorem rd3 (c : Dev nD) (t : Fin cfg0.N) (l : Fin 1024) (k : Fin 640) :
    iblk m c 3 t (ix3 0 l k) = tailOf (m (c, main_arg2)) (ix3 0 l k) :=
  (tail_at (V m c main_v5) t l k).trans (congrFun (V_tail m c) _)

/-- The result of window 4 as one function of the arguments. -/
def G4 (c : Dev nD) : S16384x2048.Idx → EReal := fun i => at_ m c (i 0) ⟨(i 1).val, by have h : (i 1).val < 2048 := (i 1).isLt; omega⟩

theorem emb4 (f : S16384x2048.Idx → EReal) (t : Fin cfg0.N) (r : Fin 512) (j : Fin 2048) :
    f (((View.whole main_v7_0).slice (win0_4.rect t)).emb (ix2 r j)) = f (ix2 (row t r) j) := by
  unfold row
  blk_point [idx t]

theorem arr4 (c : Dev nD) : (dats m 0 c).arrAt 4 cfg0.N = G4 m c := by
  refine (dats m 0 c).arrAt_eq_of_covers 4 _ (by decide +kernel) fun t hf y => ?_
  blk_simp
  rw [after0_4]
  unfold_out out0_4
  frame_out
  obtain ⟨r, j, rfl⟩ : ∃ r j, y = ix2 (n0 := 512) (n1 := 2048) r j := ⟨_, _, eq_ix2 y⟩
  rw [at4, emb4 (G4 m c)]
  simp only [rd0, rd1, rd2]
  rfl

/-- The result of window 5 as one function of the arguments. -/
def G5 (c : Dev nD) : S16384x1024.Idx → EReal := fun i => at_ m c (i 0) ⟨2560 + (i 1).val, by have h : (i 1).val < 1024 := (i 1).isLt; omega⟩

theorem emb5 (f : S16384x1024.Idx → EReal) (t : Fin cfg0.N) (r : Fin 512) (j : Fin 1024) :
    f (((View.whole main_v7_1).slice (win0_5.rect t)).emb (ix2 r j)) = f (ix2 (row t r) j) := by
  unfold row
  blk_point [idx t]

theorem arr5 (c : Dev nD) : (dats m 0 c).arrAt 5 cfg0.N = G5 m c := by
  refine (dats m 0 c).arrAt_eq_of_covers 5 _ (by decide +kernel) fun t hf y => ?_
  blk_simp
  rw [after0_5]
  unfold_out out0_5
  frame_out
  obtain ⟨r, j, rfl⟩ : ∃ r j, y = ix2 (n0 := 512) (n1 := 1024) r j := ⟨_, _, eq_ix2 y⟩
  rw [at5, emb5 (G5 m c)]
  simp only [rd0, rd1, rd2]
  rfl

/-- The result of window 6 as one function of the arguments. -/
def G6 (c : Dev nD) : S16384x512.Idx → EReal := fun i => at_ m c (i 0) ⟨2048 + (i 1).val, by have h : (i 1).val < 512 := (i 1).isLt; omega⟩

theorem emb6 (f : S16384x512.Idx → EReal) (t : Fin cfg0.N) (r : Fin 512) (j : Fin 512) :
    f (((View.whole main_v7_2).slice (win0_6.rect t)).emb (ix2 r j)) = f (ix2 (row t r) j) := by
  unfold row
  blk_point [idx t]

theorem arr6 (c : Dev nD) : (dats m 0 c).arrAt 6 cfg0.N = G6 m c := by
  refine (dats m 0 c).arrAt_eq_of_covers 6 _ (by decide +kernel) fun t hf y => ?_
  blk_simp
  rw [after0_6]
  unfold_out out0_6
  frame_out
  obtain ⟨r, j, rfl⟩ : ∃ r j, y = ix2 (n0 := 512) (n1 := 512) r j := ⟨_, _, eq_ix2 y⟩
  rw [at6, emb6 (G6 m c)]
  simp only [rd0, rd1, rd2]
  rfl

/-- The result of window 7 as one function of the arguments. -/
def G7 (c : Dev nD) : S4x16384x128.Idx → EReal := fun i => at_ m c (i 1) ⟨3592 + ((i 0).val * 128 + (i 2).val), by
  have h : (i 0).val < 4 := (i 0).isLt; have h' : (i 2).val < 128 := (i 2).isLt; omega⟩

theorem emb7 (f : S4x16384x128.Idx → EReal) (t : Fin cfg0.N) (q : Fin 4) (r : Fin 512) (j : Fin 128) :
    f (((View.whole main_v7_3).slice (win0_7.rect t)).emb (ix3 q r j)) = f (ix3 q (row t r) j) := by
  unfold row
  blk_point [idx t]

theorem arr7 (c : Dev nD) : (dats m 0 c).arrAt 7 cfg0.N = G7 m c := by
  refine (dats m 0 c).arrAt_eq_of_covers 7 _ (by decide +kernel) fun t hf y => ?_
  blk_simp
  rw [after0_7]
  obtain ⟨q, r, j, rfl⟩ : ∃ q r j, y = ix3 (n0 := 4) (n1 := 512) (n2 := 128) q r j := ⟨_, _, _, eq_ix3 y⟩
  rw [at7, emb7 (G7 m c)]
  simp only [rd0, rd1, rd3]
  exact congrArg _ (funext fun l => tail_lo (m (c, main_arg2)) l ⟨q.val * 128 + j.val, by omega⟩)

/-- The result of window 8 as one function of the arguments. -/
def G8 (c : Dev nD) : S16384x128.Idx → EReal := fun i =>
  if h : (i 1).val < 8 then at_ m c (i 0) ⟨3584 + (i 1).val, by omega⟩ else 0

theorem emb8 (f : S16384x128.Idx → EReal) (t : Fin cfg0.N) (r : Fin 512) (j : Fin 128) :
    f (((View.whole main_v7_4).slice (win0_8.rect t)).emb (ix2 r j)) = f (ix2 (row t r) j) := by
  unfold row
  blk_point [idx t]

theorem arr8 (c : Dev nD) : (dats m 0 c).arrAt 8 cfg0.N = G8 m c := by
  refine (dats m 0 c).arrAt_eq_of_covers 8 _ (by decide +kernel) fun t hf y => ?_
  blk_simp
  rw [after0_8]
  unfold_out out0_8
  frame_out
  obtain ⟨r, j, rfl⟩ : ∃ r j, y = ix2 (n0 := 512) (n1 := 128) r j := ⟨_, _, eq_ix2 y⟩
  rw [at8, emb8 (G8 m c)]
  simp only [rd0, rd1, rd3]
  by_cases h : j.val < 8
  · refine Eq.trans ?_ (dif_pos h).symm
    exact congrArg _ (funext fun l => tail_mid (m (c, main_arg2)) l ⟨j.val, h⟩)
  · refine Eq.trans ?_ (dif_neg h).symm
    refine Eq.trans (congrArg _ (funext fun l => ?_)) (lin_zero _ _)
    have e : (⟨512 + j.val, by omega⟩ : Fin 640) = ⟨520 + (j.val - 8), by omega⟩ := Fin.ext (by
      show 512 + j.val = 520 + (j.val - 8); omega)
    rw [e]
    exact tail_hi (m (c, main_arg2)) l ⟨j.val - 8, by omega⟩

end Cert.Inp

end
-- ==== Proof.Inp.Ref.lean ====
/- What the reference of the input projection call computes, row by row. -/
module

public import proofs.«01_k».proof.Proof.Inp.Row
public import proofs.«01_k».proof.Proof.Gen.Reference4Ideal.Read

@[expose] public section

set_option maxRecDepth 16384

noncomputable section

namespace Cert.Inp.Ref

open Idealize.ShloMosaic Cert.Ffn Cert.Reference4Ideal Cert.Reference4Ideal.Read

variable (x0 : (⟨S16384x1024, .f32⟩ : BufTy).Contents (Elt Ideal)) (x1 : (⟨S6x1024, .f32⟩ : BufTy).Contents (Elt Ideal))
  (x2 : (⟨S1024x4104, .f32⟩ : BufTy).Contents (Elt Ideal))

theorem norm_apply (n : Fin 16384) (l : Fin 1024) :
    val_main_v14 x0 x1 (ix2 n l) = rms (fun l => x0 (ix2 n l)) (fun l => x1 (ix2 2 l)) l := by
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise
  rfl

theorem lin_apply (n : Fin 16384) (k : Fin 4104) :
    val_main_v15 x0 x1 x2 (ix2 n k) = lin (fun l => x0 (ix2 n l)) (fun l => x1 (ix2 2 l)) fun l => x2 (ix2 l k) := by
  unfold val_main_v15 lin
  simp only [← norm_apply x0 x1]
  generalize val_main_v14 x0 x1 = y
  pointwise

theorem v20_apply (n : Fin 16384) (j : Fin 2048) :
    val_main_v20 x0 x1 x2 (ix2 n j) = val_main_v15 x0 x1 x2 (ix2 n ⟨j, by omega⟩) := by
  unfold val_main_v20
  generalize val_main_v15 x0 x1 x2 = y
  pointwise

theorem v21_apply (n : Fin 16384) (j : Fin 1024) :
    val_main_v21 x0 x1 x2 (ix2 n j) = val_main_v15 x0 x1 x2 (ix2 n ⟨2560 + j, by omega⟩) := by
  unfold val_main_v21
  generalize val_main_v15 x0 x1 x2 = y
  pointwise

theorem v22_apply (n : Fin 16384) (j : Fin 512) :
    val_main_v22 x0 x1 x2 (ix2 n j) = val_main_v15 x0 x1 x2 (ix2 n ⟨2048 + j, by omega⟩) := by
  unfold val_main_v22
  generalize val_main_v15 x0 x1 x2 = y
  pointwise

theorem v19_apply (q : Fin 4) (n : Fin 16384) (j : Fin 128) :
    val_main_v19 x0 x1 x2 (ix3 q n j) = val_main_v15 x0 x1 x2 (ix2 n ⟨3592 + (q.val * 128 + j.val), by omega⟩) := by
  unfold val_main_v19 val_main_v18 val_main_v17
  generalize val_main_v15 x0 x1 x2 = y
  pointwise

theorem v24_apply (n : Fin 16384) (j : Fin 128) : val_main_v24 x0 x1 x2 (ix2 n j)
    = if h : j.val < 8 then val_main_v15 x0 x1 x2 (ix2 n ⟨3584 + j.val, by omega⟩) else 0 := by
  unfold val_main_v24 val_main_v23 val_main_v16 val_main_cst_2
  generalize val_main_v15 x0 x1 x2 = y
  pointwise

end Cert.Inp.Ref

end
-- ==== Proof.Inp.Claim.lean ====
/- The claims about the input projection call. -/
module

public import proofs.«01_k».proof.Defs
public import proofs.«01_k».proof.Proof.Inp.Arr
public import proofs.«01_k».proof.Proof.Inp.Ref
public import proofs.«01_k».proof.Proof.Gen.Kernel4Ideal
public import proofs.«01_k».proof.Proof.Gen.Reference4Ideal

@[expose] public section

set_option maxRecDepth 16384

noncomputable section

namespace Cert.Inp

open Idealize.ShloMosaic Idealize.ShloMosaic.TcCoe Idealize.SL.Sem

/-- The reference declares no semaphore, so every family of counters is the zero one. -/
theorem no_counter (f : GSem Cert.Reference4Ideal.nD Cert.Reference4Ideal.τ Cert.Reference4Ideal.sig → Int) : f = fun _ => 0 := by
  funext g
  rcases g with ⟨_, s | s⟩
  · exact s.elim0
  · exact s.elim0

theorem ref_frame : Cert.quiescent_Reference4Ideal := fun m ρ _ =>
  (θ_run _ _ _).mono (fun r h => ⟨fun c => (h c).2.2.2.2.2, no_counter r.2.sem⟩) (Cert.Reference4Ideal.Value.run m ρ)

variable (m : (ℓ : Loc Cert.Kernel4Ideal.nD Cert.Kernel4Ideal.τ Cert.Kernel4Ideal.sig) → Buf (Elt Ideal) ℓ)
  (c : Dev Cert.Kernel4Ideal.nD)

theorem same4 : Cert.Reference4Ideal.Read.val_main_v20 (F := Ideal) (m (c, Cert.Kernel4Ideal.main_arg0)) (m (c, Cert.Kernel4Ideal.main_arg1)) (m (c, Cert.Kernel4Ideal.main_arg2)) = G4 m c := by
  funext i
  obtain ⟨n, j, rfl⟩ : ∃ n j, i = ix2 (n0 := 16384) (n1 := 2048) n j := ⟨_, _, eq_ix2 i⟩
  rw [Ref.v20_apply, Ref.lin_apply]
  rfl

theorem same5 : Cert.Reference4Ideal.Read.val_main_v21 (F := Ideal) (m (c, Cert.Kernel4Ideal.main_arg0)) (m (c, Cert.Kernel4Ideal.main_arg1)) (m (c, Cert.Kernel4Ideal.main_arg2)) = G5 m c := by
  funext i
  obtain ⟨n, j, rfl⟩ : ∃ n j, i = ix2 (n0 := 16384) (n1 := 1024) n j := ⟨_, _, eq_ix2 i⟩
  rw [Ref.v21_apply, Ref.lin_apply]
  rfl

theorem same6 : Cert.Reference4Ideal.Read.val_main_v22 (F := Ideal) (m (c, Cert.Kernel4Ideal.main_arg0)) (m (c, Cert.Kernel4Ideal.main_arg1)) (m (c, Cert.Kernel4Ideal.main_arg2)) = G6 m c := by
  funext i
  obtain ⟨n, j, rfl⟩ : ∃ n j, i = ix2 (n0 := 16384) (n1 := 512) n j := ⟨_, _, eq_ix2 i⟩
  rw [Ref.v22_apply, Ref.lin_apply]
  rfl

theorem same7 : Cert.Reference4Ideal.Read.val_main_v19 (F := Ideal) (m (c, Cert.Kernel4Ideal.main_arg0)) (m (c, Cert.Kernel4Ideal.main_arg1)) (m (c, Cert.Kernel4Ideal.main_arg2)) = G7 m c := by
  funext i
  obtain ⟨q, n, j, rfl⟩ : ∃ q n j, i = ix3 (n0 := 4) (n1 := 16384) (n2 := 128) q n j := ⟨_, _, _, eq_ix3 i⟩
  rw [Ref.v19_apply, Ref.lin_apply]
  rfl

theorem same8 : Cert.Reference4Ideal.Read.val_main_v24 (F := Ideal) (m (c, Cert.Kernel4Ideal.main_arg0)) (m (c, Cert.Kernel4Ideal.main_arg1)) (m (c, Cert.Kernel4Ideal.main_arg2)) = G8 m c := by
  funext i
  obtain ⟨n, j, rfl⟩ : ∃ n j, i = ix2 (n0 := 16384) (n1 := 128) n j := ⟨_, _, eq_ix2 i⟩
  rw [Ref.v24_apply]
  simp only [Ref.lin_apply]
  rfl

theorem value : Cert.algebraic_Kernel4Ideal_Reference4Ideal := by
  intro m g m' g' _ hm
  refine ⟨fun c => G4 m c, fun c => G5 m c, fun c => G6 m c, fun c => G7 m c, fun c => G8 m c, ?_, ?_⟩
  · refine (θ_run _ _ _).mono (fun r h c => ?_) (Cert.Kernel4Ideal.Value.run_blocks m g)
    obtain ⟨e4, e5, e6, e7, e8, k⟩ := h c
    exact ⟨e4.trans (arr4 m c), e5.trans (arr5 m c), e6.trans (arr6 m c), e7.trans (arr7 m c), e8.trans (arr8 m c), k⟩
  · refine (θ_run _ _ _).mono (fun r h c => ?_) (Cert.Reference4Ideal.Value.run m' g')
    obtain ⟨e4, e5, e6, e7, e8, k⟩ := h c
    obtain ⟨h0, h1, h2⟩ := hm c
    refine ⟨e4.trans ?_, e5.trans ?_, e6.trans ?_, e7.trans ?_, e8.trans ?_, k⟩
    · rw [Cert.Reference4Ideal.Read.val_main_v20_eq, h0, h1, h2]
      exact same4 m c
    · rw [Cert.Reference4Ideal.Read.val_main_v21_eq, h0, h1, h2]
      exact same5 m c
    · rw [Cert.Reference4Ideal.Read.val_main_v22_eq, h0, h1, h2]
      exact same6 m c
    · rw [Cert.Reference4Ideal.Read.val_main_v19_eq, h0, h1, h2]
      exact same7 m c
    · rw [Cert.Reference4Ideal.Read.val_main_v24_eq, h0, h1, h2]
      exact same8 m c

end Cert.Inp

end
-- ==== Proof.lean ====
/- The certificate's claims, put together from the modules of the four calls. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.S5.Frame
public import proofs.«01_k».proof.Proof.S5.Text
public import proofs.«01_k».proof.Proof.S5.RefFrame
public import proofs.«01_k».proof.Proof.S5.Claim
public import proofs.«01_k».proof.Proof.Ffn.Claim
public import proofs.«01_k».proof.Proof.Out.Claim
public import proofs.«01_k».proof.Proof.Inp.Claim
public import Idealize.ShloMosaic.Adequacy
public import Idealize.ShloMosaic.Init

@[expose] public section

noncomputable section

namespace Cert.Proof

open Idealize.ShloMosaic Idealize.SL.Sem Cert.Kernel

set_option maxRecDepth 10000 in
theorem frame_kernel : Cert.quiescent_Kernel := fun m ρ _ =>
  Cert.S5.run_of_eq Cert.S5.same_defs Cert.S5.same_main (Cert.S5.frame (F := Bits) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.S5.pre_facts,
    frame_kernel, fun m ρ _ => Cert.S5.frame (F := Ideal) m ρ, fun m ρ _ => Cert.S5.frame (F := Ideal) m ρ,
    fun m ρ _ => Cert.S5.ref_frame m ρ, fun m ρ _ => Cert.S5.ref_frame m ρ,
    fun m ρ _ => Cert.Kernel2.Gen.frame m ρ, fun m ρ _ => Cert.Kernel2Ideal.Gen.frame m ρ, Cert.Ffn.ref_frame,
    fun m ρ _ => Cert.Kernel3.Gen.frame m ρ, fun m ρ _ => Cert.Kernel3Ideal.Gen.frame m ρ, Cert.Out.ref_frame,
    fun m ρ _ => Cert.Kernel4.Gen.frame m ρ, fun m ρ _ => Cert.Kernel4Ideal.Gen.frame m ρ, Cert.Inp.ref_frame,
    trivial, Cert.S5.value,
    trivial, Cert.Ffn.value, trivial, Cert.Out.value, trivial, Cert.Inp.value⟩

end Cert.Proof
